-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_scores [hPre_finite_scores : Cert.Pre_finite_scores.Facts] (m : (ℓ : Loc Cert.KernelIdeal.nD Cert.KernelIdeal.τ Cert.KernelIdeal.sig) → Buf (Elt Ideal) ℓ) : Prop :=
  ∀ c : Dev Cert.KernelIdeal.nD,
    (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_scores [hPre_finite_scores : Cert.Pre_finite_scores.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_KernelIdeal_pre_finite_scores [hKernelIdeal : Cert.KernelIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_scores m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_finite_scores [hReferenceIdeal : Cert.ReferenceIdeal.Facts] [hPre_finite_scores : Cert.Pre_finite_scores.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_scores m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8)
      ∧ r.2.mem ((c.tc : Thread Cert.Kernel3.nD Cert.Kernel3.τ).loc Cert.Kernel3.main_arg9) = m ((c.tc : Thread Cert.Kernel3.nD Cert.Kernel3.τ).loc Cert.Kernel3.main_arg9))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
      ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8)
      ∧ r.2.mem ((c.tc : Thread Cert.Reference3Ideal.nD Cert.Reference3Ideal.τ).loc Cert.Reference3Ideal.main_arg9) = m ((c.tc : Thread Cert.Reference3Ideal.nD Cert.Reference3Ideal.τ).loc Cert.Reference3Ideal.main_arg9))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6)
      ∧ r.2.mem ((c.tc : Thread Cert.Kernel4.nD Cert.Kernel4.τ).loc Cert.Kernel4.main_arg7) = m ((c.tc : Thread Cert.Kernel4.nD Cert.Kernel4.τ).loc Cert.Kernel4.main_arg7)
      ∧ r.2.mem ((c.tc : Thread Cert.Kernel4.nD Cert.Kernel4.τ).loc Cert.Kernel4.main_arg8) = m ((c.tc : Thread Cert.Kernel4.nD Cert.Kernel4.τ).loc Cert.Kernel4.main_arg8)
      ∧ r.2.mem ((c.tc : Thread Cert.Kernel4.nD Cert.Kernel4.τ).loc Cert.Kernel4.main_arg9) = m ((c.tc : Thread Cert.Kernel4.nD Cert.Kernel4.τ).loc Cert.Kernel4.main_arg9))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
      ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
      ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7)
      ∧ r.2.mem ((c.tc : Thread Cert.Reference4Ideal.nD Cert.Reference4Ideal.τ).loc Cert.Reference4Ideal.main_arg8) = m ((c.tc : Thread Cert.Reference4Ideal.nD Cert.Reference4Ideal.τ).loc Cert.Reference4Ideal.main_arg8)
      ∧ r.2.mem ((c.tc : Thread Cert.Reference4Ideal.nD Cert.Reference4Ideal.τ).loc Cert.Reference4Ideal.main_arg9) = m ((c.tc : Thread Cert.Reference4Ideal.nD Cert.Reference4Ideal.τ).loc Cert.Reference4Ideal.main_arg9))
      ∧ r.2.sem = fun _ => 0)

def preserves_Kernel_KernelIdeal : Prop :=
  IdealRules.named_const.Statement Cert.KernelIdeal.κ "q_scale" .f32 0x3E38AA3B#32 (((8 * (Real.log 2))⁻¹ : ℝ) : EReal)

def algebraic_KernelIdeal_ReferenceIdeal_pre_finite_scores [hKernelIdeal : Cert.KernelIdeal.Facts] [hReferenceIdeal : Cert.ReferenceIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_scores m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v41)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v41) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v23) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)) →
    ∃ (v0 : (c : Dev Cert.Kernel2Ideal.nD) → Buf (Elt Ideal) ((c.tc : Thread Cert.Kernel2Ideal.nD Cert.Kernel2Ideal.τ).loc Cert.Kernel2Ideal.main_v12)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v12) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v58) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
      ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)
      ∧ m' ((c.tc : Thread Cert.Reference3Ideal.nD Cert.Reference3Ideal.τ).loc Cert.Reference3Ideal.main_arg9) = m ((c.tc : Thread Cert.Kernel3Ideal.nD Cert.Kernel3Ideal.τ).loc Cert.Kernel3Ideal.main_arg9)) →
    ∃ (v0 : (c : Dev Cert.Kernel3Ideal.nD) → Buf (Elt Ideal) ((c.tc : Thread Cert.Kernel3Ideal.nD Cert.Kernel3Ideal.τ).loc Cert.Kernel3Ideal.main_v16_0)) (v1 : (c : Dev Cert.Kernel3Ideal.nD) → Buf (Elt Ideal) ((c.tc : Thread Cert.Kernel3Ideal.nD Cert.Kernel3Ideal.τ).loc Cert.Kernel3Ideal.main_v16_1)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v16_0) = v0 c
          ∧ r.2.mem ((c.tc : Thread Cert.Kernel3Ideal.nD Cert.Kernel3Ideal.τ).loc Cert.Kernel3Ideal.main_v16_1) = v1 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
          ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
          ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v66) = v0 c
          ∧ r.2.mem ((c.tc : Thread Cert.Reference3Ideal.nD Cert.Reference3Ideal.τ).loc Cert.Reference3Ideal.main_v68) = v1 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7)
          ∧ r.2.mem ((c.tc : Thread Cert.Reference3Ideal.nD Cert.Reference3Ideal.τ).loc Cert.Reference3Ideal.main_arg8) = m' ((c.tc : Thread Cert.Reference3Ideal.nD Cert.Reference3Ideal.τ).loc Cert.Reference3Ideal.main_arg8)
          ∧ r.2.mem ((c.tc : Thread Cert.Reference3Ideal.nD Cert.Reference3Ideal.τ).loc Cert.Reference3Ideal.main_arg9) = m' ((c.tc : Thread Cert.Reference3Ideal.nD Cert.Reference3Ideal.τ).loc Cert.Reference3Ideal.main_arg9))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)
      ∧ m' ((c.tc : Thread Cert.Reference4Ideal.nD Cert.Reference4Ideal.τ).loc Cert.Reference4Ideal.main_arg7) = m ((c.tc : Thread Cert.Kernel4Ideal.nD Cert.Kernel4Ideal.τ).loc Cert.Kernel4Ideal.main_arg7)
      ∧ m' ((c.tc : Thread Cert.Reference4Ideal.nD Cert.Reference4Ideal.τ).loc Cert.Reference4Ideal.main_arg8) = m ((c.tc : Thread Cert.Kernel4Ideal.nD Cert.Kernel4Ideal.τ).loc Cert.Kernel4Ideal.main_arg8)
      ∧ m' ((c.tc : Thread Cert.Reference4Ideal.nD Cert.Reference4Ideal.τ).loc Cert.Reference4Ideal.main_arg9) = m ((c.tc : Thread Cert.Kernel4Ideal.nD Cert.Kernel4Ideal.τ).loc Cert.Kernel4Ideal.main_arg9)) →
    ∃ (v0 : (c : Dev Cert.Kernel4Ideal.nD) → Buf (Elt Ideal) ((c.tc : Thread Cert.Kernel4Ideal.nD Cert.Kernel4Ideal.τ).loc Cert.Kernel4Ideal.main_v77_0)) (v1 : (c : Dev Cert.Kernel4Ideal.nD) → Buf (Elt Ideal) ((c.tc : Thread Cert.Kernel4Ideal.nD Cert.Kernel4Ideal.τ).loc Cert.Kernel4Ideal.main_v77_1)) (v2 : (c : Dev Cert.Kernel4Ideal.nD) → Buf (Elt Ideal) ((c.tc : Thread Cert.Kernel4Ideal.nD Cert.Kernel4Ideal.τ).loc Cert.Kernel4Ideal.main_v77_2)) (v3 : (c : Dev Cert.Kernel4Ideal.nD) → Buf (Elt Ideal) ((c.tc : Thread Cert.Kernel4Ideal.nD Cert.Kernel4Ideal.τ).loc Cert.Kernel4Ideal.main_v77_3)) (v4 : (c : Dev Cert.Kernel4Ideal.nD) → Buf (Elt Ideal) ((c.tc : Thread Cert.Kernel4Ideal.nD Cert.Kernel4Ideal.τ).loc Cert.Kernel4Ideal.main_v77_4)) (v5 : (c : Dev Cert.Kernel4Ideal.nD) → Buf (Elt Ideal) ((c.tc : Thread Cert.Kernel4Ideal.nD Cert.Kernel4Ideal.τ).loc Cert.Kernel4Ideal.main_v77_5)) (v6 : (c : Dev Cert.Kernel4Ideal.nD) → Buf (Elt Ideal) ((c.tc : Thread Cert.Kernel4Ideal.nD Cert.Kernel4Ideal.τ).loc Cert.Kernel4Ideal.main_v77_8)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v77_0) = v0 c
          ∧ r.2.mem ((c.tc : Thread Cert.Kernel4Ideal.nD Cert.Kernel4Ideal.τ).loc Cert.Kernel4Ideal.main_v77_1) = v1 c
          ∧ r.2.mem ((c.tc : Thread Cert.Kernel4Ideal.nD Cert.Kernel4Ideal.τ).loc Cert.Kernel4Ideal.main_v77_2) = v2 c
          ∧ r.2.mem ((c.tc : Thread Cert.Kernel4Ideal.nD Cert.Kernel4Ideal.τ).loc Cert.Kernel4Ideal.main_v77_3) = v3 c
          ∧ r.2.mem ((c.tc : Thread Cert.Kernel4Ideal.nD Cert.Kernel4Ideal.τ).loc Cert.Kernel4Ideal.main_v77_4) = v4 c
          ∧ r.2.mem ((c.tc : Thread Cert.Kernel4Ideal.nD Cert.Kernel4Ideal.τ).loc Cert.Kernel4Ideal.main_v77_5) = v5 c
          ∧ r.2.mem ((c.tc : Thread Cert.Kernel4Ideal.nD Cert.Kernel4Ideal.τ).loc Cert.Kernel4Ideal.main_v77_8) = v6 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
          ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
          ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
          ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v155) = v0 c
          ∧ r.2.mem ((c.tc : Thread Cert.Reference4Ideal.nD Cert.Reference4Ideal.τ).loc Cert.Reference4Ideal.main_v158) = v1 c
          ∧ r.2.mem ((c.tc : Thread Cert.Reference4Ideal.nD Cert.Reference4Ideal.τ).loc Cert.Reference4Ideal.main_v159) = v2 c
          ∧ r.2.mem ((c.tc : Thread Cert.Reference4Ideal.nD Cert.Reference4Ideal.τ).loc Cert.Reference4Ideal.main_v162) = v3 c
          ∧ r.2.mem ((c.tc : Thread Cert.Reference4Ideal.nD Cert.Reference4Ideal.τ).loc Cert.Reference4Ideal.main_v163) = v4 c
          ∧ r.2.mem ((c.tc : Thread Cert.Reference4Ideal.nD Cert.Reference4Ideal.τ).loc Cert.Reference4Ideal.main_v165) = v5 c
          ∧ r.2.mem ((c.tc : Thread Cert.Reference4Ideal.nD Cert.Reference4Ideal.τ).loc Cert.Reference4Ideal.main_v167) = v6 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6)
          ∧ r.2.mem ((c.tc : Thread Cert.Reference4Ideal.nD Cert.Reference4Ideal.τ).loc Cert.Reference4Ideal.main_arg7) = m' ((c.tc : Thread Cert.Reference4Ideal.nD Cert.Reference4Ideal.τ).loc Cert.Reference4Ideal.main_arg7)
          ∧ r.2.mem ((c.tc : Thread Cert.Reference4Ideal.nD Cert.Reference4Ideal.τ).loc Cert.Reference4Ideal.main_arg8) = m' ((c.tc : Thread Cert.Reference4Ideal.nD Cert.Reference4Ideal.τ).loc Cert.Reference4Ideal.main_arg8)
          ∧ r.2.mem ((c.tc : Thread Cert.Reference4Ideal.nD Cert.Reference4Ideal.τ).loc Cert.Reference4Ideal.main_arg9) = m' ((c.tc : Thread Cert.Reference4Ideal.nD Cert.Reference4Ideal.τ).loc Cert.Reference4Ideal.main_arg9))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hPre_finite_scores : Cert.Pre_finite_scores.Facts),
    quiescent_Kernel (hKernel := hKernel)
    ∧ quiescent_KernelIdeal (hKernelIdeal := hKernelIdeal)
    ∧ quiescent_KernelIdeal_pre_finite_scores (hKernelIdeal := hKernelIdeal) (hPre_finite_scores := hPre_finite_scores)
    ∧ quiescent_ReferenceIdeal (hReferenceIdeal := hReferenceIdeal)
    ∧ quiescent_ReferenceIdeal_pre_finite_scores (hReferenceIdeal := hReferenceIdeal) (hPre_finite_scores := hPre_finite_scores)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ preserves_Kernel_KernelIdeal
    ∧ algebraic_KernelIdeal_ReferenceIdeal_pre_finite_scores (hKernelIdeal := hKernelIdeal) (hReferenceIdeal := hReferenceIdeal) (hPre_finite_scores := hPre_finite_scores)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
-- ==== Pre_finite_scores.lean ====
abbrev S2x8192x512 : Shape := ⟨3, ![2, 8192, 512]⟩
abbrev S2x8192x128 : Shape := ⟨3, ![2, 8192, 128]⟩
abbrev S2x256x128 : Shape := ⟨3, ![2, 256, 128]⟩
abbrev S64 : Shape := ⟨1, ![64]⟩
abbrev S_ : Shape := ⟨0, ![]⟩

class Facts : Prop where
  bcast_S_S2x8192x512 : S_.BroadcastsInDim S2x8192x512 (![] : Fin 0 → Fin S2x8192x512.rank)
  reducesTo_S2x8192x512_S_d0_1_2 : S2x8192x512.ReducesTo [0, 1, 2] S_
  h_S_ : 0 < S_.numel
  bcast_S_S2x8192x128 : S_.BroadcastsInDim S2x8192x128 (![] : Fin 0 → Fin S2x8192x128.rank)
  reducesTo_S2x8192x128_S_d0_1_2 : S2x8192x128.ReducesTo [0, 1, 2] S_
  bcast_S_S2x256x128 : S_.BroadcastsInDim S2x256x128 (![] : Fin 0 → Fin S2x256x128.rank)
  reducesTo_S2x256x128_S_d0_1_2 : S2x256x128.ReducesTo [0, 1, 2] S_

variable [Facts]

def fn {F : FTy → Type} [FloatOps F] (main_arg0 : FVec F S2x8192x512 .f32) (main_arg1 : FVec F S2x8192x128 .f32) (main_arg2 : FVec F S2x8192x128 .f32) (main_arg3 : FVec F S2x256x128 .f32) (main_arg4 : FVec F S2x256x128 .f32) (main_arg5 : FVec F S64 .f32) (main_arg6 : FVec F S64 .f32) : IVec S_ 1 :=
  let main_v0 : FVec F S2x8192x512 .f32 := Host.absf main_arg0
  let main_cst : FVec F S_ .f32 := constant S_ .f32 0x7F800000#32
  let main_v1 : FVec F S2x8192x512 .f32 := broadcastInDim S2x8192x512 ![] bcast_S_S2x8192x512 main_cst
  let main_v2 : IVec S2x8192x512 1 := cmpf .olt main_v0 main_v1
  let main_c : IVec S_ 1 := constantI S_ 1 1#1
  let main_v3 : IVec S_ 1 := (fun x v => Host.reduce IntOp.andi x v reducesTo_S2x8192x512_S_d0_1_2 h_S_) main_v2 main_c
  let main_v4 : FVec F S2x8192x128 .f32 := Host.absf main_arg1
  let main_cst_0 : FVec F S_ .f32 := constant S_ .f32 0x7F800000#32
  let main_v5 : FVec F S2x8192x128 .f32 := broadcastInDim S2x8192x128 ![] bcast_S_S2x8192x128 main_cst_0
  let main_v6 : IVec S2x8192x128 1 := cmpf .olt main_v4 main_v5
  let main_c_1 : IVec S_ 1 := constantI S_ 1 1#1
  let main_v7 : IVec S_ 1 := (fun x v => Host.reduce IntOp.andi x v reducesTo_S2x8192x128_S_d0_1_2 h_S_) main_v6 main_c_1
  let main_v8 : IVec S_ 1 := andi main_v3 main_v7
  let main_v9 : FVec F S2x256x128 .f32 := Host.absf main_arg3
  let main_cst_2 : FVec F S_ .f32 := constant S_ .f32 0x7F800000#32
  let main_v10 : FVec F S2x256x128 .f32 := broadcastInDim S2x256x128 ![] bcast_S_S2x256x128 main_cst_2
  let main_v11 : IVec S2x256x128 1 := cmpf .olt main_v9 main_v10
  let main_c_3 : IVec S_ 1 := constantI S_ 1 1#1
  let main_v12 : IVec S_ 1 := (fun x v => Host.reduce IntOp.andi x v reducesTo_S2x256x128_S_d0_1_2 h_S_) main_v11 main_c_3
  let main_v13 : IVec S_ 1 := andi main_v8 main_v12
  main_v13
-- ==== Kernel.lean ====
abbrev S2x8192x512 : Shape := ⟨3, ![2, 8192, 512]⟩
abbrev S2x8192x128 : Shape := ⟨3, ![2, 8192, 128]⟩
abbrev S2x256x128 : Shape := ⟨3, ![2, 256, 128]⟩
abbrev S64 : Shape := ⟨1, ![64]⟩
abbrev S_ : Shape := ⟨0, ![]⟩
abbrev S1x64 : Shape := ⟨2, ![1, 64]⟩
abbrev S8x64 : Shape := ⟨2, ![8, 64]⟩
abbrev S512 : Shape := ⟨1, ![512]⟩
abbrev S2x64 : Shape := ⟨2, ![2, 64]⟩
abbrev S128 : Shape := ⟨1, ![128]⟩
abbrev S640 : Shape := ⟨1, ![640]⟩
abbrev S1x640 : Shape := ⟨2, ![1, 640]⟩
abbrev S1x512 : Shape := ⟨2, ![1, 512]⟩
abbrev S1x128 : Shape := ⟨2, ![1, 128]⟩
abbrev S16384x512 : Shape := ⟨2, ![16384, 512]⟩
abbrev S2x128x8192 : Shape := ⟨3, ![2, 128, 8192]⟩
abbrev S2x8192x2x64 : Shape := ⟨4, ![2, 8192, 2, 64]⟩
abbrev S2x2x8192x64 : Shape := ⟨4, ![2, 2, 8192, 64]⟩
abbrev S2x2x8192x1 : Shape := ⟨4, ![2, 2, 8192, 1]⟩
abbrev S2x2x8192x63 : Shape := ⟨4, ![2, 2, 8192, 63]⟩
abbrev S2x2x8192x128 : Shape := ⟨4, ![2, 2, 8192, 128]⟩
abbrev S2x128x256 : Shape := ⟨3, ![2, 128, 256]⟩
abbrev S2x256x2x64 : Shape := ⟨4, ![2, 256, 2, 64]⟩
abbrev S2x2x256x64 : Shape := ⟨4, ![2, 2, 256, 64]⟩
abbrev S2x2x256x1 : Shape := ⟨4, ![2, 2, 256, 1]⟩
abbrev S2x2x256x63 : Shape := ⟨4, ![2, 2, 256, 63]⟩
abbrev S2x2x256x128 : Shape := ⟨4, ![2, 2, 256, 128]⟩
abbrev S1 : Shape := ⟨1, ![1]⟩
abbrev S1024x256 : Shape := ⟨2, ![1024, 256]⟩
abbrev S1x64x8192 : Shape := ⟨3, ![1, 64, 8192]⟩
abbrev S1x1x8192x128 : Shape := ⟨4, ![1, 1, 8192, 128]⟩
abbrev S1x64x256 : Shape := ⟨3, ![1, 64, 256]⟩
abbrev S1x1x256x128 : Shape := ⟨4, ![1, 1, 256, 128]⟩
abbrev S4096x64 : Shape := ⟨2, ![4096, 64]⟩
abbrev S4096x1 : Shape := ⟨2, ![4096, 1]⟩
abbrev S4096x128 : Shape := ⟨2, ![4096, 128]⟩
abbrev S1024x64 : Shape := ⟨2, ![1024, 64]⟩
abbrev S1x64x1024 : Shape := ⟨3, ![1, 64, 1024]⟩
abbrev S64x1024 : Shape := ⟨2, ![64, 1024]⟩
abbrev S1x1x1024x128 : Shape := ⟨4, ![1, 1, 1024, 128]⟩
abbrev S1024x128 : Shape := ⟨2, ![1024, 128]⟩
abbrev S4096x1024 : Shape := ⟨2, ![4096, 1024]⟩
abbrev S64x256 : Shape := ⟨2, ![64, 256]⟩
abbrev S256x128 : Shape := ⟨2, ![256, 128]⟩
abbrev S4096x256 : Shape := ⟨2, ![4096, 256]⟩
abbrev S4096 : Shape := ⟨1, ![4096]⟩

abbrev nBuf : Space → Nat
  | .hbm => 58
  | .vmem => 15
  | .smem => 1
  | _ => 0

abbrev bufTy : (tb : Table) → Fin (tcTables nBuf tb) → BufTy
  | .hbm, ⟨0, _⟩ => ⟨S2x8192x512, .f32⟩
  | .hbm, ⟨1, _⟩ => ⟨S2x8192x128, .f32⟩
  | .hbm, ⟨2, _⟩ => ⟨S2x8192x128, .f32⟩
  | .hbm, ⟨3, _⟩ => ⟨S2x256x128, .f32⟩
  | .hbm, ⟨4, _⟩ => ⟨S2x256x128, .f32⟩
  | .hbm, ⟨5, _⟩ => ⟨S64, .f32⟩
  | .hbm, ⟨6, _⟩ => ⟨S64, .f32⟩
  | .hbm, ⟨7, _⟩ => ⟨S_, .f32⟩
  | .hbm, ⟨8, _⟩ => ⟨S64, .f32⟩
  | .hbm, ⟨9, _⟩ => ⟨S64, .f32⟩
  | .hbm, ⟨10, _⟩ => ⟨S1x64, .f32⟩
  | .hbm, ⟨11, _⟩ => ⟨S8x64, .f32⟩
  | .hbm, ⟨12, _⟩ => ⟨S512, .f32⟩
  | .hbm, ⟨13, _⟩ => ⟨S1x64, .f32⟩
  | .hbm, ⟨14, _⟩ => ⟨S2x64, .f32⟩
  | .hbm, ⟨15, _⟩ => ⟨S128, .f32⟩
  | .hbm, ⟨16, _⟩ => ⟨S640, .f32⟩
  | .hbm, ⟨17, _⟩ => ⟨S1x640, .f32⟩
  | .hbm, ⟨18, _⟩ => ⟨S1x512, .f32⟩
  | .hbm, ⟨19, _⟩ => ⟨S512, .f32⟩
  | .hbm, ⟨20, _⟩ => ⟨S512, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S1x128, .f32⟩
  | .hbm, ⟨26, _⟩ => ⟨S128, .f32⟩
  | .hbm, ⟨27, _⟩ => ⟨S128, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S16384x512, .f32⟩
  | .hbm, ⟨32, _⟩ => ⟨S16384x512, .bf16⟩
  | .hbm, ⟨33, _⟩ => ⟨S2x128x8192, .f32⟩
  | .hbm, ⟨34, _⟩ => ⟨S2x128x8192, .bf16⟩
  | .hbm, ⟨35, _⟩ => ⟨S2x8192x2x64, .f32⟩
  | .hbm, ⟨36, _⟩ => ⟨S2x2x8192x64, .f32⟩
  | .hbm, ⟨37, _⟩ => ⟨S_, .f32⟩
  | .hbm, ⟨38, _⟩ => ⟨S2x2x8192x1, .f32⟩
  | .hbm, ⟨39, _⟩ => ⟨S_, .f32⟩
  | .hbm, ⟨40, _⟩ => ⟨S2x2x8192x63, .f32⟩
  | .hbm, ⟨41, _⟩ => ⟨S2x2x8192x128, .f32⟩
  | .hbm, ⟨42, _⟩ => ⟨S2x2x8192x128, .bf16⟩
  | .hbm, ⟨43, _⟩ => ⟨S2x128x256, .f32⟩
  | .hbm, ⟨44, _⟩ => ⟨S2x128x256, .bf16⟩
  | .hbm, ⟨45, _⟩ => ⟨S2x256x2x64, .f32⟩
  | .hbm, ⟨46, _⟩ => ⟨S2x2x256x64, .f32⟩
  | .hbm, ⟨47, _⟩ => ⟨S_, .f32⟩
  | .hbm, ⟨48, _⟩ => ⟨S2x2x256x1, .f32⟩
  | .hbm, ⟨49, _⟩ => ⟨S_, .f32⟩
  | .hbm, ⟨50, _⟩ => ⟨S2x2x256x63, .f32⟩
  | .hbm, ⟨51, _⟩ => ⟨S2x2x256x128, .f32⟩
  | .hbm, ⟨52, _⟩ => ⟨S2x2x256x128, .bf16⟩
  | .hbm, ⟨53, _⟩ => ⟨S_, .f32⟩
  | .hbm, ⟨54, _⟩ => ⟨S_, .i1⟩
  | .hbm, ⟨55, _⟩ => ⟨S_, .i32⟩
  | .hbm, ⟨56, _⟩ => ⟨S1, .i32⟩
  | .hbm, ⟨57, _⟩ => ⟨S16384x512, .bf16⟩
  | .local _ .vmem, ⟨0, _⟩ => ⟨S1024x256, .bf16⟩
  | .local _ .vmem, ⟨1, _⟩ => ⟨S1024x256, .bf16⟩
  | .local _ .vmem, ⟨2, _⟩ => ⟨S1x64x8192, .bf16⟩
  | .local _ .vmem, ⟨3, _⟩ => ⟨S1x64x8192, .bf16⟩
  | .local _ .vmem, ⟨4, _⟩ => ⟨S1x1x8192x128, .bf16⟩
  | .local _ .vmem, ⟨5, _⟩ => ⟨S1x1x8192x128, .bf16⟩
  | .local _ .vmem, ⟨6, _⟩ => ⟨S1x64x256, .bf16⟩
  | .local _ .vmem, ⟨7, _⟩ => ⟨S1x64x256, .bf16⟩
  | .local _ .vmem, ⟨8, _⟩ => ⟨S1x1x256x128, .bf16⟩
  | .local _ .vmem, ⟨9, _⟩ => ⟨S1x1x256x128, .bf16⟩
  | .local _ .vmem, ⟨10, _⟩ => ⟨S1024x256, .bf16⟩
  | .local _ .vmem, ⟨11, _⟩ => ⟨S1024x256, .bf16⟩
  | .local _ .vmem, ⟨12, _⟩ => ⟨S4096x64, .bf16⟩
  | .local _ .vmem, ⟨13, _⟩ => ⟨S4096x1, .f32⟩
  | .local _ .vmem, ⟨14, _⟩ => ⟨S4096x128, .f32⟩
  | .local _ .smem, ⟨0, _⟩ => ⟨S1, .i32⟩
  | _, _ => ⟨S2x8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .smem, ⟨0, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_0 : Ref sig .tc := ⟨.hbm, 21, rfl⟩
abbrev main_v13 : Ref sig .tc := ⟨.hbm, 22, rfl⟩
abbrev main_cst_1 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_2 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_cst_3 : Ref sig .tc := ⟨.hbm, 37, rfl⟩
abbrev main_v26 : Ref sig .tc := ⟨.hbm, 38, rfl⟩
abbrev main_cst_4 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_cst_5 : Ref sig .tc := ⟨.hbm, 47, rfl⟩
abbrev main_v34 : Ref sig .tc := ⟨.hbm, 48, rfl⟩
abbrev main_cst_6 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_cst_7 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_scratch0 : Ref sig .tc := ⟨.vmem, 12, rfl⟩
abbrev cc0_scratch1 : Ref sig .tc := ⟨.vmem, 13, rfl⟩
abbrev cc0_scratch2 : Ref sig .tc := ⟨.vmem, 14, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨3, ![2, 2, 8], ![false, false, false]⟩

@[reducible] def k0_t1_loop : Scf.Loop 32 :=
  let c0_i32_14 : BitVec 32 := 0#32
  let c8_i32 : BitVec 32 := 8#32
  let v34 : BitVec 32 := Scalar.addi c0_i32_14 c8_i32
  let c1_i32 : BitVec 32 := 1#32
  ⟨c0_i32_14, v34, c1_i32⟩
def k0_mult1 (k0_t1 : Fin k0_t1_loop.trips) : BitVec 32 :=
  let c0_i32_14 : BitVec 32 := 0#32
  let c1_i32 : BitVec 32 := 1#32
  let arg13 : BitVec 32 := Scf.iv c0_i32_14 c1_i32 k0_t1
  let c1024_i32 : BitVec 32 := 1024#32
  let v66 : BitVec 32 := Scalar.muli arg13 c1024_i32
  v66
def k0_off1 (k0_t1 : Fin k0_t1_loop.trips) : Fin 3 → Nat :=
  let c0_38 : Index := 0#32
  let c0_39 : Index := 0#32
  let c0_i32_14 : BitVec 32 := 0#32
  let c1_i32 : BitVec 32 := 1#32
  let arg13 : BitVec 32 := Scf.iv c0_i32_14 c1_i32 k0_t1
  let c1024_i32 : BitVec 32 := 1024#32
  let v66 : BitVec 32 := Scalar.muli arg13 c1024_i32
  let v67 : BitVec 32 := v66
  let v68 : Index := Scalar.indexCast v67
  ![0, 0, v68.toNat]
def k0_off2 (k0_t1 : Fin k0_t1_loop.trips) : Fin 4 → Nat :=
  let c0_40 : Index := 0#32
  let c0_41 : Index := 0#32
  let c0_i32_14 : BitVec 32 := 0#32
  let c1_i32 : BitVec 32 := 1#32
  let arg13 : BitVec 32 := Scf.iv c0_i32_14 c1_i32 k0_t1
  let c1024_i32 : BitVec 32 := 1024#32
  let v66 : BitVec 32 := Scalar.muli arg13 c1024_i32
  let v67 : BitVec 32 := v66
  let v71 : Index := Scalar.indexCast v67
  let c0_42 : Index := 0#32
  ![0, 0, v71.toNat, 0]
@[reducible] def k0_t2_loop : Scf.Loop 32 :=
  let c0_i32_17 : BitVec 32 := 0#32
  let c8_i32 : BitVec 32 := 8#32
  let v38 : BitVec 32 := Scalar.addi c0_i32_17 c8_i32
  let c1_i32 : BitVec 32 := 1#32
  ⟨c0_i32_17, v38, c1_i32⟩
def k0_mult2 (k0_t2 : Fin k0_t2_loop.trips) : BitVec 32 :=
  let c0_i32_17 : BitVec 32 := 0#32
  let c1_i32 : BitVec 32 := 1#32
  let arg13 : BitVec 32 := Scf.iv c0_i32_17 c1_i32 k0_t2
  let c1024_i32 : BitVec 32 := 1024#32
  let v83 : BitVec 32 := Scalar.muli arg13 c1024_i32
  v83
def k0_off3 (k0_t2 : Fin k0_t2_loop.trips) : Fin 3 → Nat :=
  let c0_46 : Index := 0#32
  let c0_47 : Index := 0#32
  let c0_i32_17 : BitVec 32 := 0#32
  let c1_i32 : BitVec 32 := 1#32
  let arg13 : BitVec 32 := Scf.iv c0_i32_17 c1_i32 k0_t2
  let c1024_i32 : BitVec 32 := 1024#32
  let v83 : BitVec 32 := Scalar.muli arg13 c1024_i32
  let v84 : BitVec 32 := v83
  let v85 : Index := Scalar.indexCast v84
  ![0, 0, v85.toNat]
def k0_off4 (k0_t2 : Fin k0_t2_loop.trips) : Fin 4 → Nat :=
  let c0_48 : Index := 0#32
  let c0_49 : Index := 0#32
  let c0_i32_17 : BitVec 32 := 0#32
  let c1_i32 : BitVec 32 := 1#32
  let arg13 : BitVec 32 := Scf.iv c0_i32_17 c1_i32 k0_t2
  let c1024_i32 : BitVec 32 := 1024#32
  let v83 : BitVec 32 := Scalar.muli arg13 c1024_i32
  let v84 : BitVec 32 := v83
  let v88 : Index := Scalar.indexCast v84
  let c0_50 : Index := 0#32
  ![0, 0, v88.toNat, 0]
def cc0_transform_0 (i : grid0.Coords) : Fin 1 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg2
  let c0_i32 : BitVec 32 := 0#32
  ![v1.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_3 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_5 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg2
  let c0_i32 : BitVec 32 := 0#32
  ![v1.toNat, arg1.toNat]

abbrev stage0_0 : Fin 1 → Memref sig .tc .smem S1 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false, false]

abbrev stage0_1 : Fin 2 → Memref sig .tc .vmem S1024x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1x64x8192 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x1x8192x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1x64x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1x1x256x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 2 → Memref sig .tc .vmem S1024x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]
-- ==== KernelIdeal.lean ====
variable {F : FTy → Type} [FloatOps F] [Named F]
def κ : String → Option EReal := fun
  | "q_scale" => some (((8 * (Real.log 2))⁻¹ : ℝ) : EReal)
  | _ => none
-- ==== ReferenceIdeal.lean ====
abbrev S2x8192x512 : Shape := ⟨3, ![2, 8192, 512]⟩
abbrev S2x8192x128 : Shape := ⟨3, ![2, 8192, 128]⟩
abbrev S2x256x128 : Shape := ⟨3, ![2, 256, 128]⟩
abbrev S64 : Shape := ⟨1, ![64]⟩
abbrev S2x8448x128 : Shape := ⟨3, ![2, 8448, 128]⟩
abbrev S2x8192x2x4x64 : Shape := ⟨5, ![2, 8192, 2, 4, 64]⟩
abbrev S2x8448x2x64 : Shape := ⟨4, ![2, 8448, 2, 64]⟩
abbrev S2x2x8448x8192x4 : Shape := ⟨5, ![2, 2, 8448, 8192, 4]⟩
abbrev S2x2x4x8192x8448 : Shape := ⟨5, ![2, 2, 4, 8192, 8448]⟩
abbrev S_ : Shape := ⟨0, ![]⟩
abbrev S2x2x4x8192 : Shape := ⟨4, ![2, 2, 4, 8192]⟩
abbrev S2x2x4x8192x1 : Shape := ⟨5, ![2, 2, 4, 8192, 1]⟩
abbrev S2x2x64x4x8192 : Shape := ⟨5, ![2, 2, 64, 4, 8192]⟩
abbrev S16384x512 : Shape := ⟨2, ![16384, 512]⟩

abbrev nBuf : Space → Nat
  | .hbm => 35
  | .vmem => 0
  | .smem => 0
  | _ => 0

abbrev bufTy : (tb : Table) → Fin (tcTables nBuf tb) → BufTy
  | .hbm, ⟨0, _⟩ => ⟨S2x8192x512, .f32⟩
  | .hbm, ⟨1, _⟩ => ⟨S2x8192x128, .f32⟩
  | .hbm, ⟨2, _⟩ => ⟨S2x8192x128, .f32⟩
  | .hbm, ⟨3, _⟩ => ⟨S2x256x128, .f32⟩
  | .hbm, ⟨4, _⟩ => ⟨S2x256x128, .f32⟩
  | .hbm, ⟨5, _⟩ => ⟨S64, .f32⟩
  | .hbm, ⟨6, _⟩ => ⟨S64, .f32⟩
  | .hbm, ⟨7, _⟩ => ⟨S2x8448x128, .f32⟩
  | .hbm, ⟨8, _⟩ => ⟨S2x8448x128, .f32⟩
  | .hbm, ⟨9, _⟩ => ⟨S2x8192x2x4x64, .f32⟩
  | .hbm, ⟨10, _⟩ => ⟨S2x8448x2x64, .f32⟩
  | .hbm, ⟨11, _⟩ => ⟨S2x8448x2x64, .f32⟩
  | .hbm, ⟨12, _⟩ => ⟨S2x2x8448x8192x4, .f32⟩
  | .hbm, ⟨13, _⟩ => ⟨S2x2x4x8192x8448, .f32⟩
  | .hbm, ⟨14, _⟩ => ⟨S_, .f32⟩
  | .hbm, ⟨15, _⟩ => ⟨S2x2x4x8192x8448, .f32⟩
  | .hbm, ⟨16, _⟩ => ⟨S2x2x4x8192x8448, .f32⟩
  | .hbm, ⟨17, _⟩ => ⟨S_, .f32⟩
  | .hbm, ⟨18, _⟩ => ⟨S2x2x4x8192, .f32⟩
  | .hbm, ⟨19, _⟩ => ⟨S_, .f32⟩
  | .hbm, ⟨20, _⟩ => ⟨S2x2x4x8192, .f32⟩
  | .hbm, ⟨21, _⟩ => ⟨S2x2x4x8192, .f32⟩
  | .hbm, ⟨22, _⟩ => ⟨S2x2x4x8192x1, .f32⟩
  | .hbm, ⟨23, _⟩ => ⟨S2x2x4x8192x8448, .f32⟩
  | .hbm, ⟨24, _⟩ => ⟨S2x2x4x8192x8448, .f32⟩
  | .hbm, ⟨25, _⟩ => ⟨S2x2x4x8192x8448, .f32⟩
  | .hbm, ⟨26, _⟩ => ⟨S_, .f32⟩
  | .hbm, ⟨27, _⟩ => ⟨S2x2x4x8192, .f32⟩
  | .hbm, ⟨28, _⟩ => ⟨S2x2x4x8192x1, .f32⟩
  | .hbm, ⟨29, _⟩ => ⟨S2x2x4x8192x8448, .f32⟩
  | .hbm, ⟨30, _⟩ => ⟨S2x2x4x8192x8448, .f32⟩
  | .hbm, ⟨31, _⟩ => ⟨S2x2x64x4x8192, .f32⟩
  | .hbm, ⟨32, _⟩ => ⟨S2x8192x2x4x64, .f32⟩
  | .hbm, ⟨33, _⟩ => ⟨S16384x512, .f32⟩
  | .hbm, ⟨34, _⟩ => ⟨S16384x512, .bf16⟩
  | _, _ => ⟨S2x8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_v8 : Ref sig .tc := ⟨.hbm, 16, rfl⟩
abbrev main_cst_0 : Ref sig .tc := ⟨.hbm, 17, rfl⟩
abbrev main_v9 : Ref sig .tc := ⟨.hbm, 18, rfl⟩
abbrev main_cst_1 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_2 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩

abbrev nD : Nat := 1
abbrev τ : Topo := Topo.v7x

variable {F : FTy → Type} [FloatOps F]
-- ==== Kernel2.lean ====
abbrev S2x8192x1024 : Shape := ⟨3, ![2, 8192, 1024]⟩
abbrev S2x6144 : Shape := ⟨2, ![2, 6144]⟩
abbrev S1024x5632 : Shape := ⟨2, ![1024, 5632]⟩
abbrev S3x5632 : Shape := ⟨2, ![3, 5632]⟩
abbrev S5632 : Shape := ⟨1, ![5632]⟩
abbrev S2816x1024 : Shape := ⟨2, ![2816, 1024]⟩
abbrev S1024 : Shape := ⟨1, ![1024]⟩
abbrev S_ : Shape := ⟨0, ![]⟩
abbrev S6x6144 : Shape := ⟨2, ![6, 6144]⟩
abbrev S8x6144 : Shape := ⟨2, ![8, 6144]⟩
abbrev S8x1x6144 : Shape := ⟨3, ![8, 1, 6144]⟩
abbrev S5x5632 : Shape := ⟨2, ![5, 5632]⟩
abbrev S8x5632 : Shape := ⟨2, ![8, 5632]⟩
abbrev S16384x1024 : Shape := ⟨2, ![16384, 1024]⟩
abbrev S1x1024 : Shape := ⟨2, ![1, 1024]⟩
abbrev S1x5632 : Shape := ⟨2, ![1, 5632]⟩
abbrev S1024x1024 : Shape := ⟨2, ![1024, 1024]⟩
abbrev S16x1024 : Shape := ⟨2, ![16, 1024]⟩
abbrev S1x1x1024 : Shape := ⟨3, ![1, 1, 1024]⟩
abbrev S1056x1024 : Shape := ⟨2, ![1056, 1024]⟩
abbrev S4x1056x256 : Shape := ⟨3, ![4, 1056, 256]⟩
abbrev S2x1024x256 : Shape := ⟨3, ![2, 1024, 256]⟩
abbrev S1024x256 : Shape := ⟨2, ![1024, 256]⟩
abbrev S1056x256 : Shape := ⟨2, ![1056, 256]⟩
abbrev S1x1056x256 : Shape := ⟨3, ![1, 1056, 256]⟩
abbrev S8x256 : Shape := ⟨2, ![8, 256]⟩
abbrev S1x256 : Shape := ⟨2, ![1, 256]⟩
abbrev S1x1024x256 : Shape := ⟨3, ![1, 1024, 256]⟩
abbrev S256x1024 : Shape := ⟨2, ![256, 1024]⟩
abbrev S1024x1 : Shape := ⟨2, ![1024, 1]⟩

abbrev nBuf : Space → Nat
  | .hbm => 23
  | .vmem => 21
  | .smem => 0
  | _ => 0

abbrev bufTy : (tb : Table) → Fin (tcTables nBuf tb) → BufTy
  | .hbm, ⟨0, _⟩ => ⟨S2x8192x1024, .f32⟩
  | .hbm, ⟨1, _⟩ => ⟨S2x8192x1024, .f32⟩
  | .hbm, ⟨2, _⟩ => ⟨S2x6144, .f32⟩
  | .hbm, ⟨3, _⟩ => ⟨S1024x5632, .f32⟩
  | .hbm, ⟨4, _⟩ => ⟨S3x5632, .f32⟩
  | .hbm, ⟨5, _⟩ => ⟨S5632, .f32⟩
  | .hbm, ⟨6, _⟩ => ⟨S2816x1024, .f32⟩
  | .hbm, ⟨7, _⟩ => ⟨S1024, .f32⟩
  | .hbm, ⟨8, _⟩ => ⟨S_, .f32⟩
  | .hbm, ⟨9, _⟩ => ⟨S6x6144, .f32⟩
  | .hbm, ⟨10, _⟩ => ⟨S8x6144, .f32⟩
  | .hbm, ⟨11, _⟩ => ⟨S8x1x6144, .f32⟩
  | .hbm, ⟨12, _⟩ => ⟨S_, .f32⟩
  | .hbm, ⟨13, _⟩ => ⟨S5x5632, .f32⟩
  | .hbm, ⟨14, _⟩ => ⟨S8x5632, .f32⟩
  | .hbm, ⟨15, _⟩ => ⟨S16384x1024, .f32⟩
  | .hbm, ⟨16, _⟩ => ⟨S16384x1024, .bf16⟩
  | .hbm, ⟨17, _⟩ => ⟨S16384x1024, .f32⟩
  | .hbm, ⟨18, _⟩ => ⟨S1x1024, .f32⟩
  | .hbm, ⟨19, _⟩ => ⟨S1024x5632, .bf16⟩
  | .hbm, ⟨20, _⟩ => ⟨S1x5632, .f32⟩
  | .hbm, ⟨21, _⟩ => ⟨S2816x1024, .bf16⟩
  | .hbm, ⟨22, _⟩ => ⟨S16384x1024, .f32⟩
  | .local _ .vmem, ⟨0, _⟩ => ⟨S1024x1024, .bf16⟩
  | .local _ .vmem, ⟨1, _⟩ => ⟨S1024x1024, .bf16⟩
  | .local _ .vmem, ⟨2, _⟩ => ⟨S16x1024, .bf16⟩
  | .local _ .vmem, ⟨3, _⟩ => ⟨S16x1024, .bf16⟩
  | .local _ .vmem, ⟨4, _⟩ => ⟨S16x1024, .bf16⟩
  | .local _ .vmem, ⟨5, _⟩ => ⟨S16x1024, .bf16⟩
  | .local _ .vmem, ⟨6, _⟩ => ⟨S1024x1024, .f32⟩
  | .local _ .vmem, ⟨7, _⟩ => ⟨S1024x1024, .f32⟩
  | .local _ .vmem, ⟨8, _⟩ => ⟨S1x1x1024, .f32⟩
  | .local _ .vmem, ⟨9, _⟩ => ⟨S1x1x1024, .f32⟩
  | .local _ .vmem, ⟨10, _⟩ => ⟨S1x1024, .f32⟩
  | .local _ .vmem, ⟨11, _⟩ => ⟨S1024x5632, .bf16⟩
  | .local _ .vmem, ⟨12, _⟩ => ⟨S8x5632, .f32⟩
  | .local _ .vmem, ⟨13, _⟩ => ⟨S1x5632, .f32⟩
  | .local _ .vmem, ⟨14, _⟩ => ⟨S2816x1024, .bf16⟩
  | .local _ .vmem, ⟨15, _⟩ => ⟨S1024x1024, .f32⟩
  | .local _ .vmem, ⟨16, _⟩ => ⟨S1024x1024, .f32⟩
  | .local _ .vmem, ⟨17, _⟩ => ⟨S1056x1024, .bf16⟩
  | .local _ .vmem, ⟨18, _⟩ => ⟨S1024x1024, .f32⟩
  | .local _ .vmem, ⟨19, _⟩ => ⟨S4x1056x256, .f32⟩
  | .local _ .vmem, ⟨20, _⟩ => ⟨S2x1024x256, .bf16⟩
  | _, _ => ⟨S2x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_cst_0 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg10_1 : Ref sig .tc := ⟨.vmem, 16, rfl⟩
abbrev cc0_scratch0 : Ref sig .tc := ⟨.vmem, 17, rfl⟩
abbrev cc0_scratch1 : Ref sig .tc := ⟨.vmem, 18, rfl⟩
abbrev cc0_scratch2 : Ref sig .tc := ⟨.vmem, 19, rfl⟩
abbrev cc0_scratch3 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem10_1 : DmaSem sig := 16

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c64_i32 : BitVec 32 := 64#32
  let v0 : BitVec 32 := Scalar.muli arg0 c64_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_2 (i : grid0.Coords) : Fin 2 → Nat :=
  let arg0 : BitVec 32 := BitVec.ofNat 32 (i 0).val
  let c1_i32 : BitVec 32 := 1#32
  let v0 : BitVec 32 := Scalar.addi arg0 c1_i32
  let c64_i32 : BitVec 32 := 64#32
  let v1 : BitVec 32 := Scalar.muli v0 c64_i32
  let c1023_i32 : BitVec 32 := 1023#32
  let v2 : BitVec 32 := Scalar.minsi v1 c1023_i32
  let c0_i32 : BitVec 32 := 0#32
  let c0_i32_0 : BitVec 32 := 0#32
  ![v2.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c5_i32 : BitVec 32 := 5#32
  let c0_i32_5 : BitVec 32 := 0#32
  ![v16.toNat, c0_i32_4.toNat, c5_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S16x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x5632 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S8x5632 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x5632 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S2816x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S1024x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== Reference2Ideal.lean ====
abbrev S2x8192x1024 : Shape := ⟨3, ![2, 8192, 1024]⟩
abbrev S2x6144 : Shape := ⟨2, ![2, 6144]⟩
abbrev S1024x5632 : Shape := ⟨2, ![1024, 5632]⟩
abbrev S3x5632 : Shape := ⟨2, ![3, 5632]⟩
abbrev S5632 : Shape := ⟨1, ![5632]⟩
abbrev S2816x1024 : Shape := ⟨2, ![2816, 1024]⟩
abbrev S1024 : Shape := ⟨1, ![1024]⟩
abbrev S2x1024 : Shape := ⟨2, ![2, 1024]⟩
abbrev S2x1x1024 : Shape := ⟨3, ![2, 1, 1024]⟩
abbrev S2x8192x5632 : Shape := ⟨3, ![2, 8192, 5632]⟩
abbrev S_ : Shape := ⟨0, ![]⟩
abbrev S2x8194x5632 : Shape := ⟨3, ![2, 8194, 5632]⟩
abbrev S1x5632 : Shape := ⟨2, ![1, 5632]⟩
abbrev S1x1x5632 : Shape := ⟨3, ![1, 1, 5632]⟩
abbrev S2x8192x2816 : Shape := ⟨3, ![2, 8192, 2816]⟩
abbrev S2x8192 : Shape := ⟨2, ![2, 8192]⟩
abbrev S2x8192x1 : Shape := ⟨3, ![2, 8192, 1]⟩
abbrev S1x1x1024 : Shape := ⟨3, ![1, 1, 1024]⟩
abbrev S16384x1024 : Shape := ⟨2, ![16384, 1024]⟩

abbrev nBuf : Space → Nat
  | .hbm => 80
  | .vmem => 0
  | .smem => 0
  | _ => 0

abbrev bufTy : (tb : Table) → Fin (tcTables nBuf tb) → BufTy
  | .hbm, ⟨0, _⟩ => ⟨S2x8192x1024, .f32⟩
  | .hbm, ⟨1, _⟩ => ⟨S2x8192x1024, .f32⟩
  | .hbm, ⟨2, _⟩ => ⟨S2x6144, .f32⟩
  | .hbm, ⟨3, _⟩ => ⟨S1024x5632, .f32⟩
  | .hbm, ⟨4, _⟩ => ⟨S3x5632, .f32⟩
  | .hbm, ⟨5, _⟩ => ⟨S5632, .f32⟩
  | .hbm, ⟨6, _⟩ => ⟨S2816x1024, .f32⟩
  | .hbm, ⟨7, _⟩ => ⟨S1024, .f32⟩
  | .hbm, ⟨8, _⟩ => ⟨S2x1024, .f32⟩
  | .hbm, ⟨9, _⟩ => ⟨S2x1024, .f32⟩
  | .hbm, ⟨10, _⟩ => ⟨S2x1024, .f32⟩
  | .hbm, ⟨11, _⟩ => ⟨S2x1024, .f32⟩
  | .hbm, ⟨12, _⟩ => ⟨S2x1024, .f32⟩
  | .hbm, ⟨13, _⟩ => ⟨S2x1024, .f32⟩
  | .hbm, ⟨14, _⟩ => ⟨S2x1x1024, .f32⟩
  | .hbm, ⟨15, _⟩ => ⟨S2x1x1024, .f32⟩
  | .hbm, ⟨16, _⟩ => ⟨S2x1x1024, .f32⟩
  | .hbm, ⟨17, _⟩ => ⟨S2x1x1024, .f32⟩
  | .hbm, ⟨18, _⟩ => ⟨S2x1x1024, .f32⟩
  | .hbm, ⟨19, _⟩ => ⟨S2x1x1024, .f32⟩
  | .hbm, ⟨20, _⟩ => ⟨S2x8192x5632, .f32⟩
  | .hbm, ⟨21, _⟩ => ⟨S_, .i32⟩
  | .hbm, ⟨22, _⟩ => ⟨S_, .f32⟩
  | .hbm, ⟨23, _⟩ => ⟨S2x8194x5632, .f32⟩
  | .hbm, ⟨24, _⟩ => ⟨S2x8192x5632, .f32⟩
  | .hbm, ⟨25, _⟩ => ⟨S1x5632, .f32⟩
  | .hbm, ⟨26, _⟩ => ⟨S5632, .f32⟩
  | .hbm, ⟨27, _⟩ => ⟨S1x1x5632, .f32⟩
  | .hbm, ⟨28, _⟩ => ⟨S2x8192x5632, .f32⟩
  | .hbm, ⟨29, _⟩ => ⟨S2x8192x5632, .f32⟩
  | .hbm, ⟨30, _⟩ => ⟨S2x8192x5632, .f32⟩
  | .hbm, ⟨31, _⟩ => ⟨S1x5632, .f32⟩
  | .hbm, ⟨32, _⟩ => ⟨S5632, .f32⟩
  | .hbm, ⟨33, _⟩ => ⟨S1x1x5632, .f32⟩
  | .hbm, ⟨34, _⟩ => ⟨S2x8192x5632, .f32⟩
  | .hbm, ⟨35, _⟩ => ⟨S2x8192x5632, .f32⟩
  | .hbm, ⟨36, _⟩ => ⟨S2x8192x5632, .f32⟩
  | .hbm, ⟨37, _⟩ => ⟨S2x8192x5632, .f32⟩
  | .hbm, ⟨38, _⟩ => ⟨S1x5632, .f32⟩
  | .hbm, ⟨39, _⟩ => ⟨S5632, .f32⟩
  | .hbm, ⟨40, _⟩ => ⟨S1x1x5632, .f32⟩
  | .hbm, ⟨41, _⟩ => ⟨S2x8192x5632, .f32⟩
  | .hbm, ⟨42, _⟩ => ⟨S2x8192x5632, .f32⟩
  | .hbm, ⟨43, _⟩ => ⟨S2x8192x5632, .f32⟩
  | .hbm, ⟨44, _⟩ => ⟨S1x1x5632, .f32⟩
  | .hbm, ⟨45, _⟩ => ⟨S2x8192x5632, .f32⟩
  | .hbm, ⟨46, _⟩ => ⟨S2x8192x5632, .f32⟩
  | .hbm, ⟨47, _⟩ => ⟨S2x8192x2816, .f32⟩
  | .hbm, ⟨48, _⟩ => ⟨S2x8192x2816, .f32⟩
  | .hbm, ⟨49, _⟩ => ⟨S2x8192x2816, .f32⟩
  | .hbm, ⟨50, _⟩ => ⟨S2x8192x2816, .f32⟩
  | .hbm, ⟨51, _⟩ => ⟨S_, .f32⟩
  | .hbm, ⟨52, _⟩ => ⟨S2x8192x2816, .f32⟩
  | .hbm, ⟨53, _⟩ => ⟨S2x8192x2816, .f32⟩
  | .hbm, ⟨54, _⟩ => ⟨S_, .f32⟩
  | .hbm, ⟨55, _⟩ => ⟨S2x8192x2816, .f32⟩
  | .hbm, ⟨56, _⟩ => ⟨S2x8192x2816, .f32⟩
  | .hbm, ⟨57, _⟩ => ⟨S2x8192x2816, .f32⟩
  | .hbm, ⟨58, _⟩ => ⟨S2x8192x2816, .f32⟩
  | .hbm, ⟨59, _⟩ => ⟨S2x8192x1024, .f32⟩
  | .hbm, ⟨60, _⟩ => ⟨S2x8192x1024, .f32⟩
  | .hbm, ⟨61, _⟩ => ⟨S2x8192x1024, .f32⟩
  | .hbm, ⟨62, _⟩ => ⟨S2x8192x1024, .f32⟩
  | .hbm, ⟨63, _⟩ => ⟨S2x8192x1024, .f32⟩
  | .hbm, ⟨64, _⟩ => ⟨S_, .f32⟩
  | .hbm, ⟨65, _⟩ => ⟨S2x8192, .f32⟩
  | .hbm, ⟨66, _⟩ => ⟨S2x8192x1, .f32⟩
  | .hbm, ⟨67, _⟩ => ⟨S_, .f32⟩
  | .hbm, ⟨68, _⟩ => ⟨S2x8192x1, .f32⟩
  | .hbm, ⟨69, _⟩ => ⟨S2x8192x1, .f32⟩
  | .hbm, ⟨70, _⟩ => ⟨S_, .f32⟩
  | .hbm, ⟨71, _⟩ => ⟨S2x8192x1, .f32⟩
  | .hbm, ⟨72, _⟩ => ⟨S2x8192x1, .f32⟩
  | .hbm, ⟨73, _⟩ => ⟨S2x8192x1, .f32⟩
  | .hbm, ⟨74, _⟩ => ⟨S2x8192x1024, .f32⟩
  | .hbm, ⟨75, _⟩ => ⟨S2x8192x1024, .f32⟩
  | .hbm, ⟨76, _⟩ => ⟨S1x1x1024, .f32⟩
  | .hbm, ⟨77, _⟩ => ⟨S2x8192x1024, .f32⟩
  | .hbm, ⟨78, _⟩ => ⟨S2x8192x1024, .f32⟩
  | .hbm, ⟨79, _⟩ => ⟨S16384x1024, .f32⟩
  | _, _ => ⟨S2x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_c : Ref sig .tc := ⟨.hbm, 21, rfl⟩
abbrev main_call0_v0 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_call1_v0 : Ref sig .tc := ⟨.hbm, 49, rfl⟩
abbrev main_call1_v1 : Ref sig .tc := ⟨.hbm, 50, rfl⟩
abbrev main_call1_cst : Ref sig .tc := ⟨.hbm, 51, rfl⟩
abbrev main_call1_v2 : Ref sig .tc := ⟨.hbm, 52, rfl⟩
abbrev main_call1_v3 : Ref sig .tc := ⟨.hbm, 53, rfl⟩
abbrev main_call1_cst_0 : Ref sig .tc := ⟨.hbm, 54, rfl⟩
abbrev main_call1_v4 : Ref sig .tc := ⟨.hbm, 55, rfl⟩
abbrev main_call1_v5 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_cst : Ref sig .tc := ⟨.hbm, 64, rfl⟩
abbrev main_v46 : Ref sig .tc := ⟨.hbm, 65, rfl⟩
abbrev main_v47 : Ref sig .tc := ⟨.hbm, 66, rfl⟩
abbrev main_cst_0 : Ref sig .tc := ⟨.hbm, 67, rfl⟩
abbrev main_v48 : Ref sig .tc := ⟨.hbm, 68, rfl⟩
abbrev main_v49 : Ref sig .tc := ⟨.hbm, 69, rfl⟩
abbrev main_cst_1 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩

abbrev nD : Nat := 1
abbrev τ : Topo := Topo.v7x

variable {F : FTy → Type} [FloatOps F]
-- ==== Kernel3.lean ====
abbrev S2x8192x512 : Shape := ⟨3, ![2, 8192, 512]⟩
abbrev S2x8192x4x128 : Shape := ⟨4, ![2, 8192, 4, 128]⟩
abbrev S2x8192x1024 : Shape := ⟨3, ![2, 8192, 1024]⟩
abbrev S2x6144 : Shape := ⟨2, ![2, 6144]⟩
abbrev S512 : Shape := ⟨1, ![512]⟩
abbrev S128 : Shape := ⟨1, ![128]⟩
abbrev S1024x1024 : Shape := ⟨2, ![1024, 1024]⟩
abbrev S1024 : Shape := ⟨1, ![1024]⟩
abbrev S_ : Shape := ⟨0, ![]⟩
abbrev S6x6144 : Shape := ⟨2, ![6, 6144]⟩
abbrev S8x6144 : Shape := ⟨2, ![8, 6144]⟩
abbrev S8x1x6144 : Shape := ⟨3, ![8, 1, 6144]⟩
abbrev S16384x512 : Shape := ⟨2, ![16384, 512]⟩
abbrev S16384x1024 : Shape := ⟨2, ![16384, 1024]⟩
abbrev S1x512 : Shape := ⟨2, ![1, 512]⟩
abbrev S1x128 : Shape := ⟨2, ![1, 128]⟩
abbrev S1x1024 : Shape := ⟨2, ![1, 1024]⟩
abbrev S1024x512 : Shape := ⟨2, ![1024, 512]⟩
abbrev S1x1x1024 : Shape := ⟨3, ![1, 1, 1024]⟩
abbrev S1024x1 : Shape := ⟨2, ![1024, 1]⟩
abbrev S1024x128 : Shape := ⟨2, ![1024, 128]⟩

abbrev nBuf : Space → Nat
  | .hbm => 29
  | .vmem => 24
  | .smem => 0
  | _ => 0

abbrev bufTy : (tb : Table) → Fin (tcTables nBuf tb) → BufTy
  | .hbm, ⟨0, _⟩ => ⟨S2x8192x512, .f32⟩
  | .hbm, ⟨1, _⟩ => ⟨S2x8192x4x128, .f32⟩
  | .hbm, ⟨2, _⟩ => ⟨S2x8192x4x128, .f32⟩
  | .hbm, ⟨3, _⟩ => ⟨S2x8192x512, .f32⟩
  | .hbm, ⟨4, _⟩ => ⟨S2x8192x1024, .f32⟩
  | .hbm, ⟨5, _⟩ => ⟨S2x6144, .f32⟩
  | .hbm, ⟨6, _⟩ => ⟨S512, .f32⟩
  | .hbm, ⟨7, _⟩ => ⟨S128, .f32⟩
  | .hbm, ⟨8, _⟩ => ⟨S1024x1024, .f32⟩
  | .hbm, ⟨9, _⟩ => ⟨S1024, .f32⟩
  | .hbm, ⟨10, _⟩ => ⟨S_, .f32⟩
  | .hbm, ⟨11, _⟩ => ⟨S6x6144, .f32⟩
  | .hbm, ⟨12, _⟩ => ⟨S8x6144, .f32⟩
  | .hbm, ⟨13, _⟩ => ⟨S8x1x6144, .f32⟩
  | .hbm, ⟨14, _⟩ => ⟨S16384x512, .f32⟩
  | .hbm, ⟨15, _⟩ => ⟨S16384x512, .bf16⟩
  | .hbm, ⟨16, _⟩ => ⟨S16384x512, .f32⟩
  | .hbm, ⟨17, _⟩ => ⟨S16384x512, .bf16⟩
  | .hbm, ⟨18, _⟩ => ⟨S16384x512, .f32⟩
  | .hbm, ⟨19, _⟩ => ⟨S16384x512, .bf16⟩
  | .hbm, ⟨20, _⟩ => ⟨S16384x512, .f32⟩
  | .hbm, ⟨21, _⟩ => ⟨S16384x512, .bf16⟩
  | .hbm, ⟨22, _⟩ => ⟨S16384x1024, .f32⟩
  | .hbm, ⟨23, _⟩ => ⟨S1x512, .f32⟩
  | .hbm, ⟨24, _⟩ => ⟨S1x128, .f32⟩
  | .hbm, ⟨25, _⟩ => ⟨S1024x1024, .bf16⟩
  | .hbm, ⟨26, _⟩ => ⟨S1x1024, .f32⟩
  | .hbm, ⟨27, _⟩ => ⟨S16384x1024, .f32⟩
  | .hbm, ⟨28, _⟩ => ⟨S16384x1024, .bf16⟩
  | .local _ .vmem, ⟨0, _⟩ => ⟨S1024x512, .bf16⟩
  | .local _ .vmem, ⟨1, _⟩ => ⟨S1024x512, .bf16⟩
  | .local _ .vmem, ⟨2, _⟩ => ⟨S1024x512, .bf16⟩
  | .local _ .vmem, ⟨3, _⟩ => ⟨S1024x512, .bf16⟩
  | .local _ .vmem, ⟨4, _⟩ => ⟨S1024x512, .bf16⟩
  | .local _ .vmem, ⟨5, _⟩ => ⟨S1024x512, .bf16⟩
  | .local _ .vmem, ⟨6, _⟩ => ⟨S1024x512, .bf16⟩
  | .local _ .vmem, ⟨7, _⟩ => ⟨S1024x512, .bf16⟩
  | .local _ .vmem, ⟨8, _⟩ => ⟨S1024x1024, .f32⟩
  | .local _ .vmem, ⟨9, _⟩ => ⟨S1024x1024, .f32⟩
  | .local _ .vmem, ⟨10, _⟩ => ⟨S1x1x1024, .f32⟩
  | .local _ .vmem, ⟨11, _⟩ => ⟨S1x1x1024, .f32⟩
  | .local _ .vmem, ⟨12, _⟩ => ⟨S1x512, .f32⟩
  | .local _ .vmem, ⟨13, _⟩ => ⟨S1x128, .f32⟩
  | .local _ .vmem, ⟨14, _⟩ => ⟨S1024x1024, .bf16⟩
  | .local _ .vmem, ⟨15, _⟩ => ⟨S1x1x1024, .f32⟩
  | .local _ .vmem, ⟨16, _⟩ => ⟨S1x1x1024, .f32⟩
  | .local _ .vmem, ⟨17, _⟩ => ⟨S1x1x1024, .f32⟩
  | .local _ .vmem, ⟨18, _⟩ => ⟨S1x1x1024, .f32⟩
  | .local _ .vmem, ⟨19, _⟩ => ⟨S1x1024, .f32⟩
  | .local _ .vmem, ⟨20, _⟩ => ⟨S1024x1024, .f32⟩
  | .local _ .vmem, ⟨21, _⟩ => ⟨S1024x1024, .f32⟩
  | .local _ .vmem, ⟨22, _⟩ => ⟨S1024x1024, .bf16⟩
  | .local _ .vmem, ⟨23, _⟩ => ⟨S1024x1024, .bf16⟩
  | _, _ => ⟨S2x8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_cst : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16_0 : Ref sig .tc := ⟨.hbm, 27, rfl⟩
abbrev main_v16_1 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_stg12_0 : Ref sig .tc := ⟨.vmem, 20, rfl⟩
abbrev cc0_stg12_1 : Ref sig .tc := ⟨.vmem, 21, rfl⟩
abbrev cc0_stg13_0 : Ref sig .tc := ⟨.vmem, 22, rfl⟩
abbrev cc0_stg13_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem9_1 : DmaSem sig := 16
abbrev cc0_sem10_0 : DmaSem sig := 17
abbrev cc0_sem10_1 : DmaSem sig := 18
abbrev cc0_sem11_0 : DmaSem sig := 19
abbrev cc0_sem12_0 : DmaSem sig := 20
abbrev cc0_sem12_1 : DmaSem sig := 21
abbrev cc0_sem13_0 : DmaSem sig := 22
abbrev cc0_sem13_1 : DmaSem sig := 23

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c2_i32 : BitVec 32 := 2#32
  let c0_i32_5 : BitVec 32 := 0#32
  ![v16.toNat, c0_i32_4.toNat, c2_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c3_i32 : BitVec 32 := 3#32
  let c0_i32_5 : BitVec 32 := 0#32
  ![v16.toNat, c0_i32_4.toNat, c3_i32.toNat]

def cc0_transform_10 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c4_i32 : BitVec 32 := 4#32
  let c0_i32_5 : BitVec 32 := 0#32
  ![v16.toNat, c0_i32_4.toNat, c4_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x1x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S1x1x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1x1x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S1024x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S1024x1024 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]
-- ==== Reference3Ideal.lean ====
abbrev S2x8192x512 : Shape := ⟨3, ![2, 8192, 512]⟩
abbrev S2x8192x4x128 : Shape := ⟨4, ![2, 8192, 4, 128]⟩
abbrev S2x8192x1024 : Shape := ⟨3, ![2, 8192, 1024]⟩
abbrev S2x6144 : Shape := ⟨2, ![2, 6144]⟩
abbrev S512 : Shape := ⟨1, ![512]⟩
abbrev S128 : Shape := ⟨1, ![128]⟩
abbrev S1024x1024 : Shape := ⟨2, ![1024, 1024]⟩
abbrev S1024 : Shape := ⟨1, ![1024]⟩
abbrev S2x1024 : Shape := ⟨2, ![2, 1024]⟩
abbrev S2x1x1024 : Shape := ⟨3, ![2, 1, 1024]⟩
abbrev S_ : Shape := ⟨0, ![]⟩
abbrev S2x8192 : Shape := ⟨2, ![2, 8192]⟩
abbrev S2x8192x1 : Shape := ⟨3, ![2, 8192, 1]⟩
abbrev S1x1x512 : Shape := ⟨3, ![1, 1, 512]⟩
abbrev S2x8192x4 : Shape := ⟨3, ![2, 8192, 4]⟩
abbrev S2x8192x4x1 : Shape := ⟨4, ![2, 8192, 4, 1]⟩
abbrev S1x1x1x128 : Shape := ⟨4, ![1, 1, 1, 128]⟩
abbrev S1x1x1024 : Shape := ⟨3, ![1, 1, 1024]⟩
abbrev S16384x1024 : Shape := ⟨2, ![16384, 1024]⟩

abbrev nBuf : Space → Nat
  | .hbm => 97
  | .vmem => 0
  | .smem => 0
  | _ => 0

abbrev bufTy : (tb : Table) → Fin (tcTables nBuf tb) → BufTy
  | .hbm, ⟨0, _⟩ => ⟨S2x8192x512, .f32⟩
  | .hbm, ⟨1, _⟩ => ⟨S2x8192x4x128, .f32⟩
  | .hbm, ⟨2, _⟩ => ⟨S2x8192x4x128, .f32⟩
  | .hbm, ⟨3, _⟩ => ⟨S2x8192x512, .f32⟩
  | .hbm, ⟨4, _⟩ => ⟨S2x8192x1024, .f32⟩
  | .hbm, ⟨5, _⟩ => ⟨S2x6144, .f32⟩
  | .hbm, ⟨6, _⟩ => ⟨S512, .f32⟩
  | .hbm, ⟨7, _⟩ => ⟨S128, .f32⟩
  | .hbm, ⟨8, _⟩ => ⟨S1024x1024, .f32⟩
  | .hbm, ⟨9, _⟩ => ⟨S1024, .f32⟩
  | .hbm, ⟨10, _⟩ => ⟨S2x1024, .f32⟩
  | .hbm, ⟨11, _⟩ => ⟨S2x1024, .f32⟩
  | .hbm, ⟨12, _⟩ => ⟨S2x1024, .f32⟩
  | .hbm, ⟨13, _⟩ => ⟨S2x1024, .f32⟩
  | .hbm, ⟨14, _⟩ => ⟨S2x1024, .f32⟩
  | .hbm, ⟨15, _⟩ => ⟨S2x1024, .f32⟩
  | .hbm, ⟨16, _⟩ => ⟨S2x1x1024, .f32⟩
  | .hbm, ⟨17, _⟩ => ⟨S2x1x1024, .f32⟩
  | .hbm, ⟨18, _⟩ => ⟨S2x1x1024, .f32⟩
  | .hbm, ⟨19, _⟩ => ⟨S2x1x1024, .f32⟩
  | .hbm, ⟨20, _⟩ => ⟨S2x1x1024, .f32⟩
  | .hbm, ⟨21, _⟩ => ⟨S2x1x1024, .f32⟩
  | .hbm, ⟨22, _⟩ => ⟨S2x8192x4x128, .f32⟩
  | .hbm, ⟨23, _⟩ => ⟨S2x8192x512, .f32⟩
  | .hbm, ⟨24, _⟩ => ⟨S_, .f32⟩
  | .hbm, ⟨25, _⟩ => ⟨S2x8192, .f32⟩
  | .hbm, ⟨26, _⟩ => ⟨S2x8192x1, .f32⟩
  | .hbm, ⟨27, _⟩ => ⟨S_, .f32⟩
  | .hbm, ⟨28, _⟩ => ⟨S2x8192x1, .f32⟩
  | .hbm, ⟨29, _⟩ => ⟨S2x8192x1, .f32⟩
  | .hbm, ⟨30, _⟩ => ⟨S_, .f32⟩
  | .hbm, ⟨31, _⟩ => ⟨S2x8192x1, .f32⟩
  | .hbm, ⟨32, _⟩ => ⟨S2x8192x1, .f32⟩
  | .hbm, ⟨33, _⟩ => ⟨S2x8192x1, .f32⟩
  | .hbm, ⟨34, _⟩ => ⟨S2x8192x512, .f32⟩
  | .hbm, ⟨35, _⟩ => ⟨S2x8192x512, .f32⟩
  | .hbm, ⟨36, _⟩ => ⟨S1x1x512, .f32⟩
  | .hbm, ⟨37, _⟩ => ⟨S2x8192x512, .f32⟩
  | .hbm, ⟨38, _⟩ => ⟨S2x8192x512, .f32⟩
  | .hbm, ⟨39, _⟩ => ⟨S2x8192x4x128, .f32⟩
  | .hbm, ⟨40, _⟩ => ⟨S_, .f32⟩
  | .hbm, ⟨41, _⟩ => ⟨S2x8192x4, .f32⟩
  | .hbm, ⟨42, _⟩ => ⟨S2x8192x4x1, .f32⟩
  | .hbm, ⟨43, _⟩ => ⟨S_, .f32⟩
  | .hbm, ⟨44, _⟩ => ⟨S2x8192x4x1, .f32⟩
  | .hbm, ⟨45, _⟩ => ⟨S2x8192x4x1, .f32⟩
  | .hbm, ⟨46, _⟩ => ⟨S_, .f32⟩
  | .hbm, ⟨47, _⟩ => ⟨S2x8192x4x1, .f32⟩
  | .hbm, ⟨48, _⟩ => ⟨S2x8192x4x1, .f32⟩
  | .hbm, ⟨49, _⟩ => ⟨S2x8192x4x1, .f32⟩
  | .hbm, ⟨50, _⟩ => ⟨S2x8192x4x128, .f32⟩
  | .hbm, ⟨51, _⟩ => ⟨S2x8192x4x128, .f32⟩
  | .hbm, ⟨52, _⟩ => ⟨S1x1x1x128, .f32⟩
  | .hbm, ⟨53, _⟩ => ⟨S2x8192x4x128, .f32⟩
  | .hbm, ⟨54, _⟩ => ⟨S2x8192x4x128, .f32⟩
  | .hbm, ⟨55, _⟩ => ⟨S2x8192x512, .f32⟩
  | .hbm, ⟨56, _⟩ => ⟨S2x8192x512, .f32⟩
  | .hbm, ⟨57, _⟩ => ⟨S2x8192x512, .f32⟩
  | .hbm, ⟨58, _⟩ => ⟨S_, .f32⟩
  | .hbm, ⟨59, _⟩ => ⟨S2x8192x512, .f32⟩
  | .hbm, ⟨60, _⟩ => ⟨S2x8192x512, .f32⟩
  | .hbm, ⟨61, _⟩ => ⟨S_, .f32⟩
  | .hbm, ⟨62, _⟩ => ⟨S2x8192x512, .f32⟩
  | .hbm, ⟨63, _⟩ => ⟨S2x8192x512, .f32⟩
  | .hbm, ⟨64, _⟩ => ⟨S2x8192x512, .f32⟩
  | .hbm, ⟨65, _⟩ => ⟨S2x8192x512, .f32⟩
  | .hbm, ⟨66, _⟩ => ⟨S2x8192x1024, .f32⟩
  | .hbm, ⟨67, _⟩ => ⟨S2x8192x1024, .f32⟩
  | .hbm, ⟨68, _⟩ => ⟨S2x8192x1024, .f32⟩
  | .hbm, ⟨69, _⟩ => ⟨S2x8192x1024, .f32⟩
  | .hbm, ⟨70, _⟩ => ⟨S2x8192x1024, .f32⟩
  | .hbm, ⟨71, _⟩ => ⟨S2x8192x1024, .f32⟩
  | .hbm, ⟨72, _⟩ => ⟨S_, .f32⟩
  | .hbm, ⟨73, _⟩ => ⟨S2x8192, .f32⟩
  | .hbm, ⟨74, _⟩ => ⟨S2x8192x1, .f32⟩
  | .hbm, ⟨75, _⟩ => ⟨S_, .f32⟩
  | .hbm, ⟨76, _⟩ => ⟨S2x8192x1, .f32⟩
  | .hbm, ⟨77, _⟩ => ⟨S2x8192x1, .f32⟩
  | .hbm, ⟨78, _⟩ => ⟨S_, .f32⟩
  | .hbm, ⟨79, _⟩ => ⟨S2x8192x1, .f32⟩
  | .hbm, ⟨80, _⟩ => ⟨S2x8192x1, .f32⟩
  | .hbm, ⟨81, _⟩ => ⟨S2x8192x1, .f32⟩
  | .hbm, ⟨82, _⟩ => ⟨S2x8192x1024, .f32⟩
  | .hbm, ⟨83, _⟩ => ⟨S2x8192x1024, .f32⟩
  | .hbm, ⟨84, _⟩ => ⟨S1x1x1024, .f32⟩
  | .hbm, ⟨85, _⟩ => ⟨S2x8192x1024, .f32⟩
  | .hbm, ⟨86, _⟩ => ⟨S2x8192x1024, .f32⟩
  | .hbm, ⟨87, _⟩ => ⟨S_, .f32⟩
  | .hbm, ⟨88, _⟩ => ⟨S2x1x1024, .f32⟩
  | .hbm, ⟨89, _⟩ => ⟨S2x1x1024, .f32⟩
  | .hbm, ⟨90, _⟩ => ⟨S2x8192x1024, .f32⟩
  | .hbm, ⟨91, _⟩ => ⟨S2x8192x1024, .f32⟩
  | .hbm, ⟨92, _⟩ => ⟨S2x8192x1024, .f32⟩
  | .hbm, ⟨93, _⟩ => ⟨S2x8192x1024, .f32⟩
  | .hbm, ⟨94, _⟩ => ⟨S16384x1024, .f32⟩
  | .hbm, ⟨95, _⟩ => ⟨S16384x1024, .f32⟩
  | .hbm, ⟨96, _⟩ => ⟨S16384x1024, .bf16⟩
  | _, _ => ⟨S2x8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst : Ref sig .tc := ⟨.hbm, 24, rfl⟩
abbrev main_v14 : Ref sig .tc := ⟨.hbm, 25, rfl⟩
abbrev main_v15 : Ref sig .tc := ⟨.hbm, 26, rfl⟩
abbrev main_cst_0 : Ref sig .tc := ⟨.hbm, 27, rfl⟩
abbrev main_v16 : Ref sig .tc := ⟨.hbm, 28, rfl⟩
abbrev main_v17 : Ref sig .tc := ⟨.hbm, 29, rfl⟩
abbrev main_cst_1 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_cst_2 : Ref sig .tc := ⟨.hbm, 40, rfl⟩
abbrev main_v27 : Ref sig .tc := ⟨.hbm, 41, rfl⟩
abbrev main_v28 : Ref sig .tc := ⟨.hbm, 42, rfl⟩
abbrev main_cst_3 : Ref sig .tc := ⟨.hbm, 43, rfl⟩
abbrev main_v29 : Ref sig .tc := ⟨.hbm, 44, rfl⟩
abbrev main_v30 : Ref sig .tc := ⟨.hbm, 45, rfl⟩
abbrev main_cst_4 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_call0_v0 : Ref sig .tc := ⟨.hbm, 56, rfl⟩
abbrev main_call0_v1 : Ref sig .tc := ⟨.hbm, 57, rfl⟩
abbrev main_call0_cst : Ref sig .tc := ⟨.hbm, 58, rfl⟩
abbrev main_call0_v2 : Ref sig .tc := ⟨.hbm, 59, rfl⟩
abbrev main_call0_v3 : Ref sig .tc := ⟨.hbm, 60, rfl⟩
abbrev main_call0_cst_0 : Ref sig .tc := ⟨.hbm, 61, rfl⟩
abbrev main_call0_v4 : Ref sig .tc := ⟨.hbm, 62, rfl⟩
abbrev main_call0_v5 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_cst_5 : Ref sig .tc := ⟨.hbm, 72, rfl⟩
abbrev main_v48 : Ref sig .tc := ⟨.hbm, 73, rfl⟩
abbrev main_v49 : Ref sig .tc := ⟨.hbm, 74, rfl⟩
abbrev main_cst_6 : Ref sig .tc := ⟨.hbm, 75, rfl⟩
abbrev main_v50 : Ref sig .tc := ⟨.hbm, 76, rfl⟩
abbrev main_v51 : Ref sig .tc := ⟨.hbm, 77, rfl⟩
abbrev main_cst_7 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_cst_8 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩

abbrev nD : Nat := 1
abbrev τ : Topo := Topo.v7x

variable {F : FTy → Type} [FloatOps F]
-- ==== Kernel4.lean ====
abbrev S2x8192x1024 : Shape := ⟨3, ![2, 8192, 1024]⟩
abbrev S2x6144 : Shape := ⟨2, ![2, 6144]⟩
abbrev S1024 : Shape := ⟨1, ![1024]⟩
abbrev S1024x2336 : Shape := ⟨2, ![1024, 2336]⟩
abbrev S64 : Shape := ⟨1, ![64]⟩
abbrev S16x256 : Shape := ⟨2, ![16, 256]⟩
abbrev S256 : Shape := ⟨1, ![256]⟩
abbrev S_ : Shape := ⟨0, ![]⟩
abbrev S6x6144 : Shape := ⟨2, ![6, 6144]⟩
abbrev S8x6144 : Shape := ⟨2, ![8, 6144]⟩
abbrev S8x1x6144 : Shape := ⟨3, ![8, 1, 6144]⟩
abbrev S1x64 : Shape := ⟨2, ![1, 64]⟩
abbrev S8x64 : Shape := ⟨2, ![8, 64]⟩
abbrev S512 : Shape := ⟨1, ![512]⟩
abbrev S2x64 : Shape := ⟨2, ![2, 64]⟩
abbrev S128 : Shape := ⟨1, ![128]⟩
abbrev S640 : Shape := ⟨1, ![640]⟩
abbrev S1x640 : Shape := ⟨2, ![1, 640]⟩
abbrev S4x64 : Shape := ⟨2, ![4, 64]⟩
abbrev S256x1 : Shape := ⟨2, ![256, 1]⟩
abbrev S1x256 : Shape := ⟨2, ![1, 256]⟩
abbrev S256x256 : Shape := ⟨2, ![256, 256]⟩
abbrev S128x512 : Shape := ⟨2, ![128, 512]⟩
abbrev S1 : Shape := ⟨1, ![1]⟩
abbrev S2 : Shape := ⟨1, ![2]⟩
abbrev S1x512 : Shape := ⟨2, ![1, 512]⟩
abbrev S128x64 : Shape := ⟨2, ![128, 64]⟩
abbrev S8192 : Shape := ⟨1, ![8192]⟩
abbrev S16 : Shape := ⟨1, ![16]⟩
abbrev S8192x1 : Shape := ⟨2, ![8192, 1]⟩
abbrev S1x16 : Shape := ⟨2, ![1, 16]⟩
abbrev S8192x16 : Shape := ⟨2, ![8192, 16]⟩
abbrev S8192x32 : Shape := ⟨2, ![8192, 32]⟩
abbrev S8192x32x1 : Shape := ⟨3, ![8192, 32, 1]⟩
abbrev S8192x32x2 : Shape := ⟨3, ![8192, 32, 2]⟩
abbrev S8192x64 : Shape := ⟨2, ![8192, 64]⟩
abbrev S1x8192x1x64 : Shape := ⟨4, ![1, 8192, 1, 64]⟩
abbrev S1x8192x2x64 : Shape := ⟨4, ![1, 8192, 2, 64]⟩
abbrev S8192x128 : Shape := ⟨2, ![8192, 128]⟩
abbrev S16384x1024 : Shape := ⟨2, ![16384, 1024]⟩
abbrev S1x1024 : Shape := ⟨2, ![1, 1024]⟩
abbrev S16384x512 : Shape := ⟨2, ![16384, 512]⟩
abbrev S2x128x8192 : Shape := ⟨3, ![2, 128, 8192]⟩
abbrev S2x2x8192x128 : Shape := ⟨4, ![2, 2, 8192, 128]⟩
abbrev S16384x256 : Shape := ⟨2, ![16384, 256]⟩
abbrev S1024x1024 : Shape := ⟨2, ![1024, 1024]⟩
abbrev S1x1x1024 : Shape := ⟨3, ![1, 1, 1024]⟩
abbrev S1024x128 : Shape := ⟨2, ![1024, 128]⟩
abbrev S1024x512 : Shape := ⟨2, ![1024, 512]⟩
abbrev S1x128x1024 : Shape := ⟨3, ![1, 128, 1024]⟩
abbrev S1x2x1024x128 : Shape := ⟨4, ![1, 2, 1024, 128]⟩
abbrev S1024x256 : Shape := ⟨2, ![1024, 256]⟩
abbrev S1024x1 : Shape := ⟨2, ![1024, 1]⟩
abbrev S1024x768 : Shape := ⟨2, ![1024, 768]⟩
abbrev S1024x544 : Shape := ⟨2, ![1024, 544]⟩
abbrev S1024x640 : Shape := ⟨2, ![1024, 640]⟩
abbrev S128x128 : Shape := ⟨2, ![128, 128]⟩
abbrev S128x1024 : Shape := ⟨2, ![128, 1024]⟩
abbrev S1x1x1024x128 : Shape := ⟨4, ![1, 1, 1024, 128]⟩

abbrev nBuf : Space → Nat
  | .hbm => 110
  | .vmem => 34
  | .smem => 0
  | _ => 0

abbrev bufTy : (tb : Table) → Fin (tcTables nBuf tb) → BufTy
  | .hbm, ⟨0, _⟩ => ⟨S2x8192x1024, .f32⟩
  | .hbm, ⟨1, _⟩ => ⟨S2x6144, .f32⟩
  | .hbm, ⟨2, _⟩ => ⟨S1024, .f32⟩
  | .hbm, ⟨3, _⟩ => ⟨S1024x2336, .f32⟩
  | .hbm, ⟨4, _⟩ => ⟨S64, .f32⟩
  | .hbm, ⟨5, _⟩ => ⟨S64, .f32⟩
  | .hbm, ⟨6, _⟩ => ⟨S16x256, .f32⟩
  | .hbm, ⟨7, _⟩ => ⟨S256, .f32⟩
  | .hbm, ⟨8, _⟩ => ⟨S16x256, .f32⟩
  | .hbm, ⟨9, _⟩ => ⟨S256, .f32⟩
  | .hbm, ⟨10, _⟩ => ⟨S_, .f32⟩
  | .hbm, ⟨11, _⟩ => ⟨S6x6144, .f32⟩
  | .hbm, ⟨12, _⟩ => ⟨S8x6144, .f32⟩
  | .hbm, ⟨13, _⟩ => ⟨S8x1x6144, .f32⟩
  | .hbm, ⟨14, _⟩ => ⟨S1x64, .f32⟩
  | .hbm, ⟨15, _⟩ => ⟨S8x64, .f32⟩
  | .hbm, ⟨16, _⟩ => ⟨S512, .f32⟩
  | .hbm, ⟨17, _⟩ => ⟨S1x64, .f32⟩
  | .hbm, ⟨18, _⟩ => ⟨S2x64, .f32⟩
  | .hbm, ⟨19, _⟩ => ⟨S128, .f32⟩
  | .hbm, ⟨20, _⟩ => ⟨S640, .f32⟩
  | .hbm, ⟨21, _⟩ => ⟨S1x640, .f32⟩
  | .hbm, ⟨22, _⟩ => ⟨S4x64, .i32⟩
  | .hbm, ⟨23, _⟩ => ⟨S256, .i32⟩
  | .hbm, ⟨24, _⟩ => ⟨S256x1, .i32⟩
  | .hbm, ⟨25, _⟩ => ⟨S1x256, .i32⟩
  | .hbm, ⟨26, _⟩ => ⟨S256x256, .i32⟩
  | .hbm, ⟨27, _⟩ => ⟨S256x256, .i32⟩
  | .hbm, ⟨28, _⟩ => ⟨S256x256, .i1⟩
  | .hbm, ⟨29, _⟩ => ⟨S_, .f32⟩
  | .hbm, ⟨30, _⟩ => ⟨S_, .f32⟩
  | .hbm, ⟨31, _⟩ => ⟨S256x256, .f32⟩
  | .hbm, ⟨32, _⟩ => ⟨S256x256, .f32⟩
  | .hbm, ⟨33, _⟩ => ⟨S256x256, .f32⟩
  | .hbm, ⟨34, _⟩ => ⟨S256x256, .bf16⟩
  | .hbm, ⟨35, _⟩ => ⟨S_, .f32⟩
  | .hbm, ⟨36, _⟩ => ⟨S128x512, .f32⟩
  | .hbm, ⟨37, _⟩ => ⟨S_, .i32⟩
  | .hbm, ⟨38, _⟩ => ⟨S1, .i32⟩
  | .hbm, ⟨39, _⟩ => ⟨S_, .i32⟩
  | .hbm, ⟨40, _⟩ => ⟨S1, .i32⟩
  | .hbm, ⟨41, _⟩ => ⟨S2, .i32⟩
  | .hbm, ⟨42, _⟩ => ⟨S128x512, .f32⟩
  | .hbm, ⟨43, _⟩ => ⟨S_, .i32⟩
  | .hbm, ⟨44, _⟩ => ⟨S1, .i32⟩
  | .hbm, ⟨45, _⟩ => ⟨S_, .i32⟩
  | .hbm, ⟨46, _⟩ => ⟨S1, .i32⟩
  | .hbm, ⟨47, _⟩ => ⟨S2, .i32⟩
  | .hbm, ⟨48, _⟩ => ⟨S128x512, .f32⟩
  | .hbm, ⟨49, _⟩ => ⟨S128x512, .bf16⟩
  | .hbm, ⟨50, _⟩ => ⟨S512, .f32⟩
  | .hbm, ⟨51, _⟩ => ⟨S1x512, .f32⟩
  | .hbm, ⟨52, _⟩ => ⟨S128x64, .f32⟩
  | .hbm, ⟨53, _⟩ => ⟨S8192, .f32⟩
  | .hbm, ⟨54, _⟩ => ⟨S128x64, .f32⟩
  | .hbm, ⟨55, _⟩ => ⟨S8192, .f32⟩
  | .hbm, ⟨56, _⟩ => ⟨S16, .f32⟩
  | .hbm, ⟨57, _⟩ => ⟨S_, .f32⟩
  | .hbm, ⟨58, _⟩ => ⟨S16, .f32⟩
  | .hbm, ⟨59, _⟩ => ⟨S16, .f32⟩
  | .hbm, ⟨60, _⟩ => ⟨S_, .f32⟩
  | .hbm, ⟨61, _⟩ => ⟨S16, .f32⟩
  | .hbm, ⟨62, _⟩ => ⟨S16, .f32⟩
  | .hbm, ⟨63, _⟩ => ⟨S16, .f32⟩
  | .hbm, ⟨64, _⟩ => ⟨S_, .f32⟩
  | .hbm, ⟨65, _⟩ => ⟨S16, .f32⟩
  | .hbm, ⟨66, _⟩ => ⟨S16, .f32⟩
  | .hbm, ⟨67, _⟩ => ⟨S_, .f32⟩
  | .hbm, ⟨68, _⟩ => ⟨S16, .f32⟩
  | .hbm, ⟨69, _⟩ => ⟨S16, .f32⟩
  | .hbm, ⟨70, _⟩ => ⟨S8192x1, .f32⟩
  | .hbm, ⟨71, _⟩ => ⟨S1x16, .f32⟩
  | .hbm, ⟨72, _⟩ => ⟨S8192x16, .f32⟩
  | .hbm, ⟨73, _⟩ => ⟨S8192x16, .f32⟩
  | .hbm, ⟨74, _⟩ => ⟨S8192x16, .f32⟩
  | .hbm, ⟨75, _⟩ => ⟨S8192x1, .f32⟩
  | .hbm, ⟨76, _⟩ => ⟨S1x16, .f32⟩
  | .hbm, ⟨77, _⟩ => ⟨S8192x16, .f32⟩
  | .hbm, ⟨78, _⟩ => ⟨S8192x16, .f32⟩
  | .hbm, ⟨79, _⟩ => ⟨S8192x16, .f32⟩
  | .hbm, ⟨80, _⟩ => ⟨S8192x32, .f32⟩
  | .hbm, ⟨81, _⟩ => ⟨S8192x32, .f32⟩
  | .hbm, ⟨82, _⟩ => ⟨S8192x32, .f32⟩
  | .hbm, ⟨83, _⟩ => ⟨S8192x32x1, .f32⟩
  | .hbm, ⟨84, _⟩ => ⟨S8192x32x1, .f32⟩
  | .hbm, ⟨85, _⟩ => ⟨S8192x32x2, .f32⟩
  | .hbm, ⟨86, _⟩ => ⟨S8192x64, .f32⟩
  | .hbm, ⟨87, _⟩ => ⟨S8192x32, .f32⟩
  | .hbm, ⟨88, _⟩ => ⟨S8192x32x1, .f32⟩
  | .hbm, ⟨89, _⟩ => ⟨S8192x32x1, .f32⟩
  | .hbm, ⟨90, _⟩ => ⟨S8192x32x2, .f32⟩
  | .hbm, ⟨91, _⟩ => ⟨S8192x64, .f32⟩
  | .hbm, ⟨92, _⟩ => ⟨S1x8192x1x64, .f32⟩
  | .hbm, ⟨93, _⟩ => ⟨S1x8192x2x64, .f32⟩
  | .hbm, ⟨94, _⟩ => ⟨S8192x128, .f32⟩
  | .hbm, ⟨95, _⟩ => ⟨S1x8192x1x64, .f32⟩
  | .hbm, ⟨96, _⟩ => ⟨S1x8192x2x64, .f32⟩
  | .hbm, ⟨97, _⟩ => ⟨S8192x128, .f32⟩
  | .hbm, ⟨98, _⟩ => ⟨S16384x1024, .f32⟩
  | .hbm, ⟨99, _⟩ => ⟨S1x1024, .f32⟩
  | .hbm, ⟨100, _⟩ => ⟨S1024x2336, .bf16⟩
  | .hbm, ⟨101, _⟩ => ⟨S16384x512, .bf16⟩
  | .hbm, ⟨102, _⟩ => ⟨S2x128x8192, .bf16⟩
  | .hbm, ⟨103, _⟩ => ⟨S2x2x8192x128, .bf16⟩
  | .hbm, ⟨104, _⟩ => ⟨S16384x256, .f32⟩
  | .hbm, ⟨105, _⟩ => ⟨S16384x256, .f32⟩
  | .hbm, ⟨106, _⟩ => ⟨S16384x512, .bf16⟩
  | .hbm, ⟨107, _⟩ => ⟨S16384x256, .f32⟩
  | .hbm, ⟨108, _⟩ => ⟨S16384x256, .f32⟩
  | .hbm, ⟨109, _⟩ => ⟨S16384x512, .bf16⟩
  | .local _ .vmem, ⟨0, _⟩ => ⟨S1024x1024, .f32⟩
  | .local _ .vmem, ⟨1, _⟩ => ⟨S1024x1024, .f32⟩
  | .local _ .vmem, ⟨2, _⟩ => ⟨S1x1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1024, .f32⟩
  | .local _ .vmem, ⟨7, _⟩ => ⟨S1024x2336, .bf16⟩
  | .local _ .vmem, ⟨8, _⟩ => ⟨S256x256, .bf16⟩
  | .local _ .vmem, ⟨9, _⟩ => ⟨S1x640, .f32⟩
  | .local _ .vmem, ⟨10, _⟩ => ⟨S1024x128, .f32⟩
  | .local _ .vmem, ⟨11, _⟩ => ⟨S1024x128, .f32⟩
  | .local _ .vmem, ⟨12, _⟩ => ⟨S1024x128, .f32⟩
  | .local _ .vmem, ⟨13, _⟩ => ⟨S1024x128, .f32⟩
  | .local _ .vmem, ⟨14, _⟩ => ⟨S128x512, .bf16⟩
  | .local _ .vmem, ⟨15, _⟩ => ⟨S1x512, .f32⟩
  | .local _ .vmem, ⟨16, _⟩ => ⟨S1024x512, .bf16⟩
  | .local _ .vmem, ⟨17, _⟩ => ⟨S1024x512, .bf16⟩
  | .local _ .vmem, ⟨18, _⟩ => ⟨S1x128x1024, .bf16⟩
  | .local _ .vmem, ⟨19, _⟩ => ⟨S1x128x1024, .bf16⟩
  | .local _ .vmem, ⟨20, _⟩ => ⟨S1x2x1024x128, .bf16⟩
  | .local _ .vmem, ⟨21, _⟩ => ⟨S1x2x1024x128, .bf16⟩
  | .local _ .vmem, ⟨22, _⟩ => ⟨S1024x256, .f32⟩
  | .local _ .vmem, ⟨23, _⟩ => ⟨S1024x256, .f32⟩
  | .local _ .vmem, ⟨24, _⟩ => ⟨S1024x256, .f32⟩
  | .local _ .vmem, ⟨25, _⟩ => ⟨S1024x256, .f32⟩
  | .local _ .vmem, ⟨26, _⟩ => ⟨S1024x512, .bf16⟩
  | .local _ .vmem, ⟨27, _⟩ => ⟨S1024x512, .bf16⟩
  | .local _ .vmem, ⟨28, _⟩ => ⟨S1024x256, .f32⟩
  | .local _ .vmem, ⟨29, _⟩ => ⟨S1024x256, .f32⟩
  | .local _ .vmem, ⟨30, _⟩ => ⟨S1024x256, .f32⟩
  | .local _ .vmem, ⟨31, _⟩ => ⟨S1024x256, .f32⟩
  | .local _ .vmem, ⟨32, _⟩ => ⟨S1024x512, .bf16⟩
  | .local _ .vmem, ⟨33, _⟩ => ⟨S1024x512, .bf16⟩
  | _, _ => ⟨S2x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | _, _ => false

abbrev semScoped : Fin 0 → Bool
  | ⟨_, h⟩ => absurd h (Nat.not_lt_zero _)

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  ofTc nBuf bufTy 0 34 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_cst : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_0 : Ref sig .tc := ⟨.hbm, 29, rfl⟩
abbrev main_cst_1 : Ref sig .tc := ⟨.hbm, 30, rfl⟩
abbrev main_call0_v0 : Ref sig .tc := ⟨.hbm, 31, rfl⟩
abbrev main_call0_v1 : Ref sig .tc := ⟨.hbm, 32, rfl⟩
abbrev main_v18 : Ref sig .tc := ⟨.hbm, 33, rfl⟩
abbrev main_v19 : Ref sig .tc := ⟨.hbm, 34, rfl⟩
abbrev main_cst_2 : Ref sig .tc := ⟨.hbm, 35, rfl⟩
abbrev main_v20 : Ref sig .tc := ⟨.hbm, 36, rfl⟩
abbrev main_c : Ref sig .tc := ⟨.hbm, 37, rfl⟩
abbrev main_v21 : Ref sig .tc := ⟨.hbm, 38, rfl⟩
abbrev main_c_3 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_c_4 : Ref sig .tc := ⟨.hbm, 43, rfl⟩
abbrev main_v25 : Ref sig .tc := ⟨.hbm, 44, rfl⟩
abbrev main_c_5 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_cst_6 : Ref sig .tc := ⟨.hbm, 57, rfl⟩
abbrev main_v37 : Ref sig .tc := ⟨.hbm, 58, rfl⟩
abbrev main_v38 : Ref sig .tc := ⟨.hbm, 59, rfl⟩
abbrev main_cst_7 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_cst_8 : Ref sig .tc := ⟨.hbm, 64, rfl⟩
abbrev main_v42 : Ref sig .tc := ⟨.hbm, 65, rfl⟩
abbrev main_v43 : Ref sig .tc := ⟨.hbm, 66, rfl⟩
abbrev main_cst_9 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_v72 : Ref sig .tc := ⟨.hbm, 96, rfl⟩
abbrev main_v73 : Ref sig .tc := ⟨.hbm, 97, rfl⟩
abbrev main_v74 : Ref sig .tc := ⟨.hbm, 98, rfl⟩
abbrev main_v75 : Ref sig .tc := ⟨.hbm, 99, rfl⟩
abbrev main_v76 : Ref sig .tc := ⟨.hbm, 100, rfl⟩
abbrev main_v77_0 : Ref sig .tc := ⟨.hbm, 101, rfl⟩
abbrev main_v77_1 : Ref sig .tc := ⟨.hbm, 102, rfl⟩
abbrev main_v77_2 : Ref sig .tc := ⟨.hbm, 103, rfl⟩
abbrev main_v77_3 : Ref sig .tc := ⟨.hbm, 104, rfl⟩
abbrev main_v77_4 : Ref sig .tc := ⟨.hbm, 105, rfl⟩
abbrev main_v77_5 : Ref sig .tc := ⟨.hbm, 106, rfl⟩
abbrev main_v77_6 : Ref sig .tc := ⟨.hbm, 107, rfl⟩
abbrev main_v77_7 : Ref sig .tc := ⟨.hbm, 108, rfl⟩
abbrev main_v77_8 : Ref sig .tc := ⟨.hbm, 109, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg11_1 : Ref sig .tc := ⟨.vmem, 17, rfl⟩
abbrev cc0_stg12_0 : Ref sig .tc := ⟨.vmem, 18, rfl⟩
abbrev cc0_stg12_1 : Ref sig .tc := ⟨.vmem, 19, rfl⟩
abbrev cc0_stg13_0 : Ref sig .tc := ⟨.vmem, 20, rfl⟩
abbrev cc0_stg13_1 : Ref sig .tc := ⟨.vmem, 21, rfl⟩
abbrev cc0_stg14_0 : Ref sig .tc := ⟨.vmem, 22, rfl⟩
abbrev cc0_stg14_1 : Ref sig .tc := ⟨.vmem, 23, rfl⟩
abbrev cc0_stg15_0 : Ref sig .tc := ⟨.vmem, 24, rfl⟩
abbrev cc0_stg15_1 : Ref sig .tc := ⟨.vmem, 25, rfl⟩
abbrev cc0_stg16_0 : Ref sig .tc := ⟨.vmem, 26, rfl⟩
abbrev cc0_stg16_1 : Ref sig .tc := ⟨.vmem, 27, rfl⟩
abbrev cc0_stg17_0 : Ref sig .tc := ⟨.vmem, 28, rfl⟩
abbrev cc0_stg17_1 : Ref sig .tc := ⟨.vmem, 29, rfl⟩
abbrev cc0_stg18_0 : Ref sig .tc := ⟨.vmem, 30, rfl⟩
abbrev cc0_stg18_1 : Ref sig .tc := ⟨.vmem, 31, rfl⟩
abbrev cc0_stg19_0 : Ref sig .tc := ⟨.vmem, 32, rfl⟩
abbrev cc0_stg19_1 : Ref sig .tc := ⟨.vmem, 33, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem10_0 : DmaSem sig := 15
abbrev cc0_sem11_0 : DmaSem sig := 16
abbrev cc0_sem11_1 : DmaSem sig := 17
abbrev cc0_sem12_0 : DmaSem sig := 18
abbrev cc0_sem12_1 : DmaSem sig := 19
abbrev cc0_sem13_0 : DmaSem sig := 20
abbrev cc0_sem13_1 : DmaSem sig := 21
abbrev cc0_sem14_0 : DmaSem sig := 22
abbrev cc0_sem14_1 : DmaSem sig := 23
abbrev cc0_sem15_0 : DmaSem sig := 24
abbrev cc0_sem15_1 : DmaSem sig := 25
abbrev cc0_sem16_0 : DmaSem sig := 26
abbrev cc0_sem16_1 : DmaSem sig := 27
abbrev cc0_sem17_0 : DmaSem sig := 28
abbrev cc0_sem17_1 : DmaSem sig := 29
abbrev cc0_sem18_0 : DmaSem sig := 30
abbrev cc0_sem18_1 : DmaSem sig := 31
abbrev cc0_sem19_0 : DmaSem sig := 32
abbrev cc0_sem19_1 : DmaSem sig := 33

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_2 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c1_i32_5 : BitVec 32 := 1#32
  let c0_i32_6 : BitVec 32 := 0#32
  ![v16.toNat, c0_i32_4.toNat, c1_i32_5.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_8 (i : grid0.Coords) : Fin 2 → Nat :=
  let arg0 : BitVec 32 := BitVec.ofNat 32 (i 0).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc0_transform_13 (i : grid0.Coords) : Fin 4 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, c0_i32_10.toNat, v26.toNat, c0_i32_11.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_19 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x2336 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x256 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x640 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S1024x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1024x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S128x512 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x512 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S1024x512 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S1x128x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S1x2x1024x128 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S1024x256 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S1024x256 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S1024x512 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S1024x256 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S1024x256 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S1024x512 .bf16 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]
-- ==== Reference4Ideal.lean ====
abbrev S2x8192x1024 : Shape := ⟨3, ![2, 8192, 1024]⟩
abbrev S2x6144 : Shape := ⟨2, ![2, 6144]⟩
abbrev S1024 : Shape := ⟨1, ![1024]⟩
abbrev S1024x2336 : Shape := ⟨2, ![1024, 2336]⟩
abbrev S64 : Shape := ⟨1, ![64]⟩
abbrev S16x256 : Shape := ⟨2, ![16, 256]⟩
abbrev S256 : Shape := ⟨1, ![256]⟩
abbrev S128 : Shape := ⟨1, ![128]⟩
abbrev S128x1 : Shape := ⟨2, ![128, 1]⟩
abbrev S128x64 : Shape := ⟨2, ![128, 64]⟩
abbrev S8192 : Shape := ⟨1, ![8192]⟩
abbrev S1x64 : Shape := ⟨2, ![1, 64]⟩
abbrev S16 : Shape := ⟨1, ![16]⟩
abbrev S_ : Shape := ⟨0, ![]⟩
abbrev S8192x1 : Shape := ⟨2, ![8192, 1]⟩
abbrev S1x16 : Shape := ⟨2, ![1, 16]⟩
abbrev S8192x16 : Shape := ⟨2, ![8192, 16]⟩
abbrev S8192x32 : Shape := ⟨2, ![8192, 32]⟩
abbrev S2x1024 : Shape := ⟨2, ![2, 1024]⟩
abbrev S2x1x1024 : Shape := ⟨3, ![2, 1, 1024]⟩
abbrev S2x8192 : Shape := ⟨2, ![2, 8192]⟩
abbrev S2x8192x1 : Shape := ⟨3, ![2, 8192, 1]⟩
abbrev S1x1x1024 : Shape := ⟨3, ![1, 1, 1024]⟩
abbrev S2x8192x2336 : Shape := ⟨3, ![2, 8192, 2336]⟩
abbrev S2x8192x512 : Shape := ⟨3, ![2, 8192, 512]⟩
abbrev S2x8192x128 : Shape := ⟨3, ![2, 8192, 128]⟩
abbrev S2x8192x256 : Shape := ⟨3, ![2, 8192, 256]⟩
abbrev S2x8192x32 : Shape := ⟨3, ![2, 8192, 32]⟩
abbrev S2x8192x8x64 : Shape := ⟨4, ![2, 8192, 8, 64]⟩
abbrev S2x8192x8 : Shape := ⟨3, ![2, 8192, 8]⟩
abbrev S2x8192x8x1 : Shape := ⟨4, ![2, 8192, 8, 1]⟩
abbrev S1x1x1x64 : Shape := ⟨4, ![1, 1, 1, 64]⟩
abbrev S2x8192x8x32x2 : Shape := ⟨5, ![2, 8192, 8, 32, 2]⟩
abbrev S2x8192x8x32x1 : Shape := ⟨5, ![2, 8192, 8, 32, 1]⟩
abbrev S2x8192x8x32 : Shape := ⟨4, ![2, 8192, 8, 32]⟩
abbrev S8192x1x32 : Shape := ⟨3, ![8192, 1, 32]⟩
abbrev S1x8192x1x32 : Shape := ⟨4, ![1, 8192, 1, 32]⟩
abbrev S2x8192x2x64 : Shape := ⟨4, ![2, 8192, 2, 64]⟩
abbrev S2x8192x2 : Shape := ⟨3, ![2, 8192, 2]⟩
abbrev S2x8192x2x1 : Shape := ⟨4, ![2, 8192, 2, 1]⟩
abbrev S2x8192x2x32x2 : Shape := ⟨5, ![2, 8192, 2, 32, 2]⟩
abbrev S2x8192x2x32x1 : Shape := ⟨5, ![2, 8192, 2, 32, 1]⟩
abbrev S2x8192x2x32 : Shape := ⟨4, ![2, 8192, 2, 32]⟩
abbrev S2x2x8192x64 : Shape := ⟨4, ![2, 2, 8192, 64]⟩
abbrev S2x2x8192x1 : Shape := ⟨4, ![2, 2, 8192, 1]⟩
abbrev S2x2x8192x63 : Shape := ⟨4, ![2, 2, 8192, 63]⟩
abbrev S2x2x8192x128 : Shape := ⟨4, ![2, 2, 8192, 128]⟩
abbrev S16384x512 : Shape := ⟨2, ![16384, 512]⟩
abbrev S2x128x8192 : Shape := ⟨3, ![2, 128, 8192]⟩
abbrev S16384x256 : Shape := ⟨2, ![16384, 256]⟩

abbrev nBuf : Space → Nat
  | .hbm => 195
  | .vmem => 0
  | .smem => 0
  | _ => 0

abbrev hbmTy0_0 (i : Nat) : BufTy := match i % 128 with
  | 0 => ⟨S2x8192x1024, .f32⟩
  | 1 => ⟨S2x6144, .f32⟩
  | 2 => ⟨S1024, .f32⟩
  | 3 => ⟨S1024x2336, .f32⟩
  | 4 => ⟨S64, .f32⟩
  | 5 => ⟨S64, .f32⟩
  | 6 => ⟨S16x256, .f32⟩
  | 7 => ⟨S256, .f32⟩
  | 8 => ⟨S16x256, .f32⟩
  | 9 => ⟨S256, .f32⟩
  | 10 => ⟨S128, .f32⟩
  | 11 => ⟨S128x1, .f32⟩
  | 12 => ⟨S128x64, .f32⟩
  | 13 => ⟨S8192, .f32⟩
  | 14 => ⟨S64, .f32⟩
  | 15 => ⟨S1x64, .f32⟩
  | 16 => ⟨S128x64, .f32⟩
  | 17 => ⟨S8192, .f32⟩
  | 18 => ⟨S16, .f32⟩
  | 19 => ⟨S_, .f32⟩
  | 20 => ⟨S16, .f32⟩
  | 21 => ⟨S16, .f32⟩
  | 22 => ⟨S_, .f32⟩
  | 23 => ⟨S16, .f32⟩
  | 24 => ⟨S16, .f32⟩
  | 25 => ⟨S16, .f32⟩
  | 26 => ⟨S_, .f32⟩
  | 27 => ⟨S16, .f32⟩
  | 28 => ⟨S16, .f32⟩
  | 29 => ⟨S_, .f32⟩
  | 30 => ⟨S16, .f32⟩
  | 31 => ⟨S16, .f32⟩
  | 32 => ⟨S8192x1, .f32⟩
  | 33 => ⟨S1x16, .f32⟩
  | 34 => ⟨S8192x16, .f32⟩
  | 35 => ⟨S8192x16, .f32⟩
  | 36 => ⟨S8192x16, .f32⟩
  | 37 => ⟨S8192x1, .f32⟩
  | 38 => ⟨S1x16, .f32⟩
  | 39 => ⟨S8192x16, .f32⟩
  | 40 => ⟨S8192x16, .f32⟩
  | 41 => ⟨S8192x16, .f32⟩
  | 42 => ⟨S8192x32, .f32⟩
  | 43 => ⟨S8192x32, .f32⟩
  | 44 => ⟨S8192x32, .f32⟩
  | 45 => ⟨S2x1024, .f32⟩
  | 46 => ⟨S2x1024, .f32⟩
  | 47 => ⟨S2x1024, .f32⟩
  | 48 => ⟨S2x1024, .f32⟩
  | 49 => ⟨S2x1024, .f32⟩
  | 50 => ⟨S2x1024, .f32⟩
  | 51 => ⟨S2x1x1024, .f32⟩
  | 52 => ⟨S2x1x1024, .f32⟩
  | 53 => ⟨S2x1x1024, .f32⟩
  | 54 => ⟨S2x1x1024, .f32⟩
  | 55 => ⟨S2x1x1024, .f32⟩
  | 56 => ⟨S2x1x1024, .f32⟩
  | 57 => ⟨S2x8192x1024, .f32⟩
  | 58 => ⟨S_, .f32⟩
  | 59 => ⟨S2x8192, .f32⟩
  | 60 => ⟨S2x8192x1, .f32⟩
  | 61 => ⟨S_, .f32⟩
  | 62 => ⟨S2x8192x1, .f32⟩
  | 63 => ⟨S2x8192x1, .f32⟩
  | 64 => ⟨S_, .f32⟩
  | 65 => ⟨S2x8192x1, .f32⟩
  | 66 => ⟨S2x8192x1, .f32⟩
  | 67 => ⟨S2x8192x1, .f32⟩
  | 68 => ⟨S2x8192x1024, .f32⟩
  | 69 => ⟨S2x8192x1024, .f32⟩
  | 70 => ⟨S1x1x1024, .f32⟩
  | 71 => ⟨S2x8192x1024, .f32⟩
  | 72 => ⟨S2x8192x1024, .f32⟩
  | 73 => ⟨S_, .f32⟩
  | 74 => ⟨S2x1x1024, .f32⟩
  | 75 => ⟨S2x1x1024, .f32⟩
  | 76 => ⟨S2x8192x1024, .f32⟩
  | 77 => ⟨S2x8192x1024, .f32⟩
  | 78 => ⟨S2x8192x1024, .f32⟩
  | 79 => ⟨S2x8192x1024, .f32⟩
  | 80 => ⟨S2x8192x2336, .f32⟩
  | 81 => ⟨S2x8192x512, .f32⟩
  | 82 => ⟨S2x8192x128, .f32⟩
  | 83 => ⟨S2x8192x128, .f32⟩
  | 84 => ⟨S2x8192x256, .f32⟩
  | 85 => ⟨S2x8192x256, .f32⟩
  | 86 => ⟨S2x8192x512, .f32⟩
  | 87 => ⟨S2x8192x32, .f32⟩
  | 88 => ⟨S2x8192x512, .f32⟩
  | 89 => ⟨S2x8192x8x64, .f32⟩
  | 90 => ⟨S2x8192x8x64, .f32⟩
  | 91 => ⟨S_, .f32⟩
  | 92 => ⟨S2x8192x8, .f32⟩
  | 93 => ⟨S2x8192x8x1, .f32⟩
  | 94 => ⟨S_, .f32⟩
  | 95 => ⟨S2x8192x8x1, .f32⟩
  | 96 => ⟨S2x8192x8x1, .f32⟩
  | 97 => ⟨S_, .f32⟩
  | 98 => ⟨S2x8192x8x1, .f32⟩
  | 99 => ⟨S2x8192x8x1, .f32⟩
  | 100 => ⟨S2x8192x8x1, .f32⟩
  | 101 => ⟨S2x8192x8x64, .f32⟩
  | 102 => ⟨S2x8192x8x64, .f32⟩
  | 103 => ⟨S1x1x1x64, .f32⟩
  | 104 => ⟨S2x8192x8x64, .f32⟩
  | 105 => ⟨S2x8192x8x64, .f32⟩
  | 106 => ⟨S2x8192x8x32x2, .f32⟩
  | 107 => ⟨S2x8192x8x32x1, .f32⟩
  | 108 => ⟨S2x8192x8x32, .f32⟩
  | 109 => ⟨S2x8192x8x32x1, .f32⟩
  | 110 => ⟨S2x8192x8x32, .f32⟩
  | 111 => ⟨S8192x1x32, .f32⟩
  | 112 => ⟨S8192x1x32, .f32⟩
  | 113 => ⟨S1x8192x1x32, .f32⟩
  | 114 => ⟨S2x8192x8x32, .f32⟩
  | 115 => ⟨S2x8192x8x32, .f32⟩
  | 116 => ⟨S1x8192x1x32, .f32⟩
  | 117 => ⟨S2x8192x8x32, .f32⟩
  | 118 => ⟨S2x8192x8x32, .f32⟩
  | 119 => ⟨S2x8192x8x32, .f32⟩
  | 120 => ⟨S1x8192x1x32, .f32⟩
  | 121 => ⟨S2x8192x8x32, .f32⟩
  | 122 => ⟨S2x8192x8x32, .f32⟩
  | 123 => ⟨S1x8192x1x32, .f32⟩
  | 124 => ⟨S2x8192x8x32, .f32⟩
  | 125 => ⟨S2x8192x8x32, .f32⟩
  | 126 => ⟨S2x8192x8x32, .f32⟩
  | 127 => ⟨S2x8192x8x32x1, .f32⟩
  | _ => ⟨S2x8192x1024, .f32⟩

abbrev hbmTy0_1 (i : Nat) : BufTy := match i % 128 with
  | 0 => ⟨S2x8192x8x32x1, .f32⟩
  | 1 => ⟨S2x8192x8x32x2, .f32⟩
  | 2 => ⟨S2x8192x8x64, .f32⟩
  | 3 => ⟨S2x8192x2x64, .f32⟩
  | 4 => ⟨S2x8192x2x64, .f32⟩
  | 5 => ⟨S_, .f32⟩
  | 6 => ⟨S2x8192x2, .f32⟩
  | 7 => ⟨S2x8192x2x1, .f32⟩
  | 8 => ⟨S_, .f32⟩
  | 9 => ⟨S2x8192x2x1, .f32⟩
  | 10 => ⟨S2x8192x2x1, .f32⟩
  | 11 => ⟨S_, .f32⟩
  | 12 => ⟨S2x8192x2x1, .f32⟩
  | 13 => ⟨S2x8192x2x1, .f32⟩
  | 14 => ⟨S2x8192x2x1, .f32⟩
  | 15 => ⟨S2x8192x2x64, .f32⟩
  | 16 => ⟨S2x8192x2x64, .f32⟩
  | 17 => ⟨S1x1x1x64, .f32⟩
  | 18 => ⟨S2x8192x2x64, .f32⟩
  | 19 => ⟨S2x8192x2x64, .f32⟩
  | 20 => ⟨S2x8192x2x32x2, .f32⟩
  | 21 => ⟨S2x8192x2x32x1, .f32⟩
  | 22 => ⟨S2x8192x2x32, .f32⟩
  | 23 => ⟨S2x8192x2x32x1, .f32⟩
  | 24 => ⟨S2x8192x2x32, .f32⟩
  | 25 => ⟨S8192x1x32, .f32⟩
  | 26 => ⟨S8192x1x32, .f32⟩
  | 27 => ⟨S1x8192x1x32, .f32⟩
  | 28 => ⟨S2x8192x2x32, .f32⟩
  | 29 => ⟨S2x8192x2x32, .f32⟩
  | 30 => ⟨S1x8192x1x32, .f32⟩
  | 31 => ⟨S2x8192x2x32, .f32⟩
  | 32 => ⟨S2x8192x2x32, .f32⟩
  | 33 => ⟨S2x8192x2x32, .f32⟩
  | 34 => ⟨S1x8192x1x32, .f32⟩
  | 35 => ⟨S2x8192x2x32, .f32⟩
  | 36 => ⟨S2x8192x2x32, .f32⟩
  | 37 => ⟨S1x8192x1x32, .f32⟩
  | 38 => ⟨S2x8192x2x32, .f32⟩
  | 39 => ⟨S2x8192x2x32, .f32⟩
  | 40 => ⟨S2x8192x2x32, .f32⟩
  | 41 => ⟨S2x8192x2x32x1, .f32⟩
  | 42 => ⟨S2x8192x2x32x1, .f32⟩
  | 43 => ⟨S2x8192x2x32x2, .f32⟩
  | 44 => ⟨S2x8192x2x64, .f32⟩
  | 45 => ⟨S2x8192x2x64, .f32⟩
  | 46 => ⟨S2x2x8192x64, .f32⟩
  | 47 => ⟨S_, .f32⟩
  | 48 => ⟨S2x2x8192x1, .f32⟩
  | 49 => ⟨S_, .f32⟩
  | 50 => ⟨S2x2x8192x63, .f32⟩
  | 51 => ⟨S2x2x8192x128, .f32⟩
  | 52 => ⟨S16384x512, .f32⟩
  | 53 => ⟨S16384x512, .bf16⟩
  | 54 => ⟨S2x8192x128, .f32⟩
  | 55 => ⟨S2x128x8192, .f32⟩
  | 56 => ⟨S2x128x8192, .bf16⟩
  | 57 => ⟨S2x2x8192x128, .bf16⟩
  | 58 => ⟨S_, .f32⟩
  | 59 => ⟨S2x8192x256, .f32⟩
  | 60 => ⟨S2x8192x256, .f32⟩
  | 61 => ⟨S16384x256, .f32⟩
  | 62 => ⟨S16384x256, .f32⟩
  | 63 => ⟨S16384x512, .f32⟩
  | 64 => ⟨S16384x512, .bf16⟩
  | 65 => ⟨S16384x512, .f32⟩
  | 66 => ⟨S16384x512, .bf16⟩
  | _ => ⟨S2x8192x1024, .f32⟩

abbrev hbmTy (i : Nat) : BufTy := match i / 128 with
  | 0 => hbmTy0_0 i
  | 1 => hbmTy0_1 i
  | _ => ⟨S2x8192x1024, .f32⟩

abbrev bufTy : (tb : Table) → Fin (tcTables nBuf tb) → BufTy
  | .hbm, ⟨i, _⟩ => hbmTy i
  | _, _ => ⟨S2x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_cst : Ref sig .tc := ⟨.hbm, 19, rfl⟩
abbrev main_v9 : Ref sig .tc := ⟨.hbm, 20, rfl⟩
abbrev main_v10 : Ref sig .tc := ⟨.hbm, 21, rfl⟩
abbrev main_cst_0 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_cst_1 : Ref sig .tc := ⟨.hbm, 26, rfl⟩
abbrev main_v14 : Ref sig .tc := ⟨.hbm, 27, rfl⟩
abbrev main_v15 : Ref sig .tc := ⟨.hbm, 28, rfl⟩
abbrev main_cst_2 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_cst_3 : Ref sig .tc := ⟨.hbm, 58, rfl⟩
abbrev main_v44 : Ref sig .tc := ⟨.hbm, 59, rfl⟩
abbrev main_v45 : Ref sig .tc := ⟨.hbm, 60, rfl⟩
abbrev main_cst_4 : Ref sig .tc := ⟨.hbm, 61, rfl⟩
abbrev main_v46 : Ref sig .tc := ⟨.hbm, 62, rfl⟩
abbrev main_v47 : Ref sig .tc := ⟨.hbm, 63, rfl⟩
abbrev main_cst_5 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_cst_6 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩
abbrev main_v69 : Ref sig .tc := ⟨.hbm, 87, rfl⟩
abbrev main_v70 : Ref sig .tc := ⟨.hbm, 88, rfl⟩
abbrev main_v71 : Ref sig .tc := ⟨.hbm, 89, rfl⟩
abbrev main_v72 : Ref sig .tc := ⟨.hbm, 90, rfl⟩
abbrev main_cst_7 : Ref sig .tc := ⟨.hbm, 91, rfl⟩
abbrev main_v73 : Ref sig .tc := ⟨.hbm, 92, rfl⟩
abbrev main_v74 : Ref sig .tc := ⟨.hbm, 93, rfl⟩
abbrev main_cst_8 : Ref sig .tc := ⟨.hbm, 94, rfl⟩
abbrev main_v75 : Ref sig .tc := ⟨.hbm, 95, rfl⟩
abbrev main_v76 : Ref sig .tc := ⟨.hbm, 96, rfl⟩
abbrev main_cst_9 : Ref sig .tc := ⟨.hbm, 97, rfl⟩
abbrev main_v77 : Ref sig .tc := ⟨.hbm, 98, rfl⟩
abbrev main_v78 : Ref sig .tc := ⟨.hbm, 99, rfl⟩
abbrev main_v79 : Ref sig .tc := ⟨.hbm, 100, rfl⟩
abbrev main_v80 : Ref sig .tc := ⟨.hbm, 101, rfl⟩
abbrev main_v81 : Ref sig .tc := ⟨.hbm, 102, rfl⟩
abbrev main_v82 : Ref sig .tc := ⟨.hbm, 103, rfl⟩
abbrev main_v83 : Ref sig .tc := ⟨.hbm, 104, rfl⟩
abbrev main_v84 : Ref sig .tc := ⟨.hbm, 105, rfl⟩
abbrev main_v85 : Ref sig .tc := ⟨.hbm, 106, rfl⟩
abbrev main_v86 : Ref sig .tc := ⟨.hbm, 107, rfl⟩
abbrev main_v87 : Ref sig .tc := ⟨.hbm, 108, rfl⟩
abbrev main_v88 : Ref sig .tc := ⟨.hbm, 109, rfl⟩
abbrev main_v89 : Ref sig .tc := ⟨.hbm, 110, rfl⟩
abbrev main_v90 : Ref sig .tc := ⟨.hbm, 111, rfl⟩
abbrev main_v91 : Ref sig .tc := ⟨.hbm, 112, rfl⟩
abbrev main_v92 : Ref sig .tc := ⟨.hbm, 113, rfl⟩
abbrev main_v93 : Ref sig .tc := ⟨.hbm, 114, rfl⟩
abbrev main_v94 : Ref sig .tc := ⟨.hbm, 115, rfl⟩
abbrev main_v95 : Ref sig .tc := ⟨.hbm, 116, rfl⟩
abbrev main_v96 : Ref sig .tc := ⟨.hbm, 117, rfl⟩
abbrev main_v97 : Ref sig .tc := ⟨.hbm, 118, rfl⟩
abbrev main_v98 : Ref sig .tc := ⟨.hbm, 119, rfl⟩
abbrev main_v99 : Ref sig .tc := ⟨.hbm, 120, rfl⟩
abbrev main_v100 : Ref sig .tc := ⟨.hbm, 121, rfl⟩
abbrev main_v101 : Ref sig .tc := ⟨.hbm, 122, rfl⟩
abbrev main_v102 : Ref sig .tc := ⟨.hbm, 123, rfl⟩
abbrev main_v103 : Ref sig .tc := ⟨.hbm, 124, rfl⟩
abbrev main_v104 : Ref sig .tc := ⟨.hbm, 125, rfl⟩
abbrev main_v105 : Ref sig .tc := ⟨.hbm, 126, rfl⟩
abbrev main_v106 : Ref sig .tc := ⟨.hbm, 127, rfl⟩
abbrev main_v107 : Ref sig .tc := ⟨.hbm, 128, rfl⟩
abbrev main_v108 : Ref sig .tc := ⟨.hbm, 129, rfl⟩
abbrev main_v109 : Ref sig .tc := ⟨.hbm, 130, rfl⟩
abbrev main_v110 : Ref sig .tc := ⟨.hbm, 131, rfl⟩
abbrev main_v111 : Ref sig .tc := ⟨.hbm, 132, rfl⟩
abbrev main_cst_10 : Ref sig .tc := ⟨.hbm, 133, rfl⟩
abbrev main_v112 : Ref sig .tc := ⟨.hbm, 134, rfl⟩
abbrev main_v113 : Ref sig .tc := ⟨.hbm, 135, rfl⟩
abbrev main_cst_11 : Ref sig .tc := ⟨.hbm, 136, rfl⟩
abbrev main_v114 : Ref sig .tc := ⟨.hbm, 137, rfl⟩
abbrev main_v115 : Ref sig .tc := ⟨.hbm, 138, rfl⟩
abbrev main_cst_12 : Ref sig .tc := ⟨.hbm, 139, rfl⟩
abbrev main_v116 : Ref sig .tc := ⟨.hbm, 140, rfl⟩
abbrev main_v117 : Ref sig .tc := ⟨.hbm, 141, rfl⟩
abbrev main_v118 : Ref sig .tc := ⟨.hbm, 142, rfl⟩
abbrev main_v119 : Ref sig .tc := ⟨.hbm, 143, rfl⟩
abbrev main_v120 : Ref sig .tc := ⟨.hbm, 144, rfl⟩
abbrev main_v121 : Ref sig .tc := ⟨.hbm, 145, rfl⟩
abbrev main_v122 : Ref sig .tc := ⟨.hbm, 146, rfl⟩
abbrev main_v123 : Ref sig .tc := ⟨.hbm, 147, rfl⟩
abbrev main_v124 : Ref sig .tc := ⟨.hbm, 148, rfl⟩
abbrev main_v125 : Ref sig .tc := ⟨.hbm, 149, rfl⟩
abbrev main_v126 : Ref sig .tc := ⟨.hbm, 150, rfl⟩
abbrev main_v127 : Ref sig .tc := ⟨.hbm, 151, rfl⟩
abbrev main_v128 : Ref sig .tc := ⟨.hbm, 152, rfl⟩
abbrev main_v129 : Ref sig .tc := ⟨.hbm, 153, rfl⟩
abbrev main_v130 : Ref sig .tc := ⟨.hbm, 154, rfl⟩
abbrev main_v131 : Ref sig .tc := ⟨.hbm, 155, rfl⟩
abbrev main_v132 : Ref sig .tc := ⟨.hbm, 156, rfl⟩
abbrev main_v133 : Ref sig .tc := ⟨.hbm, 157, rfl⟩
abbrev main_v134 : Ref sig .tc := ⟨.hbm, 158, rfl⟩
abbrev main_v135 : Ref sig .tc := ⟨.hbm, 159, rfl⟩
abbrev main_v136 : Ref sig .tc := ⟨.hbm, 160, rfl⟩
abbrev main_v137 : Ref sig .tc := ⟨.hbm, 161, rfl⟩
abbrev main_v138 : Ref sig .tc := ⟨.hbm, 162, rfl⟩
abbrev main_v139 : Ref sig .tc := ⟨.hbm, 163, rfl⟩
abbrev main_v140 : Ref sig .tc := ⟨.hbm, 164, rfl⟩
abbrev main_v141 : Ref sig .tc := ⟨.hbm, 165, rfl⟩
abbrev main_v142 : Ref sig .tc := ⟨.hbm, 166, rfl⟩
abbrev main_v143 : Ref sig .tc := ⟨.hbm, 167, rfl⟩
abbrev main_v144 : Ref sig .tc := ⟨.hbm, 168, rfl⟩
abbrev main_v145 : Ref sig .tc := ⟨.hbm, 169, rfl⟩
abbrev main_v146 : Ref sig .tc := ⟨.hbm, 170, rfl⟩
abbrev main_v147 : Ref sig .tc := ⟨.hbm, 171, rfl⟩
abbrev main_v148 : Ref sig .tc := ⟨.hbm, 172, rfl⟩
abbrev main_v149 : Ref sig .tc := ⟨.hbm, 173, rfl⟩
abbrev main_v150 : Ref sig .tc := ⟨.hbm, 174, rfl⟩
abbrev main_cst_13 : Ref sig .tc := ⟨.hbm, 175, rfl⟩
abbrev main_v151 : Ref sig .tc := ⟨.hbm, 176, rfl⟩
abbrev main_cst_14 : Ref sig .tc := ⟨.hbm, 177, rfl⟩
abbrev main_v152 : Ref sig .tc := ⟨.hbm, 178, rfl⟩
abbrev main_v153 : Ref sig .tc := ⟨.hbm, 179, rfl⟩
abbrev main_v154 : Ref sig .tc := ⟨.hbm, 180, rfl⟩
abbrev main_v155 : Ref sig .tc := ⟨.hbm, 181, rfl⟩
abbrev main_v156 : Ref sig .tc := ⟨.hbm, 182, rfl⟩
abbrev main_v157 : Ref sig .tc := ⟨.hbm, 183, rfl⟩
abbrev main_v158 : Ref sig .tc := ⟨.hbm, 184, rfl⟩
abbrev main_v159 : Ref sig .tc := ⟨.hbm, 185, rfl⟩
abbrev main_cst_15 : Ref sig .tc := ⟨.hbm, 186, rfl⟩
abbrev main_v160 : Ref sig .tc := ⟨.hbm, 187, rfl⟩
abbrev main_v161 : Ref sig .tc := ⟨.hbm, 188, rfl⟩
abbrev main_v162 : Ref sig .tc := ⟨.hbm, 189, rfl⟩
abbrev main_v163 : Ref sig .tc := ⟨.hbm, 190, rfl⟩
abbrev main_v164 : Ref sig .tc := ⟨.hbm, 191, rfl⟩
abbrev main_v165 : Ref sig .tc := ⟨.hbm, 192, rfl⟩
abbrev main_v166 : Ref sig .tc := ⟨.hbm, 193, rfl⟩
abbrev main_v167 : Ref sig .tc := ⟨.hbm, 194, rfl⟩

abbrev nD : Nat := 1
abbrev τ : Topo := Topo.v7x

variable {F : FTy → Type} [FloatOps F]
-- ==== Proof.AttnPre.lean ====
/- What the attention claim's precondition says of the queries and the keys: every entry is a real number. -/
module

public import proofs.«01_k».proof.Defs
public import Idealize.ShloMosaic.Lib.Pointwise
public import Idealize.ShloMosaic.Lib.ReduceAll
public import Idealize.ShloMosaic.Lib.WordArith

@[expose] public section

noncomputable section

namespace Cert.AttnPre

open Idealize.ShloMosaic Idealize.SL.Sem Cert.Pre_finite_scores

/-- The binary32 word of infinity. -/
theorem infinity : (FloatOps.ofBits (F := Ideal) .f32 0x7F800000#32 : EReal) = ⊤ := by
  simp [FloatOps.ofBits, Ideal.ofBits, Ideal.ieee]

/-- A number whose absolute value lies below infinity is real. -/
theorem real_of_abs_lt (x : EReal) (h : max x (-x) < ⊤) : ∃ r : ℝ, x = r := by
  induction x with
  | bot => simp at h
  | top => simp at h
  | coe r => exact ⟨r, rfl⟩

/-- An array all of whose entries test as below infinity in absolute value holds real numbers only. -/
theorem real_of_all {s : Shape} {axes : List (Fin s.rank)} (x : FVec Ideal s .f32) (hb : S_.BroadcastsInDim s (![] : Fin 0 → Fin s.rank))
    (init : IVec S_ 1) (h : s.ReducesTo axes S_) (hu : 0 < S_.numel) (j : S_.Idx)
    (e : Host.reduce IntOp.andi (cmpf .olt (Host.absf x) (broadcastInDim s ![] hb (constant (F := Ideal) S_ .f32 0x7F800000#32))) init h hu j = 1#1)
    (i : s.Idx) : ∃ r : ℝ, x i = r := by
  have : Subsingleton S_.Idx := ⟨fun a b => funext fun k => k.elim0⟩
  have := Host.reduce_andi_all _ _ h hu j e i
  refine real_of_abs_lt (x i) ?_
  have h2 : BitVec.ofBool (decide (max (x i) (-(x i)) < (FloatOps.ofBits (F := Ideal) .f32 0x7F800000#32 : EReal))) = 1#1 := this
  rw [infinity] at h2
  by_contra hn
  rw [decide_eq_false hn] at h2
  exact absurd h2 (by decide)

/-- A conjunction of two bits that is one has both bits one. -/
theorem both_one : ∀ a b : BitVec 1, IntOp.andi a b = 1#1 → a = 1#1 ∧ b = 1#1 := by decide

variable [hPre_finite_scores : Facts]

/-- Under the precondition the queries, the sequence's keys and the context's keys hold real numbers only. -/
theorem real_entries (x0 : FVec Ideal S2x8192x512 .f32) (x1 x2 : FVec Ideal S2x8192x128 .f32) (x3 x4 : FVec Ideal S2x256x128 .f32)
    (x5 x6 : FVec Ideal S64 .f32) (h : ∀ j, fn (F := Ideal) x0 x1 x2 x3 x4 x5 x6 j = 1#1) :
    (∀ i, ∃ r : ℝ, x0 i = r) ∧ (∀ i, ∃ r : ℝ, x1 i = r) ∧ ∀ i, ∃ r : ℝ, x3 i = r := by
  have hj := h (fun a => a.elim0)
  dsimp only [fn] at hj
  obtain ⟨hab, hc⟩ := both_one _ _ hj
  obtain ⟨ha, hb⟩ := both_one _ _ hab
  exact ⟨real_of_all x0 _ _ _ _ _ ha, real_of_all x1 _ _ _ _ _ hb, real_of_all x3 _ _ _ _ _ hc⟩

end Cert.AttnPre

end
-- ==== Proof.AttnRun.lean ====
/- What the attention kernel's body does on whole staging buffers, in its two live branches: the unshifted one (the flag word is
   zero) and the one with the running maximum (it is not). Each run hands back the inputs as they were and the output's buffer with a
   list of pieces written over it; the list is the witness. -/
module

public import proofs.«01_k».proof.Proof.Gen.KernelIdeal.Frame
public import proofs.«01_k».proof.Proof.Gen.KernelIdeal.Loops

@[expose] public section

set_option maxRecDepth 16384

noncomputable section

namespace Cert.KernelIdeal.Attn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

/-- The flag word as the body loads it from a staged block `x`. -/
abbrev flagOf (arg3 : Memref sig .tc .smem S1 .i32) (harg3 : arg3.IsWhole) (x : Vec F S1 .i32) : BitVec 32 :=
  arg3.view.readAt (Elt F) (Rect.unit (s := S1) ![0] S1.size inb_S1_S1_0).toLoadRect (harg3.unread x) (Shape.Idx.first (numel1_S1.symm ▸ Nat.one_pos))

/-- The test of the body's first conditional: the word is zero. -/
abbrev isZero (v : BitVec 32) : Prop := (Scalar.cmpi .ne (Scalar.extui (Scalar.cmpi .eq v 0#32)) 0#32) = 1#1

/-- The test of its second: the word is not zero. -/
abbrev isNonzero (v : BitVec 32) : Prop := (Scalar.cmpi .ne (Scalar.extui (Scalar.cmpi .ne v 0#32)) 0#32) = 1#1

/-- Exactly one of the two branches runs. -/
theorem isNonzero_iff (v : BitVec 32) : isNonzero v ↔ ¬ isZero v := by
  by_cases h : v = 0#32
  · subst h; simp [isNonzero, isZero, Scalar.cmpi, Scalar.extui, IntOp.cmpi]
  · have h' : (v == 0#32) = false := by simpa using h
    simp [isNonzero, isZero, Scalar.cmpi, Scalar.extui, IntOp.cmpi, h, h', bne]

set_option maxHeartbeats 2000000 in
/-- The body where the flag word is zero: powers of two of the bare scores. -/
noncomputable def runUnshifted (c : Dev nD) (i : grid0.Coords)
    (arg3 : Memref sig .tc .smem S1 .i32) (harg3 : arg3.IsWhole)
    (arg4 : Memref sig .tc .vmem S1024x256 .bf16) (harg4 : arg4.IsWhole)
    (arg5 : Memref sig .tc .vmem S1x64x8192 .bf16) (harg5 : arg5.IsWhole)
    (arg6 : Memref sig .tc .vmem S1x1x8192x128 .bf16) (harg6 : arg6.IsWhole)
    (arg7 : Memref sig .tc .vmem S1x64x256 .bf16) (harg7 : arg7.IsWhole)
    (arg8 : Memref sig .tc .vmem S1x1x256x128 .bf16) (harg8 : arg8.IsWhole)
    (arg9 : Memref sig .tc .vmem S1024x256 .bf16) (harg9 : arg9.IsWhole)
    (arg10 : Memref sig .tc .vmem S4096x64 .bf16) (harg10 : arg10.IsWhole)
    (arg11 : Memref sig .tc .vmem S4096x1 .f32) (harg11 : arg11.IsWhole)
    (arg12 : Memref sig .tc .vmem S4096x128 .f32) (harg12 : arg12.IsWhole)
    (x0 : Vec F S1 .i32) (x1 : Vec F S1024x256 .bf16) (x2 : Vec F S1x64x8192 .bf16) (x3 : Vec F S1x1x8192x128 .bf16) (x4 : Vec F S1x64x256 .bf16) (x5 : Vec F S1x1x256x128 .bf16)
    (hc0 : isZero (flagOf arg3 harg3 x0)) (hc1 : ¬ isNonzero (flagOf arg3 harg3 x0)) :
    { L6 : List (View.Piece (Elt F) S1024x256 .bf16) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5
                ∗ (∃ f, arg9.view.loc (c : Thread nD τ) ↦[arg9.view.set]{fullShare} arg9.view.writes (Elt F) f L6) ∗ (∃ d, owns (c : Thread nD τ) arg10 fullShare d) ∗ (∃ d, owns (c : Thread nD τ) arg11 fullShare d) ∗ (∃ d, owns (c : Thread nD τ) arg12 fullShare d)) -∗ K ⟨⟩))
          ⊢ wp frame (wpE (defs₀ (F := F)) Variants.none c none) E (cc0_attention i arg3 harg3 arg4 harg4 arg5 harg5 arg6 harg6 arg7 harg7 arg8 harg8 arg9 harg9 arg10 harg10 arg11 harg11 arg12 harg12) K } := by
  refine ⟨?_, fun E K => ?run⟩
  case run =>
    simp only [cc0_attention_eq_skeleton]; unfold cc0_attention_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%ds0, %fs0, -, HS0⟩, ⟨%ds1, %fs1, -, HS1⟩, ⟨%ds2, %fs2, -, HS2⟩, Hk⟩
    obtain rfl := harg3.eq_unread hf0; obtain rfl := harg4.eq_unread hf1; obtain rfl := harg5.eq_unread hf2
    obtain rfl := harg6.eq_unread hf3; obtain rfl := harg7.eq_unread hf4; obtain rfl := harg8.eq_unread hf5
    sl_exec (disch := first | sl_exact hc0 | sl_exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]; · iexists _; iexact H6
    isplitl [HS0]
    · iexists _, _; isplitr; swap; · iexact HS0
      ipureintro; rfl
    isplitl [HS1]
    · iexists _, _; isplitr; swap; · iexact HS1
      ipureintro; rfl
    iexists _, _; isplitr; swap; · iexact HS2
    ipureintro; rfl

set_option maxHeartbeats 2000000 in
/-- The body where the flag word is not zero: powers of two of the scores less their running maximum. -/
noncomputable def runShifted (c : Dev nD) (i : grid0.Coords)
    (arg3 : Memref sig .tc .smem S1 .i32) (harg3 : arg3.IsWhole)
    (arg4 : Memref sig .tc .vmem S1024x256 .bf16) (harg4 : arg4.IsWhole)
    (arg5 : Memref sig .tc .vmem S1x64x8192 .bf16) (harg5 : arg5.IsWhole)
    (arg6 : Memref sig .tc .vmem S1x1x8192x128 .bf16) (harg6 : arg6.IsWhole)
    (arg7 : Memref sig .tc .vmem S1x64x256 .bf16) (harg7 : arg7.IsWhole)
    (arg8 : Memref sig .tc .vmem S1x1x256x128 .bf16) (harg8 : arg8.IsWhole)
    (arg9 : Memref sig .tc .vmem S1024x256 .bf16) (harg9 : arg9.IsWhole)
    (arg10 : Memref sig .tc .vmem S4096x64 .bf16) (harg10 : arg10.IsWhole)
    (arg11 : Memref sig .tc .vmem S4096x1 .f32) (harg11 : arg11.IsWhole)
    (arg12 : Memref sig .tc .vmem S4096x128 .f32) (harg12 : arg12.IsWhole)
    (x0 : Vec F S1 .i32) (x1 : Vec F S1024x256 .bf16) (x2 : Vec F S1x64x8192 .bf16) (x3 : Vec F S1x1x8192x128 .bf16) (x4 : Vec F S1x64x256 .bf16) (x5 : Vec F S1x1x256x128 .bf16)
    (hc0 : ¬ isZero (flagOf arg3 harg3 x0)) (hc1 : isNonzero (flagOf arg3 harg3 x0)) :
    { L6 : List (View.Piece (Elt F) S1024x256 .bf16) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5
                ∗ (∃ f, arg9.view.loc (c : Thread nD τ) ↦[arg9.view.set]{fullShare} arg9.view.writes (Elt F) f L6) ∗ (∃ d, owns (c : Thread nD τ) arg10 fullShare d) ∗ (∃ d, owns (c : Thread nD τ) arg11 fullShare d) ∗ (∃ d, owns (c : Thread nD τ) arg12 fullShare d)) -∗ K ⟨⟩))
          ⊢ wp frame (wpE (defs₀ (F := F)) Variants.none c none) E (cc0_attention i arg3 harg3 arg4 harg4 arg5 harg5 arg6 harg6 arg7 harg7 arg8 harg8 arg9 harg9 arg10 harg10 arg11 harg11 arg12 harg12) K } := by
  refine ⟨?_, fun E K => ?run⟩
  case run =>
    simp only [cc0_attention_eq_skeleton]; unfold cc0_attention_skel
    simp only [k0_part2_eq_skeleton, k0_part3_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%ds0, %fs0, -, HS0⟩, ⟨%ds1, %fs1, -, HS1⟩, ⟨%ds2, %fs2, -, HS2⟩, Hk⟩
    obtain rfl := harg3.eq_unread hf0; obtain rfl := harg4.eq_unread hf1; obtain rfl := harg5.eq_unread hf2
    obtain rfl := harg6.eq_unread hf3; obtain rfl := harg7.eq_unread hf4; obtain rfl := harg8.eq_unread hf5
    sl_exec (disch := first | sl_exact hc0 | sl_exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]; · iexists _; iexact H6
    isplitl [HS0]
    · iexists _, _; isplitr; swap; · iexact HS0
      ipureintro; rfl
    isplitl [HS1]
    · iexists _, _; isplitr; swap; · iexact HS1
      ipureintro; rfl
    iexists _, _; isplitr; swap; · iexact HS2
    ipureintro; rfl

end Cert.KernelIdeal.Attn

end
-- ==== Proof.AttnLoop.lean ====
/- What the two loops over the key blocks leave in their accumulators: the recursion over the blocks, as plain vectors. -/
module

public import proofs.«01_k».proof.Proof.Gen.KernelIdeal.Loops
public import Idealize.ShloMosaic.Lib.Pipeline.Value

@[expose] public section

set_option maxRecDepth 16384

noncomputable section

namespace Cert.KernelIdeal.Attn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

theorem off2 : (![0, 0] : Fin 2 → Nat) = fun _ => 0 := funext fun a => by fin_cases a <;> rfl
theorem off3 : (![0, 0, 0] : Fin 3 → Nat) = fun _ => 0 := funext fun a => by fin_cases a <;> rfl
theorem off4 : (![0, 0, 0, 0] : Fin 4 → Nat) = fun _ => 0 := funext fun a => by fin_cases a <;> rfl

/-- Block `k` of the transposed keys, as the unshifted loop loads it. -/
def keysU (kt : Vec F S1x64x8192 .bf16) (k : Fin k0_t1_loop.trips) : Vec F S1x64x1024 .bf16 :=
  View.ld kt (Rect.unit (s := S1x64x8192) (k0_off1 k) S1x64x1024.size (k0_off1_inb k))

/-- Block `k` of the extended values, as the unshifted loop loads it. -/
def valsU (v : Vec F S1x1x8192x128 .bf16) (k : Fin k0_t1_loop.trips) : Vec F S1x1x1024x128 .bf16 :=
  View.ld v (Rect.unit (s := S1x1x8192x128) (k0_off2 k) S1x1x1024x128.size (k0_off2_inb k))

/-- The unshifted accumulator before block `k`. -/
def accU (kt : Vec F S1x64x8192 .bf16) (v : Vec F S1x1x8192x128 .bf16) (q : Vec F S4096x64 .bf16) :
    ℕ → Vec F S4096x128 .f32
  | 0 => k0_pay15
  | k + 1 => if h : k < k0_t1_loop.trips then k0_pay16 (keysU kt ⟨k, h⟩) (valsU v ⟨k, h⟩) q (accU kt v q k) else accU kt v q k

/-- Block `k` of the transposed keys, as the shifted loop loads it. -/
def keysS (kt : Vec F S1x64x8192 .bf16) (k : Fin k0_t2_loop.trips) : Vec F S1x64x1024 .bf16 :=
  View.ld kt (Rect.unit (s := S1x64x8192) (k0_off3 k) S1x64x1024.size (k0_off3_inb k))

/-- Block `k` of the extended values, as the shifted loop loads it. -/
def valsS (v : Vec F S1x1x8192x128 .bf16) (k : Fin k0_t2_loop.trips) : Vec F S1x1x1024x128 .bf16 :=
  View.ld v (Rect.unit (s := S1x1x8192x128) (k0_off4 k) S1x1x1024x128.size (k0_off4_inb k))

/-- The running maximum and the shifted accumulator before block `k`. -/
def accS (kt : Vec F S1x64x8192 .bf16) (v : Vec F S1x1x8192x128 .bf16) (q : Vec F S4096x64 .bf16) :
    ℕ → Vec F S4096x1 .f32 × Vec F S4096x128 .f32
  | 0 => (k0_pay24, k0_pay23)
  | k + 1 => if h : k < k0_t2_loop.trips then
      (k0_pay28 (keysS kt ⟨k, h⟩) q (accS kt v q k).1,
        k0_pay27 (keysS kt ⟨k, h⟩) (valsS v ⟨k, h⟩) q (accS kt v q k).1 (accS kt v q k).2)
    else accS kt v q k

theorem accU_succ (kt : Vec F S1x64x8192 .bf16) (v : Vec F S1x1x8192x128 .bf16) (q : Vec F S4096x64 .bf16) (k : ℕ)
    (h : k < k0_t1_loop.trips) :
    accU kt v q (k + 1) = k0_pay16 (keysU kt ⟨k, h⟩) (valsU v ⟨k, h⟩) q (accU kt v q k) := dif_pos h

theorem accS_succ (kt : Vec F S1x64x8192 .bf16) (v : Vec F S1x1x8192x128 .bf16) (q : Vec F S4096x64 .bf16) (k : ℕ)
    (h : k < k0_t2_loop.trips) :
    accS kt v q (k + 1) = (k0_pay28 (keysS kt ⟨k, h⟩) q (accS kt v q k).1,
        k0_pay27 (keysS kt ⟨k, h⟩) (valsS v ⟨k, h⟩) q (accS kt v q k).1 (accS kt v q k).2) := dif_pos h

/-- The whole of a 4096 × 128 buffer, of a 4096 × 1 one and of a 4096 × 64 one, as the body's stores and loads name it. -/
abbrev whole128 : Rect S4096x128 := Rect.unit (s := S4096x128) ![0, 0] S4096x128.size inb_S4096x128_S4096x128_0_0
abbrev whole1 : Rect S4096x1 := Rect.unit (s := S4096x1) ![0, 0] S4096x1.size inb_S4096x1_S4096x1_0_0
abbrev whole64 : Rect S4096x64 := Rect.unit (s := S4096x64) ![0, 0] S4096x64.size inb_S4096x64_S4096x64_0_0

section
variable (c : Dev nD) (i : grid0.Coords)
    (arg3 : Memref sig .tc .smem S1 .i32) (harg3 : arg3.IsWhole)
    (arg4 : Memref sig .tc .vmem S1024x256 .bf16) (harg4 : arg4.IsWhole)
    (arg5 : Memref sig .tc .vmem S1x64x8192 .bf16) (harg5 : arg5.IsWhole)
    (arg6 : Memref sig .tc .vmem S1x1x8192x128 .bf16) (harg6 : arg6.IsWhole)
    (arg7 : Memref sig .tc .vmem S1x64x256 .bf16) (harg7 : arg7.IsWhole)
    (arg8 : Memref sig .tc .vmem S1x1x256x128 .bf16) (harg8 : arg8.IsWhole)
    (arg9 : Memref sig .tc .vmem S1024x256 .bf16) (harg9 : arg9.IsWhole)
    (arg10 : Memref sig .tc .vmem S4096x64 .bf16) (harg10 : arg10.IsWhole)
    (arg11 : Memref sig .tc .vmem S4096x1 .f32) (harg11 : arg11.IsWhole)
    (arg12 : Memref sig .tc .vmem S4096x128 .f32) (harg12 : arg12.IsWhole)

/-- One trip of the unshifted loop stores the payload of what it loads. -/
theorem tripU (X5 : BufTy.Contents (Elt F) arg5.view.ty) (X6 : BufTy.Contents (Elt F) arg6.view.ty)
    (X10 : BufTy.Contents (Elt F) arg10.view.ty) (k : Fin k0_t1_loop.trips) (f : BufTy.Contents (Elt F) arg12.view.ty) :
    tripL_k0_t1 (F := F) Variants.none c none i arg3 harg3 arg4 harg4 arg5 harg5 arg6 harg6 arg7 harg7 arg8 harg8 arg9 harg9 arg10 harg10 arg11 harg11 arg12 harg12 X5 X6 X10 k f
      = [⟨whole128, k0_pay16 (keysU (arg5.view.read (Elt F) X5) k) (valsU (arg6.view.read (Elt F) X6) k)
          (View.ld (arg10.view.read (Elt F) X10) whole64) (View.ld (arg12.view.read (Elt F) f) whole128)⟩] := by
  unfold tripL_k0_t1 trip_k0_t1
  rfl

/-- After `k` trips of the unshifted loop, over the zero fill, the accumulator reads `accU k`. -/
theorem canonU (X5 : BufTy.Contents (Elt F) arg5.view.ty) (X6 : BufTy.Contents (Elt F) arg6.view.ty)
    (X10 : BufTy.Contents (Elt F) arg10.view.ty) (k : ℕ) (hk : k ≤ k0_t1_loop.trips) :
    View.canon (pb_k0_t1 (F := F) Variants.none c none i arg3 harg3 arg4 harg4 arg5 harg5 arg6 harg6 arg7 harg7 arg8 harg8 arg9 harg9 arg10 harg10 arg11 harg11 arg12 harg12 X5 X6 X10
        (arg12.view.writes (Elt F) arg12.view.junk [⟨whole128, k0_pay15⟩]) k ++ [⟨whole128, k0_pay15⟩])
      = accU (arg5.view.read (Elt F) X5) (arg6.view.read (Elt F) X6) (arg10.view.read (Elt F) X10) k := by
  induction k with
  | zero => exact View.canon_unit_zero off2 _ _
  | succ k ih =>
    have ih := ih (Nat.le_of_succ_le hk)
    rw [pb_k0_t1_succ (F := F) Variants.none c none i arg3 harg3 arg4 harg4 arg5 harg5 arg6 harg6 arg7 harg7 arg8 harg8 arg9 harg9 arg10 harg10 arg11 harg11 arg12 harg12 X5 X6 X10 _ ⟨k, hk⟩, tripU]
    rw [List.singleton_append, List.cons_append, View.canon_cons_unit_zero off2, ← View.writes_append,
      View.read_writes_junk_eq_canon, ih, View.ld_unit_zero off2, View.ld_unit_zero off2]
    exact (accU_succ _ _ _ k hk).symm

/-- One trip of the shifted loop stores the payloads of what it loads. -/
theorem tripS (X5 : BufTy.Contents (Elt F) arg5.view.ty) (X6 : BufTy.Contents (Elt F) arg6.view.ty)
    (X10 : BufTy.Contents (Elt F) arg10.view.ty) (k : Fin k0_t2_loop.trips) (g : BufTy.Contents (Elt F) arg11.view.ty)
    (f : BufTy.Contents (Elt F) arg12.view.ty) :
    tripL_k0_t2 (F := F) Variants.none c none i arg3 harg3 arg4 harg4 arg5 harg5 arg6 harg6 arg7 harg7 arg8 harg8 arg9 harg9 arg10 harg10 arg11 harg11 arg12 harg12 X5 X6 X10 k g f
      = ([⟨whole1, k0_pay28 (keysS (arg5.view.read (Elt F) X5) k)
          (View.ld (arg10.view.read (Elt F) X10) whole64) (View.ld (arg11.view.read (Elt F) g) whole1)⟩],
        [⟨whole128, k0_pay27 (keysS (arg5.view.read (Elt F) X5) k) (valsS (arg6.view.read (Elt F) X6) k)
          (View.ld (arg10.view.read (Elt F) X10) whole64) (View.ld (arg11.view.read (Elt F) g) whole1)
          (View.ld (arg12.view.read (Elt F) f) whole128)⟩]) := by
  unfold tripL_k0_t2 trip_k0_t2
  rfl

/-- After `k` trips of the shifted loop, over the fills, the running maximum and the accumulator read `accS k`. -/
theorem canonS (X5 : BufTy.Contents (Elt F) arg5.view.ty) (X6 : BufTy.Contents (Elt F) arg6.view.ty)
    (X10 : BufTy.Contents (Elt F) arg10.view.ty) (k : ℕ) (hk : k ≤ k0_t2_loop.trips) :
    View.canon ((pb_k0_t2 (F := F) Variants.none c none i arg3 harg3 arg4 harg4 arg5 harg5 arg6 harg6 arg7 harg7 arg8 harg8 arg9 harg9 arg10 harg10 arg11 harg11 arg12 harg12 X5 X6 X10
        (arg11.view.writes (Elt F) arg11.view.junk [⟨whole1, k0_pay24⟩])
        (arg12.view.writes (Elt F) arg12.view.junk [⟨whole128, k0_pay23⟩]) k).1 ++ [⟨whole1, k0_pay24⟩])
      = (accS (arg5.view.read (Elt F) X5) (arg6.view.read (Elt F) X6) (arg10.view.read (Elt F) X10) k).1
    ∧ View.canon ((pb_k0_t2 (F := F) Variants.none c none i arg3 harg3 arg4 harg4 arg5 harg5 arg6 harg6 arg7 harg7 arg8 harg8 arg9 harg9 arg10 harg10 arg11 harg11 arg12 harg12 X5 X6 X10
        (arg11.view.writes (Elt F) arg11.view.junk [⟨whole1, k0_pay24⟩])
        (arg12.view.writes (Elt F) arg12.view.junk [⟨whole128, k0_pay23⟩]) k).2 ++ [⟨whole128, k0_pay23⟩])
      = (accS (arg5.view.read (Elt F) X5) (arg6.view.read (Elt F) X6) (arg10.view.read (Elt F) X10) k).2 := by
  induction k with
  | zero => exact ⟨View.canon_unit_zero off2 _ _, View.canon_unit_zero off2 _ _⟩
  | succ k ih =>
    obtain ⟨ih1, ih2⟩ := ih (Nat.le_of_succ_le hk)
    rw [pb_k0_t2_succ (F := F) Variants.none c none i arg3 harg3 arg4 harg4 arg5 harg5 arg6 harg6 arg7 harg7 arg8 harg8 arg9 harg9 arg10 harg10 arg11 harg11 arg12 harg12 X5 X6 X10 _ _ ⟨k, hk⟩, tripS]
    simp only [List.singleton_append, List.cons_append]
    rw [View.canon_cons_unit_zero off2, View.canon_cons_unit_zero off2, ← View.writes_append, ← View.writes_append,
      View.read_writes_junk_eq_canon, View.read_writes_junk_eq_canon, ih1, ih2, View.ld_unit_zero off2,
      View.ld_unit_zero off2, View.ld_unit_zero off2]
    rw [accS_succ _ _ _ k hk]; exact ⟨rfl, rfl⟩

end

end Cert.KernelIdeal.Attn

end
-- ==== Proof.AttnBlock.lean ====
/- The output block that each branch of the attention kernel's body leaves, as a function of the input blocks. -/
module

public import proofs.«01_k».proof.Proof.AttnRun
public import proofs.«01_k».proof.Proof.AttnLoop

@[expose] public section

set_option maxRecDepth 16384

noncomputable section

namespace Cert.KernelIdeal.Attn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

/-- The scaled queries of the four heads of a group, one under the other, as the unshifted branch lays them out. -/
def headsU (x : Vec F S1024x256 .bf16) : Vec F S4096x64 .bf16 :=
  View.canon [⟨Rect.unit (s := S4096x64) ![3072, 0] S1024x64.size inb_S4096x64_S1024x64_3072_0, k0_pay14 x⟩,
    ⟨Rect.unit (s := S4096x64) ![2048, 0] S1024x64.size inb_S4096x64_S1024x64_2048_0, k0_pay13 x⟩,
    ⟨Rect.unit (s := S4096x64) ![1024, 0] S1024x64.size inb_S4096x64_S1024x64_1024_0, k0_pay12 x⟩,
    ⟨Rect.unit (s := S4096x64) ![0, 0] S1024x64.size inb_S4096x64_S1024x64_0_0, k0_pay11 x⟩]

/-- The same, as the shifted branch lays them out. -/
def headsS (x : Vec F S1024x256 .bf16) : Vec F S4096x64 .bf16 :=
  View.canon [⟨Rect.unit (s := S4096x64) ![3072, 0] S1024x64.size inb_S4096x64_S1024x64_3072_0, k0_pay22 x⟩,
    ⟨Rect.unit (s := S4096x64) ![2048, 0] S1024x64.size inb_S4096x64_S1024x64_2048_0, k0_pay21 x⟩,
    ⟨Rect.unit (s := S4096x64) ![1024, 0] S1024x64.size inb_S4096x64_S1024x64_1024_0, k0_pay20 x⟩,
    ⟨Rect.unit (s := S4096x64) ![0, 0] S1024x64.size inb_S4096x64_S1024x64_0_0, k0_pay19 x⟩]

/-- The unshifted accumulator after all blocks of the sequence and the context. -/
def totalU (x1 : Vec F S1024x256 .bf16) (x2 : Vec F S1x64x8192 .bf16) (x3 : Vec F S1x1x8192x128 .bf16) (x4 : Vec F S1x64x256 .bf16) (x5 : Vec F S1x1x256x128 .bf16) : Vec F S4096x128 .f32 :=
  k0_pay1 (k0_pay17 x4) x5 (headsU x1) (accU x2 x3 (headsU x1) k0_t1_loop.trips)

/-- The shifted accumulator after all blocks of the sequence and the context. -/
def totalS (x1 : Vec F S1024x256 .bf16) (x2 : Vec F S1x64x8192 .bf16) (x3 : Vec F S1x1x8192x128 .bf16) (x4 : Vec F S1x64x256 .bf16) (x5 : Vec F S1x1x256x128 .bf16) : Vec F S4096x128 .f32 :=
  k0_pay31 x4 x5 (headsS x1) (accS x2 x3 (headsS x1) k0_t2_loop.trips).1 (accS x2 x3 (headsS x1) k0_t2_loop.trips).2

/-- The output block of an accumulator `a`: the quotients, head by head, side by side (unshifted branch). -/
def blockU (a : Vec F S4096x128 .f32) : Vec F S1024x256 .bf16 :=
  View.canon [⟨Rect.unit (s := S1024x256) ![0, 192] S1024x64.size inb_S1024x256_S1024x64_0_192, k0_pay6 a⟩,
    ⟨Rect.unit (s := S1024x256) ![0, 128] S1024x64.size inb_S1024x256_S1024x64_0_128, k0_pay5 a⟩,
    ⟨Rect.unit (s := S1024x256) ![0, 64] S1024x64.size inb_S1024x256_S1024x64_0_64, k0_pay4 a⟩,
    ⟨Rect.unit (s := S1024x256) ![0, 0] S1024x64.size inb_S1024x256_S1024x64_0_0, k0_pay3 a⟩]

/-- The same in the shifted branch. -/
def blockS (a : Vec F S4096x128 .f32) : Vec F S1024x256 .bf16 :=
  View.canon [⟨Rect.unit (s := S1024x256) ![0, 192] S1024x64.size inb_S1024x256_S1024x64_0_192, k0_pay9 (k0_pay33 a)⟩,
    ⟨Rect.unit (s := S1024x256) ![0, 128] S1024x64.size inb_S1024x256_S1024x64_0_128, k0_pay8 (k0_pay33 a)⟩,
    ⟨Rect.unit (s := S1024x256) ![0, 64] S1024x64.size inb_S1024x256_S1024x64_0_64, k0_pay7 (k0_pay33 a)⟩,
    ⟨Rect.unit (s := S1024x256) ![0, 0] S1024x64.size inb_S1024x256_S1024x64_0_0, k0_pay34 a⟩]

/-- Over junk, a load of the whole of a buffer after some writes reads what they leave. -/
theorem readCov_whole {S : Shape} {e : EltTy} {sp : Space} (v : View sig .tc sp S e) (L : List (View.Piece (Elt F) S e))
    {off : Fin S.rank → Nat} (h : off = fun _ => 0) (inb : ∀ a, off a + S.size a ≤ S.size a) :
    v.readCov L (Rect.unit off S.size inb).toLoadRect = View.canon L := by
  show View.ld (v.read (Elt F) (v.writes (Elt F) v.junk L)) (Rect.unit off S.size inb) = _
  rw [View.read_writes_junk_eq_canon]
  exact View.ld_unit_zero h inb _

/-- A load of the whole of a buffer that holds `x` reads `x`. -/
theorem readAt_whole {S : Shape} {e : EltTy} {sp : Space} {r : Memref sig .tc sp S e} (hr : r.IsWhole) (x : Vec F S e)
    {off : Fin S.rank → Nat} (h : off = fun _ => 0) (inb : ∀ a, off a + S.size a ≤ S.size a) :
    r.view.readAt (Elt F) (Rect.unit off S.size inb).toLoadRect (hr.unread x) = x := by
  show View.ld (r.view.read (Elt F) (hr.unread x)) (Rect.unit off S.size inb) = _
  rw [hr.read_unread]
  exact View.ld_unit_zero h inb _

section
variable (c : Dev nD) (i : grid0.Coords)
    (arg3 : Memref sig .tc .smem S1 .i32) (harg3 : arg3.IsWhole)
    (arg4 : Memref sig .tc .vmem S1024x256 .bf16) (harg4 : arg4.IsWhole)
    (arg5 : Memref sig .tc .vmem S1x64x8192 .bf16) (harg5 : arg5.IsWhole)
    (arg6 : Memref sig .tc .vmem S1x1x8192x128 .bf16) (harg6 : arg6.IsWhole)
    (arg7 : Memref sig .tc .vmem S1x64x256 .bf16) (harg7 : arg7.IsWhole)
    (arg8 : Memref sig .tc .vmem S1x1x256x128 .bf16) (harg8 : arg8.IsWhole)
    (arg9 : Memref sig .tc .vmem S1024x256 .bf16) (harg9 : arg9.IsWhole)
    (arg10 : Memref sig .tc .vmem S4096x64 .bf16) (harg10 : arg10.IsWhole)
    (arg11 : Memref sig .tc .vmem S4096x1 .f32) (harg11 : arg11.IsWhole)
    (arg12 : Memref sig .tc .vmem S4096x128 .f32) (harg12 : arg12.IsWhole)
    (x0 : Vec F S1 .i32) (x1 : Vec F S1024x256 .bf16) (x2 : Vec F S1x64x8192 .bf16) (x3 : Vec F S1x1x8192x128 .bf16) (x4 : Vec F S1x64x256 .bf16) (x5 : Vec F S1x1x256x128 .bf16)

/-- What the unshifted branch's pieces leave in the output block. -/
theorem pieces_unshifted (hc0 : isZero (flagOf arg3 harg3 x0)) (hc1 : ¬ isNonzero (flagOf arg3 harg3 x0)) :
    View.canon (runUnshifted c i arg3 harg3 arg4 harg4 arg5 harg5 arg6 harg6 arg7 harg7 arg8 harg8 arg9 harg9 arg10 harg10 arg11 harg11 arg12 harg12 x0 x1 x2 x3 x4 x5 hc0 hc1).1 = blockU (totalU x1 x2 x3 x4 x5) := by
  unfold runUnshifted; dsimp only; sl_unfold_words
  simp only [readCov_whole (S := S4096x128) _ _ off2, readCov_whole (S := S4096x1) _ _ off2, readCov_whole (S := S4096x64) _ _ off2, View.canon_cons_unit_zero (S := S4096x128) off2, View.canon_cons_unit_zero (S := S4096x1) off2]
  rw [readAt_whole harg4 _ off2, readAt_whole harg7 _ off3, readAt_whole harg8 _ off4]
  have e := canonU c i arg3 harg3 arg4 harg4 arg5 harg5 arg6 harg6 arg7 harg7 arg8 harg8 arg9 harg9 arg10 harg10 arg11 harg11 arg12 harg12 (harg5.unread x2) (harg6.unread x3)
    (arg10.view.writes (Elt F) arg10.view.junk [⟨Rect.unit (s := S4096x64) ![3072, 0] S1024x64.size inb_S4096x64_S1024x64_3072_0, k0_pay14 x1⟩,
    ⟨Rect.unit (s := S4096x64) ![2048, 0] S1024x64.size inb_S4096x64_S1024x64_2048_0, k0_pay13 x1⟩,
    ⟨Rect.unit (s := S4096x64) ![1024, 0] S1024x64.size inb_S4096x64_S1024x64_1024_0, k0_pay12 x1⟩,
    ⟨Rect.unit (s := S4096x64) ![0, 0] S1024x64.size inb_S4096x64_S1024x64_0_0, k0_pay11 x1⟩]) k0_t1_loop.trips le_rfl
  rw [harg5.read_unread, harg6.read_unread, View.read_writes_junk_eq_canon] at e
  unfold blockU totalU headsU
  rw [← e]

/-- What the shifted branch's pieces leave in the output block. -/
theorem pieces_shifted (hc0 : ¬ isZero (flagOf arg3 harg3 x0)) (hc1 : isNonzero (flagOf arg3 harg3 x0)) :
    View.canon (runShifted c i arg3 harg3 arg4 harg4 arg5 harg5 arg6 harg6 arg7 harg7 arg8 harg8 arg9 harg9 arg10 harg10 arg11 harg11 arg12 harg12 x0 x1 x2 x3 x4 x5 hc0 hc1).1 = blockS (totalS x1 x2 x3 x4 x5) := by
  unfold runShifted; dsimp only; sl_unfold_words
  simp only [readCov_whole (S := S4096x128) _ _ off2, readCov_whole (S := S4096x1) _ _ off2, readCov_whole (S := S4096x64) _ _ off2, View.canon_cons_unit_zero (S := S4096x128) off2, View.canon_cons_unit_zero (S := S4096x1) off2]
  rw [readAt_whole harg4 _ off2, readAt_whole harg7 _ off3, readAt_whole harg8 _ off4]
  have e := canonS c i arg3 harg3 arg4 harg4 arg5 harg5 arg6 harg6 arg7 harg7 arg8 harg8 arg9 harg9 arg10 harg10 arg11 harg11 arg12 harg12 (harg5.unread x2) (harg6.unread x3)
    (arg10.view.writes (Elt F) arg10.view.junk [⟨Rect.unit (s := S4096x64) ![3072, 0] S1024x64.size inb_S4096x64_S1024x64_3072_0, k0_pay22 x1⟩,
    ⟨Rect.unit (s := S4096x64) ![2048, 0] S1024x64.size inb_S4096x64_S1024x64_2048_0, k0_pay21 x1⟩,
    ⟨Rect.unit (s := S4096x64) ![1024, 0] S1024x64.size inb_S4096x64_S1024x64_1024_0, k0_pay20 x1⟩,
    ⟨Rect.unit (s := S4096x64) ![0, 0] S1024x64.size inb_S4096x64_S1024x64_0_0, k0_pay19 x1⟩]) k0_t2_loop.trips le_rfl
  rw [harg5.read_unread, harg6.read_unread, View.read_writes_junk_eq_canon] at e
  unfold blockS totalS headsS
  rw [← e.1, ← e.2]

/-- The unshifted branch's four column pieces cover the output block. -/
theorem cover_unshifted (hc0 : isZero (flagOf arg3 harg3 x0)) (hc1 : ¬ isNonzero (flagOf arg3 harg3 x0)) (y : S1024x256.Idx) :
    ∃ p ∈ (runUnshifted c i arg3 harg3 arg4 harg4 arg5 harg5 arg6 harg6 arg7 harg7 arg8 harg8 arg9 harg9 arg10 harg10 arg11 harg11 arg12 harg12 x0 x1 x2 x3 x4 x5 hc0 hc1).1, y ∈ p.1.set :=
  View.cover_of_tiledL (runUnshifted c i arg3 harg3 arg4 harg4 arg5 harg5 arg6 harg6 arg7 harg7 arg8 harg8 arg9 harg9 arg10 harg10 arg11 harg11 arg12 harg12 x0 x1 x2 x3 x4 x5 hc0 hc1).1 S1024x64.size (by sl_kernel_rfl) y

/-- The shifted branch's four column pieces cover the output block. -/
theorem cover_shifted (hc0 : ¬ isZero (flagOf arg3 harg3 x0)) (hc1 : isNonzero (flagOf arg3 harg3 x0)) (y : S1024x256.Idx) :
    ∃ p ∈ (runShifted c i arg3 harg3 arg4 harg4 arg5 harg5 arg6 harg6 arg7 harg7 arg8 harg8 arg9 harg9 arg10 harg10 arg11 harg11 arg12 harg12 x0 x1 x2 x3 x4 x5 hc0 hc1).1, y ∈ p.1.set :=
  View.cover_of_tiledL (runShifted c i arg3 harg3 arg4 harg4 arg5 harg5 arg6 harg6 arg7 harg7 arg8 harg8 arg9 harg9 arg10 harg10 arg11 harg11 arg12 harg12 x0 x1 x2 x3 x4 x5 hc0 hc1).1 S1024x64.size (by sl_kernel_rfl) y

end

end Cert.KernelIdeal.Attn

end
-- ==== Proof.AttnLaunch.lean ====
/- The launch of the attention kernel: its data, its run, and that it leaves its arguments as they were. -/
module

public import proofs.«01_k».proof.Proof.AttnBlock
public import Idealize.ShloMosaic.Lib.Claim

@[expose] public section

set_option maxRecDepth 16384

noncomputable section

namespace Cert.KernelIdeal.Attn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## What the launch of the attention kernel leaves -/

abbrev ms0_0 (t : Fin cfg0.N) : Memref sig .tc .smem S1 .i32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1024x256 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x64x8192 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x1x8192x128 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x64x256 .bf16 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x1x256x128 .bf16 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1024x256 .bf16 := win0_6.stage (cfg0.slots t 6)
abbrev hs0_6 (t : Fin cfg0.N) : (ms0_6 t).IsWhole := hstage0_6 ((cfg0.slots t 6).cast nbuf0_6)

abbrev scM0_0 : Memref sig .tc .vmem S4096x64 .bf16 := Memref.whole cc0_scratch0
abbrev scM0_1 : Memref sig .tc .vmem S4096x1 .f32 := Memref.whole cc0_scratch1
abbrev scM0_2 : Memref sig .tc .vmem S4096x128 .f32 := Memref.whole cc0_scratch2

/-- The launch's own buffers: the three scratch buffers at some contents, beside the generator register. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d)) ∗ (∃ r, prngReg c r)) := by
  unfold Pipeline.ΦA; rw [scopedRest0_eq]; simp only [scM0_0, scM0_1, scM0_2, owns_whole]; try rfl

/-- The block that grid point `t` leaves in the output: the flag word chooses between the two branches. -/
def outAt (c : Dev nD) (t : Fin cfg0.N) : Vec F S1024x256 .bf16 :=
  open Classical in
  if isZero (flagOf (ms0_0 t) (hs0_0 t) (iblk m c 0 t)) then blockU (totalU (iblk m c 1 t) (iblk m c 2 t) (iblk m c 3 t) (iblk m c 4 t) (iblk m c 5 t)) else blockS (totalS (iblk m c 1 t) (iblk m c 2 t) (iblk m c 3 t) (iblk m c 4 t) (iblk m c 5 t))

/-- The data of the pipeline: each input window holds its block of the array, the output window the block `outAt`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => outAt m c t
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = outAt m c t := by dsimp only [dats]
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d

/-- What the body is called with at grid point `t`: every window's staging buffer and what the launch holds. -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d)))

/-- What the body gives back at grid point `t`. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t))

/-- What the output block is where the flag word is zero, and where it is not. -/
theorem outAt_zero (c : Dev nD) (t : Fin cfg0.N) (h : isZero (flagOf (ms0_0 t) (hs0_0 t) (iblk m c 0 t))) : outAt m c t = blockU (totalU (iblk m c 1 t) (iblk m c 2 t) (iblk m c 3 t) (iblk m c 4 t) (iblk m c 5 t)) := by
  unfold outAt; exact if_pos h
theorem outAt_nonzero (c : Dev nD) (t : Fin cfg0.N) (h : ¬ isZero (flagOf (ms0_0 t) (hs0_0 t) (iblk m c 0 t))) : outAt m c t = blockS (totalS (iblk m c 1 t) (iblk m c 2 t) (iblk m c 3 t) (iblk m c 4 t) (iblk m c 5 t)) := by
  unfold outAt; exact if_neg h

set_option maxHeartbeats 3200000 in
/-- The body at any grid point: one of the two branches runs, and its pieces make up the output block. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6]
  rw [show (dats m 0 c).Φ t.castSucc = Pipeline.ΦA spec0 c from rfl, PhiA0_eq]
  by_cases h0 : isZero (flagOf (ms0_0 t) (hs0_0 t) (iblk m c 0 t))
  · have h1 : ¬ isNonzero (flagOf (ms0_0 t) (hs0_0 t) (iblk m c 0 t)) := fun h => (isNonzero_iff _).mp h h0
    rw [outAt_zero m c t h0]
    iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩⟩
    iapply ((runUnshifted c (grid0.coords t) _ _ _ _ _ _ _ _ _ _ _ _ _ _ _ _ _ _ _ _ (iblk m c 0 t) (iblk m c 1 t) (iblk m c 2 t) (iblk m c 3 t) (iblk m c 4 t) (iblk m c 5 t) h0 h1).2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [HS0]; · iexact HS0
    isplitl [HS1]; · iexact HS1
    isplitl [HS2]; · iexact HS2
    iintro ⟨H0, H1, H2, H3, H4, H5, ⟨%f, H6⟩, HS0, HS1, HS2⟩
    isplitl [HS0 HS1 HS2 Hg]
    · isplitl [HS0 HS1 HS2]
      · isplitl [HS0]
        · iexact HS0
        isplitl [HS1]
        · iexact HS1
        iexact HS2
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    unfold owns; iexists _; isplitr; swap; iexact H6
    ipureintro
    exact (View.read_writes_eq_canon _ _ _ (fun y => cover_unshifted c (grid0.coords t) _ _ _ _ _ _ _ _ _ _ _ _ _ _ _ _ _ _ _ _ (iblk m c 0 t) (iblk m c 1 t) (iblk m c 2 t) (iblk m c 3 t) (iblk m c 4 t) (iblk m c 5 t) h0 h1 y)).trans
      (pieces_unshifted c (grid0.coords t) _ _ _ _ _ _ _ _ _ _ _ _ _ _ _ _ _ _ _ _ (iblk m c 0 t) (iblk m c 1 t) (iblk m c 2 t) (iblk m c 3 t) (iblk m c 4 t) (iblk m c 5 t) h0 h1)
  · have h1 : isNonzero (flagOf (ms0_0 t) (hs0_0 t) (iblk m c 0 t)) := (isNonzero_iff _).mpr h0
    rw [outAt_nonzero m c t h0]
    iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩⟩
    iapply ((runShifted c (grid0.coords t) _ _ _ _ _ _ _ _ _ _ _ _ _ _ _ _ _ _ _ _ (iblk m c 0 t) (iblk m c 1 t) (iblk m c 2 t) (iblk m c 3 t) (iblk m c 4 t) (iblk m c 5 t) h0 h1).2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [HS0]; · iexact HS0
    isplitl [HS1]; · iexact HS1
    isplitl [HS2]; · iexact HS2
    iintro ⟨H0, H1, H2, H3, H4, H5, ⟨%f, H6⟩, HS0, HS1, HS2⟩
    isplitl [HS0 HS1 HS2 Hg]
    · isplitl [HS0 HS1 HS2]
      · isplitl [HS0]
        · iexact HS0
        isplitl [HS1]
        · iexact HS1
        iexact HS2
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    unfold owns; iexists _; isplitr; swap; iexact H6
    ipureintro
    exact (View.read_writes_eq_canon _ _ _ (fun y => cover_shifted c (grid0.coords t) _ _ _ _ _ _ _ _ _ _ _ _ _ _ _ _ _ _ _ _ (iblk m c 0 t) (iblk m c 1 t) (iblk m c 2 t) (iblk m c 3 t) (iblk m c 4 t) (iblk m c 5 t) h0 h1 y)).trans
      (pieces_shifted c (grid0.coords t) _ _ _ _ _ _ _ _ _ _ _ _ _ _ _ _ _ _ _ _ (iblk m c 0 t) (iblk m c 1 t) (iblk m c 2 t) (iblk m c 3 t) (iblk m c 4 t) (iblk m c 5 t) h0 h1)

theorem defs₀_row (t : Fin cfg0.N) :
    defs₀ (F := F) .tc cfg0.body (cfg0.bodyArgs t (cfg0.slots t)) = bodyAt0 t := by
  unfold defs₀; rw [Defs.onTc_tc]

/-- The obligation on the body, at every grid point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
/-- The run of the program: it ends with the pipeline's arrays as the data say and with every counter at zero. -/
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

theorem run_main : θ_run defs (onTc (τ := τ) (main (F := F))) (s₀ m ρ) (Pipeline.FramePost cfgs (dats m) 0 (V m)) :=
  (θ_run defs _ _).mono (fun _ h => h.1) (run_main_quiescent m ρ)

/-- The run leaves the arguments as they were, with every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  θ_run_and (frame_of m ρ (dats m) (A_eq m) (run_main m ρ)) ((θ_run defs _ _).mono (fun _ h => h.2) (run_main_quiescent m ρ))

end Cert.KernelIdeal.Attn

end
-- ==== Proof.AttnHost.lean ====
/- The arrays that the attention kernel is launched on, element by element, from the arguments. -/
module

public import proofs.«01_k».proof.Proof.AttnLaunch
public import Idealize.ShloMosaic.Lib.Pointwise

@[expose] public section

set_option maxRecDepth 16384

noncomputable section

namespace Cert.KernelIdeal.Attn

open Idealize.ShloMosaic Idealize.ShloMosaic.TcCoe Idealize.ShloMosaic.StableHlo Idealize.ShloMosaic.Tactic Idealize.SL.Sem
open Cert.KernelIdeal Cert.KernelIdeal.Gen

/-- The queries as the kernel takes them: one row for each position of each batch. -/
def rowsOf (x : Vec Ideal S2x8192x512 .f32) : Vec Ideal S16384x512 .bf16 :=
  truncf (F := Ideal) .bf16 (shapeCast S16384x512 x shapeCasts_S2x8192x512_S16384x512) bitsLt_bf16_f32

theorem rowsOf_at (x : Vec Ideal S2x8192x512 .f32) (b : Fin 2) (s : Fin 8192) (R : Fin 16384) (C : Fin 512)
    (hR : R.val = 8192 * b.val + s.val) : rowsOf x (ix2 R C) = x (ix3 b s C) := by
  pointwise [rowsOf]
  refine congrArg x (funext fun a => Fin.ext ?_)
  match a with
  | ⟨0, _⟩ => simp; omega
  | ⟨1, _⟩ => simp; omega
  | ⟨2, _⟩ => simp

/-- The sequence's keys, transposed. -/
def keysOf (x : Vec Ideal S2x8192x128 .f32) : Vec Ideal S2x128x8192 .bf16 :=
  truncf (F := Ideal) .bf16 (transpose S2x128x8192 [0, 2, 1] x transposes_S2x8192x128_S2x128x8192_0_2_1) bitsLt_bf16_f32

theorem keysOf_at (x : Vec Ideal S2x8192x128 .f32) (b : Fin 2) (n : Fin 128) (j : Fin 8192) : keysOf x (ix3 b n j) = x (ix3 b j n) := by
  pointwise [keysOf]

/-- The sequence's values of each group, with a column of ones behind and zeros after it. -/
def valsOf (x : Vec Ideal S2x8192x128 .f32) : Vec Ideal S2x2x8192x128 .bf16 :=
  truncf (F := Ideal) .bf16 (concatenate S2x2x8192x128 3 [⟨S2x2x8192x64, transpose S2x2x8192x64 [0, 2, 1, 3] (shapeCast S2x8192x2x64 x shapeCasts_S2x8192x128_S2x8192x2x64) transposes_S2x8192x2x64_S2x2x8192x64_0_2_1_3⟩,
    ⟨S2x2x8192x1, broadcastInDim S2x2x8192x1 ![] bcast_S_S2x2x8192x1 (constant (F := Ideal) S_ .f32 0x3F800000#32)⟩,
    ⟨S2x2x8192x63, broadcastInDim S2x2x8192x63 ![] bcast_S_S2x2x8192x63 (constant (F := Ideal) S_ .f32 0x00000000#32)⟩]
    concatenates_S2x2x8192x64_S2x2x8192x1_S2x2x8192x63_S2x2x8192x128_d3) bitsLt_bf16_f32

theorem valsOf_at (x : Vec Ideal S2x8192x128 .f32) (b h : Fin 2) (j : Fin 8192) (n : Fin 64) (N : Fin 128) (hN : N.val = n.val) :
    valsOf x (ix4 b h j N) = x (ix3 b j ⟨64 * h.val + n.val, by omega⟩) := by
  have hn : N.val < 64 := by omega
  pointwise [valsOf]
  rw [dif_pos hn]
  refine congrArg x (funext fun a => Fin.ext ?_)
  match a with
  | ⟨0, _⟩ => simp <;> omega
  | ⟨1, _⟩ => simp <;> omega
  | ⟨2, _⟩ => simp <;> omega

theorem valsOf_one (x : Vec Ideal S2x8192x128 .f32) (b h : Fin 2) (j : Fin 8192) : valsOf x (ix4 b h j 64) = (1 : EReal) := by
  pointwise [valsOf]

/-- The context's keys, transposed. -/
def ctxKeysOf (x : Vec Ideal S2x256x128 .f32) : Vec Ideal S2x128x256 .bf16 :=
  truncf (F := Ideal) .bf16 (transpose S2x128x256 [0, 2, 1] x transposes_S2x256x128_S2x128x256_0_2_1) bitsLt_bf16_f32

theorem ctxKeysOf_at (x : Vec Ideal S2x256x128 .f32) (b : Fin 2) (n : Fin 128) (j : Fin 256) : ctxKeysOf x (ix3 b n j) = x (ix3 b j n) := by
  pointwise [ctxKeysOf]

/-- The context's values of each group, with a column of ones behind and zeros after it. -/
def ctxValsOf (x : Vec Ideal S2x256x128 .f32) : Vec Ideal S2x2x256x128 .bf16 :=
  truncf (F := Ideal) .bf16 (concatenate S2x2x256x128 3 [⟨S2x2x256x64, transpose S2x2x256x64 [0, 2, 1, 3] (shapeCast S2x256x2x64 x shapeCasts_S2x256x128_S2x256x2x64) transposes_S2x256x2x64_S2x2x256x64_0_2_1_3⟩,
    ⟨S2x2x256x1, broadcastInDim S2x2x256x1 ![] bcast_S_S2x2x256x1 (constant (F := Ideal) S_ .f32 0x3F800000#32)⟩,
    ⟨S2x2x256x63, broadcastInDim S2x2x256x63 ![] bcast_S_S2x2x256x63 (constant (F := Ideal) S_ .f32 0x00000000#32)⟩]
    concatenates_S2x2x256x64_S2x2x256x1_S2x2x256x63_S2x2x256x128_d3) bitsLt_bf16_f32

theorem ctxValsOf_at (x : Vec Ideal S2x256x128 .f32) (b h : Fin 2) (j : Fin 256) (n : Fin 64) (N : Fin 128) (hN : N.val = n.val) :
    ctxValsOf x (ix4 b h j N) = x (ix3 b j ⟨64 * h.val + n.val, by omega⟩) := by
  have hn : N.val < 64 := by omega
  pointwise [ctxValsOf]
  rw [dif_pos hn]
  refine congrArg x (funext fun a => Fin.ext ?_)
  match a with
  | ⟨0, _⟩ => simp <;> omega
  | ⟨1, _⟩ => simp <;> omega
  | ⟨2, _⟩ => simp <;> omega

theorem ctxValsOf_one (x : Vec Ideal S2x256x128 .f32) (b h : Fin 2) (j : Fin 256) : ctxValsOf x (ix4 b h j 64) = (1 : EReal) := by
  pointwise [ctxValsOf]

section
variable (m : (ℓ : Loc nD τ sig) → Buf (Elt Ideal) ℓ) (c : Dev nD)

theorem rows_eq : @Eq (Vec Ideal S16384x512 .bf16) (V m c main_v21) (rowsOf (m ((c.tc : Thread nD τ).loc main_arg0))) := by
  unfold V rowsOf
  after_results
  first | done | rfl

theorem keys_eq : @Eq (Vec Ideal S2x128x8192 .bf16) (V m c main_v23) (keysOf (m ((c.tc : Thread nD τ).loc main_arg1))) := by
  unfold V keysOf
  after_results
  first | done | rfl

theorem vals_eq : @Eq (Vec Ideal S2x2x8192x128 .bf16) (V m c main_v29) (valsOf (m ((c.tc : Thread nD τ).loc main_arg2))) := by
  unfold V valsOf
  after_results
  first | done | rfl

theorem ctxKeys_eq : @Eq (Vec Ideal S2x128x256 .bf16) (V m c main_v31) (ctxKeysOf (m ((c.tc : Thread nD τ).loc main_arg3))) := by
  unfold V ctxKeysOf
  after_results
  first | done | rfl

theorem ctxVals_eq : @Eq (Vec Ideal S2x2x256x128 .bf16) (V m c main_v37) (ctxValsOf (m ((c.tc : Thread nD τ).loc main_arg4))) := by
  unfold V ctxValsOf
  after_results
  first | done | rfl

end

end Cert.KernelIdeal.Attn

end
-- ==== Proof.AttnBlocks.lean ====
/- The blocks that a grid point of the attention launch takes, element by element, from the arguments. -/
module

public import proofs.«01_k».proof.Proof.AttnHost
public import Idealize.ShloMosaic.Lib.Pipeline.ValueKit

@[expose] public section

set_option maxRecDepth 16384

noncomputable section

namespace Cert.KernelIdeal.Attn

open Idealize.ShloMosaic Idealize.ShloMosaic.TcCoe Idealize.SL.Sem
open Cert.KernelIdeal Cert.KernelIdeal.Gen

/-- Where each window's block lies at grid point `t`: batch `t / 16`, group `t / 8 % 2`, query tile `t % 8`. -/
theorem at1 : ∀ t : Fin cfg0.N, win0_1.index t = ![8 * (t.val / 16) + t.val % 8, t.val / 8 % 2] :=
  (by decide +kernel : ∀ t : Fin grid0.N, _)
/-- The same for window 2. -/
theorem at2 : ∀ t : Fin cfg0.N, win0_2.index t = ![t.val / 16, t.val / 8 % 2, 0] :=
  (by decide +kernel : ∀ t : Fin grid0.N, _)
/-- The same for window 3. -/
theorem at3 : ∀ t : Fin cfg0.N, win0_3.index t = ![t.val / 16, t.val / 8 % 2, 0, 0] :=
  (by decide +kernel : ∀ t : Fin grid0.N, _)
/-- The same for window 4. -/
theorem at4 : ∀ t : Fin cfg0.N, win0_4.index t = ![t.val / 16, t.val / 8 % 2, 0] :=
  (by decide +kernel : ∀ t : Fin grid0.N, _)
/-- The same for window 5. -/
theorem at5 : ∀ t : Fin cfg0.N, win0_5.index t = ![t.val / 16, t.val / 8 % 2, 0, 0] :=
  (by decide +kernel : ∀ t : Fin grid0.N, _)
/-- The same for the result's window. -/
theorem at6 : ∀ t : Fin cfg0.N, win0_6.index t = ![8 * (t.val / 16) + t.val % 8, t.val / 8 % 2] :=
  (by decide +kernel : ∀ t : Fin grid0.N, _)
/-- The launch has 32 grid points. -/
theorem points : cfg0.N = 32 := (by decide +kernel : grid0.N = 32)

section
variable (m : (ℓ : Loc nD τ sig) → Buf (Elt Ideal) ℓ) (c : Dev nD) (t : Fin cfg0.N)

/-- The batch and the head group that grid point `t` works on. -/
def batchOf (t : Fin cfg0.N) : Fin 2 := ⟨t.val / 16, by have := t.isLt; have := points; omega⟩
@[inherit_doc batchOf] def groupOf (t : Fin cfg0.N) : Fin 2 := ⟨t.val / 8 % 2, by omega⟩

/-- Row `r`, column `n` of the query block is a row and a column of the queries. -/
theorem queryBlock (r : Fin 1024) (n : Fin 256) (S : Fin 8192) (C : Fin 512)
    (hS : S.val = 1024 * (t.val % 8) + r.val) (hC : C.val = 256 * (groupOf t).val + n.val) :
    @Eq EReal ((iblk m c 1 t : Vec Ideal S1024x256 .bf16) (ix2 r n))
      ((m ((c.tc : Thread nD τ).loc main_arg0) : Vec Ideal S2x8192x512 .f32) (ix3 (batchOf t) S C)) := by
  have hb := (batchOf t).isLt
  have hbv : (batchOf t).val = t.val / 16 := rfl
  have hgv : (groupOf t).val = t.val / 8 % 2 := rfl
  refine Eq.trans (b := (V m c main_v21 : Vec Ideal S16384x512 .bf16) (ix2 ⟨8192 * (batchOf t).val + S.val, by omega⟩ C)) ?_
    ((congrFun (rows_eq m c) _).trans (rowsOf_at _ _ _ _ _ rfl))
  blk_ext [iblk, at1]

/-- Feature `e` of key `j` in window 2's block is an entry of argument 1. -/
theorem keyBlock (e : Fin 64) (j : Fin 8192) :
    @Eq EReal ((iblk m c 2 t : Vec Ideal S1x64x8192 .bf16) (ix3 0 e j))
      ((m ((c.tc : Thread nD τ).loc main_arg1) : Vec Ideal S2x8192x128 .f32)
        (ix3 (batchOf t) j ⟨64 * (groupOf t).val + e.val, by have := (groupOf t).isLt; omega⟩)) := by
  have hbv : (batchOf t).val = t.val / 16 := rfl
  have hgv : (groupOf t).val = t.val / 8 % 2 := rfl
  refine Eq.trans (b := (V m c main_v23 : Vec Ideal S2x128x8192 .bf16) (ix3 (batchOf t) ⟨64 * (groupOf t).val + e.val, by have := (groupOf t).isLt; omega⟩ j)) ?_
    ((congrFun (keys_eq m c) _).trans (keysOf_at _ _ _ _))
  blk_ext [iblk, at2]

/-- Feature `e` of key `j` in window 4's block is an entry of argument 3. -/
theorem ctxKeyBlock (e : Fin 64) (j : Fin 256) :
    @Eq EReal ((iblk m c 4 t : Vec Ideal S1x64x256 .bf16) (ix3 0 e j))
      ((m ((c.tc : Thread nD τ).loc main_arg3) : Vec Ideal S2x256x128 .f32)
        (ix3 (batchOf t) j ⟨64 * (groupOf t).val + e.val, by have := (groupOf t).isLt; omega⟩)) := by
  have hbv : (batchOf t).val = t.val / 16 := rfl
  have hgv : (groupOf t).val = t.val / 8 % 2 := rfl
  refine Eq.trans (b := (V m c main_v31 : Vec Ideal S2x128x256 .bf16) (ix3 (batchOf t) ⟨64 * (groupOf t).val + e.val, by have := (groupOf t).isLt; omega⟩ j)) ?_
    ((congrFun (ctxKeys_eq m c) _).trans (ctxKeysOf_at _ _ _ _))
  blk_ext [iblk, at4]

/-- Feature `n` of value `j` in window 3's block is an entry of argument 2. -/
theorem valBlock (j : Fin 8192) (n : Fin 64) (N : Fin 128) (hN : N.val = n.val) :
    @Eq EReal ((iblk m c 3 t : Vec Ideal S1x1x8192x128 .bf16) (ix4 0 0 j N))
      ((m ((c.tc : Thread nD τ).loc main_arg2) : Vec Ideal S2x8192x128 .f32)
        (ix3 (batchOf t) j ⟨64 * (groupOf t).val + n.val, by have := (groupOf t).isLt; omega⟩)) := by
  have hbv : (batchOf t).val = t.val / 16 := rfl
  have hgv : (groupOf t).val = t.val / 8 % 2 := rfl
  refine Eq.trans (b := (V m c main_v29 : Vec Ideal S2x2x8192x128 .bf16) (ix4 (batchOf t) (groupOf t) j N)) ?_
    ((congrFun (vals_eq m c) _).trans (valsOf_at _ _ _ _ _ _ hN))
  blk_ext [iblk, at3]

/-- Column 64 of that block holds ones. -/
theorem valBlock_one (j : Fin 8192) :
    @Eq EReal ((iblk m c 3 t : Vec Ideal S1x1x8192x128 .bf16) (ix4 0 0 j 64)) 1 := by
  have hbv : (batchOf t).val = t.val / 16 := rfl
  have hgv : (groupOf t).val = t.val / 8 % 2 := rfl
  refine Eq.trans (b := (V m c main_v29 : Vec Ideal S2x2x8192x128 .bf16) (ix4 (batchOf t) (groupOf t) j 64)) ?_
    ((congrFun (vals_eq m c) _).trans (valsOf_one _ _ _ _))
  blk_ext [iblk, at3]

/-- Feature `n` of value `j` in window 5's block is an entry of argument 4. -/
theorem ctxValBlock (j : Fin 256) (n : Fin 64) (N : Fin 128) (hN : N.val = n.val) :
    @Eq EReal ((iblk m c 5 t : Vec Ideal S1x1x256x128 .bf16) (ix4 0 0 j N))
      ((m ((c.tc : Thread nD τ).loc main_arg4) : Vec Ideal S2x256x128 .f32)
        (ix3 (batchOf t) j ⟨64 * (groupOf t).val + n.val, by have := (groupOf t).isLt; omega⟩)) := by
  have hbv : (batchOf t).val = t.val / 16 := rfl
  have hgv : (groupOf t).val = t.val / 8 % 2 := rfl
  refine Eq.trans (b := (V m c main_v37 : Vec Ideal S2x2x256x128 .bf16) (ix4 (batchOf t) (groupOf t) j N)) ?_
    ((congrFun (ctxVals_eq m c) _).trans (ctxValsOf_at _ _ _ _ _ _ hN))
  blk_ext [iblk, at5]

/-- Column 64 of that block holds ones. -/
theorem ctxValBlock_one (j : Fin 256) :
    @Eq EReal ((iblk m c 5 t : Vec Ideal S1x1x256x128 .bf16) (ix4 0 0 j 64)) 1 := by
  have hbv : (batchOf t).val = t.val / 16 := rfl
  have hgv : (groupOf t).val = t.val / 8 % 2 := rfl
  refine Eq.trans (b := (V m c main_v37 : Vec Ideal S2x2x256x128 .bf16) (ix4 (batchOf t) (groupOf t) j 64)) ?_
    ((congrFun (ctxVals_eq m c) _).trans (ctxValsOf_one _ _ _ _))
  blk_ext [iblk, at5]

end

end Cert.KernelIdeal.Attn

end
-- ==== Proof.AttnMath.lean ====
/- Facts about sums, powers of two and quotients of extended reals that the attention proof rests on. -/
module

public import Idealize.ShloMosaic.PureOps.Ideal
public import Idealize.ShloMosaic.Lib.Pointwise.Sums

@[expose] public section

noncomputable section

namespace Cert.AttnMath

open Idealize.ShloMosaic

/-- A positive real factor may be taken out of a sum of extended reals. -/
theorem mul_sum {J : Type*} (s : Finset J) (c : ℝ) (hc : 0 ≤ c) (f : J → EReal) :
    (c : EReal) * ∑ j ∈ s, f j = ∑ j ∈ s, (c : EReal) * f j := by
  classical
  induction s using Finset.induction_on with
  | empty => simp
  | insert a s ha ih =>
    rw [Finset.sum_insert ha, Finset.sum_insert ha, ← ih]
    exact EReal.left_distrib_of_nonneg_of_ne_top (by exact_mod_cast hc) (EReal.coe_ne_top c) _ _

/-- A sum of real numbers is the real sum. -/
theorem coe_sum {J : Type*} (s : Finset J) (f : J → ℝ) : ((∑ j ∈ s, f j : ℝ) : EReal) = ∑ j ∈ s, (f j : EReal) := by
  classical
  induction s using Finset.induction_on with
  | empty => simp
  | insert a s ha ih => rw [Finset.sum_insert ha, Finset.sum_insert ha, EReal.coe_add, ih]

/-- The maximum of finitely many real numbers, taken from a start below infinity, is a real number. -/
theorem fold_max_real {J : Type*} [Fintype J] [Nonempty J] (b : EReal) (hb : b ≠ ⊤) (f : J → EReal) (hf : ∀ j, ∃ x : ℝ, f j = x) :
    ∃ x : ℝ, (Finset.univ : Finset J).fold max b f = x := by
  have h1 : (Finset.univ : Finset J).fold max b f < ⊤ :=
    (Finset.fold_max_lt _).mpr ⟨lt_top_iff_ne_top.mpr hb, fun j _ => by obtain ⟨x, e⟩ := hf j; rw [e]; exact EReal.coe_lt_top x⟩
  have h2 : (Finset.univ : Finset J).fold max b f ≠ ⊥ := by
    obtain ⟨j⟩ := ‹Nonempty J›
    obtain ⟨x, e⟩ := hf j
    have h : (x : EReal) ≤ (Finset.univ : Finset J).fold max b f :=
      (Finset.le_fold_max _).mpr (.inr ⟨j, Finset.mem_univ j, e.ge⟩)
    exact fun h' => EReal.coe_ne_bot x (le_bot_iff.mp (h' ▸ h))
  exact ⟨_, (EReal.coe_toReal h1.ne h2).symm⟩

/-- The greater of two real numbers is a real number. -/
theorem max_real {a b : EReal} (ha : ∃ x : ℝ, a = x) (hb : ∃ x : ℝ, b = x) : ∃ x : ℝ, max a b = x := by
  rcases max_choice a b with h | h <;> rw [h] <;> assumption

/-- A power of two at a real exponent is a positive real number. -/
theorem exp2_real (x : ℝ) : Ideal.exp2 (x : EReal) = ((Real.exp (Real.log 2 * x) : ℝ) : EReal) := by
  rw [Ideal.exp2_coe]; congr 1
  show (2 : ℝ) ^ x = _
  rw [Real.rpow_def_of_pos two_pos]

/-- Eight tiles of 1024 added one after the other make the whole sum. -/
theorem eight_tiles (a : ℕ → EReal) (f : Fin 8192 → EReal) (h0 : a 0 = 0)
    (hs : ∀ k (hk : k < 8), a (k + 1) = a k + ∑ j : Fin 1024, f ⟨k * 1024 + j.val, by omega⟩) : a 8 = ∑ j, f j := by
  rw [Fin.sum_univ_tiles 8 1024 (by norm_num) f, Fin.sum_univ_eight]
  rw [hs 7 (by norm_num), hs 6 (by norm_num), hs 5 (by norm_num), hs 4 (by norm_num), hs 3 (by norm_num), hs 2 (by norm_num),
    hs 1 (by norm_num), hs 0 (by norm_num), h0, zero_add]
  rfl

/-- One step of the running rescaling: multiplied by two to the power of its shift, a rescaled total plus the new shifted
    terms is the old one plus the new terms unshifted. -/
theorem rescale {J : Type*} [Fintype J] (μ μ' : ℝ) (a : EReal) (s : J → EReal) (hs : ∀ j, ∃ x : ℝ, s j = x) (v : J → EReal) :
    Ideal.exp2 (μ' : EReal) * (Ideal.exp2 ((μ : EReal) - μ') * a + ∑ j, Ideal.exp2 (s j - μ') * v j)
      = Ideal.exp2 (μ : EReal) * a + ∑ j, Ideal.exp2 (s j) * v j := by
  have hp : ∀ x : ℝ, (0 : ℝ) ≤ Real.exp (Real.log 2 * x) := fun x => (Real.exp_pos _).le
  have key : ∀ x : ℝ, Ideal.exp2 (μ' : EReal) * Ideal.exp2 ((x : EReal) - μ') = Ideal.exp2 (x : EReal) := fun x => by
    rw [← EReal.coe_sub, exp2_real, exp2_real, exp2_real, ← EReal.coe_mul, ← Real.exp_add]
    congr 2; ring
  rw [exp2_real μ', EReal.left_distrib_of_nonneg_of_ne_top (by exact_mod_cast hp μ') (EReal.coe_ne_top _), mul_sum _ _ (hp μ'),
    ← exp2_real μ', ← mul_assoc, key]
  congr 1
  refine Finset.sum_congr rfl fun j _ => ?_
  obtain ⟨x, e⟩ := hs j
  rw [e, ← mul_assoc, key]

/-- The quotient of two extended reals, the divisor a positive real, is not changed by a common positive real factor. -/
theorem div_scale (κ δ : ℝ) (hκ : 0 < κ) (hδ : 0 < δ) (n d N D : EReal) (hn : (κ : EReal) * n = N) (hd : (κ : EReal) * d = D)
    (hD : D = (δ : EReal)) : Ideal.div n d = N * ((δ⁻¹ : ℝ) : EReal) := by
  have ed : d = ((δ / κ : ℝ) : EReal) := by
    have h : ((κ⁻¹ : ℝ) : EReal) * ((κ : EReal) * d) = d := by
      rw [← mul_assoc, ← EReal.coe_mul, inv_mul_cancel₀ hκ.ne', EReal.coe_one, one_mul]
    rw [← h, hd, hD, ← EReal.coe_mul]; congr 1; field_simp
  have hne : d ≠ 0 := by rw [ed]; exact_mod_cast (div_pos hδ hκ).ne'
  unfold Ideal.div
  rw [if_neg hne, ed, ← hn, ← EReal.coe_inv, mul_comm (κ : EReal) n, mul_assoc, ← EReal.coe_mul]
  congr 2; field_simp

/-- The weights that attention takes: numbers `w` proportional to `e`, over their sum, are `e` over its sum. -/
theorem weighted {J : Type*} [Fintype J] [Nonempty J] (s σ : J → ℝ) (M : ℝ) (h : ∀ j, Real.log 2 * s j = σ j) (v : J → EReal)
    (κ : ℝ) (hκ : 0 < κ) (n d : EReal) (hn : (κ : EReal) * n = ∑ j, Ideal.exp2 (s j : EReal) * v j)
    (hd : (κ : EReal) * d = ∑ j, Ideal.exp2 (s j : EReal) * 1) :
    Ideal.div n d = ∑ j, v j * Ideal.div (Ideal.exp ((σ j : EReal) - M)) (0 + ∑ i, Ideal.exp ((σ i : EReal) - M)) := by
  have hd' : (κ : EReal) * d = ((∑ j, Real.exp (σ j) : ℝ) : EReal) := by
    rw [hd, coe_sum]; exact Finset.sum_congr rfl fun j _ => by rw [mul_one, exp2_real, h]
  have hpos : (0 : ℝ) < ∑ j, Real.exp (σ j) := Finset.sum_pos (fun j _ => Real.exp_pos _) Finset.univ_nonempty
  rw [div_scale κ _ hκ hpos n d _ _ hn hd' rfl]
  have hexp : ∀ j, Ideal.exp ((σ j : EReal) - M) = ((Real.exp (σ j - M) : ℝ) : EReal) := fun j => by
    rw [← EReal.coe_sub, Ideal.exp_coe]
  simp only [hexp]
  rw [zero_add, ← coe_sum]
  have hZ : (0 : ℝ) < ∑ j, Real.exp (σ j - M) := Finset.sum_pos (fun j _ => Real.exp_pos _) Finset.univ_nonempty
  have hZ' : ∑ j, Real.exp (σ j) = Real.exp M * ∑ j, Real.exp (σ j - M) := by
    rw [Finset.mul_sum]; exact Finset.sum_congr rfl fun j _ => by rw [← Real.exp_add]; congr 1; ring
  rw [mul_comm, mul_sum _ _ (inv_pos.mpr hpos).le]
  refine Finset.sum_congr rfl fun j _ => ?_
  unfold Ideal.div
  rw [if_neg (by exact_mod_cast hZ.ne'), ← EReal.coe_inv, exp2_real, h, ← EReal.coe_mul, ← mul_assoc, ← EReal.coe_mul, mul_comm (v j)]
  congr 2
  rw [hZ', show σ j = M + (σ j - M) by ring, Real.exp_add]
  rw [show M + (σ j - M) - M = σ j - M by ring]
  have := (Real.exp_pos M).ne'
  field_simp

end Cert.AttnMath

end
-- ==== Proof.AttnRead.lean ====
/- The attention kernel's pure values, element by element, on the extended reals. -/
module

public import proofs.«01_k».proof.Proof.AttnBlock
public import proofs.«01_k».proof.Proof.AttnMath
public import Idealize.ShloMosaic.Lib.Pointwise
public import Idealize.ShloMosaic.PureOps.Ideal.Laws

@[expose] public section

set_option maxRecDepth 16384

noncomputable section

namespace Cert.KernelIdeal.Attn

open Idealize.ShloMosaic Idealize.ShloMosaic.TcCoe Idealize.SL.Sem
open Cert.KernelIdeal.Gen

/-- One unshifted step adds, at row `r` and column `n`, the powers of two of the block's scores times the values. -/
theorem pay16_at (kt : Vec Ideal S1x64x1024 .bf16) (v : Vec Ideal S1x1x1024x128 .bf16) (q : Vec Ideal S4096x64 .bf16)
    (a : Vec Ideal S4096x128 .f32) (r : Fin 4096) (n : Fin 128) :
    k0_pay16 kt v q a (ix2 r n) = a (ix2 r n)
      + ∑ j : Fin 1024, Ideal.exp2 (∑ d : Fin 64, q (ix2 r d) * kt (ix3 0 d j)) * v (ix4 0 0 j n) := by
  pointwise [k0_pay16]
  rfl

/-- The unshifted step over the context's keys. -/
theorem pay1_at (kt : Vec Ideal S1x64x256 .bf16) (v : Vec Ideal S1x1x256x128 .bf16) (q : Vec Ideal S4096x64 .bf16)
    (a : Vec Ideal S4096x128 .f32) (r : Fin 4096) (n : Fin 128) :
    k0_pay1 (k0_pay17 kt) v q a (ix2 r n) = a (ix2 r n)
      + ∑ j : Fin 256, Ideal.exp2 (∑ d : Fin 64, q (ix2 r d) * kt (ix3 0 d j)) * v (ix4 0 0 j n) := by
  pointwise [k0_pay1, k0_pay17]
  rfl

/-- A block's scores. -/
theorem pay25_at (kt : Vec Ideal S1x64x1024 .bf16) (q : Vec Ideal S4096x64 .bf16) (r : Fin 4096) (j : Fin 1024) :
    k0_pay25 kt q (ix2 r j) = ∑ d : Fin 64, q (ix2 r d) * kt (ix3 0 d j) := by
  pointwise [k0_pay25]

/-- The context's scores. -/
theorem pay29_at (kt : Vec Ideal S1x64x256 .bf16) (q : Vec Ideal S4096x64 .bf16) (r : Fin 4096) (j : Fin 256) :
    k0_pay29 kt q (ix2 r j) = ∑ d : Fin 64, q (ix2 r d) * kt (ix3 0 d j) := by
  pointwise [k0_pay29]

/-- The word of minus infinity reads as a number below plus infinity. -/
theorem start_ne_top : (FloatOps.ofBits (F := Ideal) .f32 0xFF800000#32 : EReal) ≠ ⊤ := by
  show Ideal.ofBits .f32 0xFF800000#32 ≠ ⊤
  simp [Ideal.ofBits, Ideal.ieee]

/-- The running maximum that a shifted step leaves is a real number where the scores and the old one are. -/
theorem pay26_real (kt : Vec Ideal S1x64x1024 .bf16) (q : Vec Ideal S4096x64 .bf16) (m : Vec Ideal S4096x1 .f32)
    (hs : ∀ i, ∃ x : ℝ, k0_pay25 kt q i = x) (hm : ∀ i, ∃ x : ℝ, m i = x) (i : S4096x1.Idx) :
    ∃ x : ℝ, k0_pay26 kt q m i = x := by
  refine Cert.AttnMath.max_real (hm i) ?_
  obtain ⟨x, hx⟩ := Cert.AttnMath.fold_max_real (J := Fin 1024) (FloatOps.ofBits (F := Ideal) .f32 0xFF800000#32) start_ne_top
    (k0_pay25 kt q ∘ reduces_S4096x1024_S4096.lift (Shape.reshapeEquiv shapeCasts_S4096_S4096x1 i)) fun j => hs _
  exact ⟨x, (Ideal.multiReduction_maximumf_single _ _ _ _ _ _).trans hx⟩

/-- The same for the step over the context. -/
theorem pay30_real (kt : Vec Ideal S1x64x256 .bf16) (q : Vec Ideal S4096x64 .bf16) (m : Vec Ideal S4096x1 .f32)
    (hs : ∀ i, ∃ x : ℝ, k0_pay29 kt q i = x) (hm : ∀ i, ∃ x : ℝ, m i = x) (i : S4096x1.Idx) :
    ∃ x : ℝ, k0_pay30 kt q m i = x := by
  refine Cert.AttnMath.max_real (hm i) ?_
  obtain ⟨x, hx⟩ := Cert.AttnMath.fold_max_real (J := Fin 256) (FloatOps.ofBits (F := Ideal) .f32 0xFF800000#32) start_ne_top
    (k0_pay29 kt q ∘ reduces_S4096x256_S4096.lift (Shape.reshapeEquiv shapeCasts_S4096_S4096x1 i)) fun j => hs _
  exact ⟨x, (Ideal.multiReduction_maximumf_single _ _ _ _ _ _).trans hx⟩

/-- One shifted step: the old total rescaled, and the shifted terms of the block. -/
theorem pay27_at (kt : Vec Ideal S1x64x1024 .bf16) (v : Vec Ideal S1x1x1024x128 .bf16) (q : Vec Ideal S4096x64 .bf16)
    (m : Vec Ideal S4096x1 .f32) (a : Vec Ideal S4096x128 .f32) (r : Fin 4096) (n : Fin 128) :
    k0_pay27 kt v q m a (ix2 r n) = Ideal.exp2 (m (ix2 r 0) - k0_pay26 kt q m (ix2 r 0)) * a (ix2 r n)
      + ∑ j : Fin 1024, Ideal.exp2 (k0_pay25 kt q (ix2 r j) - k0_pay26 kt q m (ix2 r 0)) * v (ix4 0 0 j n) := by
  pointwise [k0_pay27]
  rfl

/-- The shifted step over the context. -/
theorem pay31_at (kt : Vec Ideal S1x64x256 .bf16) (v : Vec Ideal S1x1x256x128 .bf16) (q : Vec Ideal S4096x64 .bf16)
    (m : Vec Ideal S4096x1 .f32) (a : Vec Ideal S4096x128 .f32) (r : Fin 4096) (n : Fin 128) :
    k0_pay31 kt v q m a (ix2 r n) = Ideal.exp2 (m (ix2 r 0) - k0_pay30 kt q m (ix2 r 0)) * a (ix2 r n)
      + ∑ j : Fin 256, Ideal.exp2 (k0_pay29 kt q (ix2 r j) - k0_pay30 kt q m (ix2 r 0)) * v (ix4 0 0 j n) := by
  pointwise [k0_pay31]
  rfl

/-- The stored running maximum is the one computed. -/
theorem pay28_eq (kt : Vec Ideal S1x64x1024 .bf16) (q : Vec Ideal S4096x64 .bf16) (m : Vec Ideal S4096x1 .f32) :
    k0_pay28 kt q m = k0_pay26 kt q m := by
  unfold k0_pay28; exact shapeCast_self _ _

/-- The accumulators start at zero. -/
theorem pay15_at (i : S4096x128.Idx) : (k0_pay15 (F := Ideal) : Vec Ideal S4096x128 .f32) i = 0 := by
  pointwise [k0_pay15]
theorem pay23_at (i : S4096x128.Idx) : (k0_pay23 (F := Ideal) : Vec Ideal S4096x128 .f32) i = 0 := by
  pointwise [k0_pay23]

/-- The running maximum starts at a real number. -/
theorem pay24_real (i : S4096x1.Idx) : ∃ x : ℝ, (k0_pay24 (F := Ideal) : Vec Ideal S4096x1 .f32) i = x := by
  show ∃ x : ℝ, Ideal.ofBits .f32 0xF149F2CA#32 = x
  simp only [Ideal.ofBits, Ideal.ieee]
  simp [-EReal.coe_mul]
  exact ⟨_, rfl⟩

/-- The kernel's scale factor: the reciprocal of eight times the logarithm of two. -/
theorem scale_named : Named.named (F := Ideal) κ "q_scale" (φ := .f32) 0x3E38AA3B#32 = (((8 * Real.log 2)⁻¹ : ℝ) : EReal) :=
  IdealRules.named_const.ideal_named_scalar _ _ _ _ rfl

/-- Head `h`'s scaled query of row `r`, where the kernel lays it. -/
def headOf (x : Vec Ideal S1024x256 .bf16) : Vec Ideal S4096x64 .bf16 := fun i =>
  x (ix2 ⟨(i 0).val % 1024, Nat.mod_lt _ (by norm_num)⟩ ⟨64 * ((i 0).val / 1024) + (i 1).val, by
    have h0 : (i 0).val < 4096 := (i 0).isLt; have h1 : (i 1).val < 64 := (i 1).isLt; omega⟩) * (((8 * Real.log 2)⁻¹ : ℝ) : EReal)

/-- The quotient of row `r` and column `d` of head `h`, where the kernel stores it. -/
def quotOf (a : Vec Ideal S4096x128 .f32) : Vec Ideal S1024x256 .bf16 := fun i =>
  Ideal.div (a (ix2 ⟨1024 * ((i 1).val / 64) + (i 0).val, by
    have h0 : (i 0).val < 1024 := (i 0).isLt; have h1 : (i 1).val < 256 := (i 1).isLt; omega⟩ ⟨(i 1).val % 64, by omega⟩))
    (a (ix2 ⟨1024 * ((i 1).val / 64) + (i 0).val, by
    have h0 : (i 0).val < 1024 := (i 0).isLt; have h1 : (i 1).val < 256 := (i 1).isLt; omega⟩ 64))

theorem piece11 (x : Vec Ideal S1024x256 .bf16) (y : S1024x64.Idx) :
    k0_pay11 x y = headOf x ((Rect.unit (s := S4096x64) ![0, 0] S1024x64.size inb_S4096x64_S1024x64_0_0).emb y) := by
  have h0 : (y 0).val < 1024 := (y 0).isLt
  have h1 : (y 1).val < 64 := (y 1).isLt
  obtain ⟨r, hr⟩ : ∃ r : Fin 1024, r = y 0 := ⟨y 0, rfl⟩
  obtain ⟨d, hd⟩ : ∃ d : Fin 64, d = y 1 := ⟨y 1, rfl⟩
  have ey : y = ix2 r d := by rw [hr, hd]; exact eq_ix2 (n0 := 1024) (n1 := 64) y
  rw [ey]
  unfold headOf
  pointwise [k0_pay11, k0_pay10]
  rw [scale_named]
  congr 2
  refine congrArg₂ ix2 (Fin.ext ?_) (Fin.ext ?_) <;> simp [Rect.emb_apply] <;> omega

theorem piece12 (x : Vec Ideal S1024x256 .bf16) (y : S1024x64.Idx) :
    k0_pay12 x y = headOf x ((Rect.unit (s := S4096x64) ![1024, 0] S1024x64.size inb_S4096x64_S1024x64_1024_0).emb y) := by
  have h0 : (y 0).val < 1024 := (y 0).isLt
  have h1 : (y 1).val < 64 := (y 1).isLt
  obtain ⟨r, hr⟩ : ∃ r : Fin 1024, r = y 0 := ⟨y 0, rfl⟩
  obtain ⟨d, hd⟩ : ∃ d : Fin 64, d = y 1 := ⟨y 1, rfl⟩
  have ey : y = ix2 r d := by rw [hr, hd]; exact eq_ix2 (n0 := 1024) (n1 := 64) y
  rw [ey]
  unfold headOf
  pointwise [k0_pay12, k0_pay10]
  rw [scale_named]
  congr 2
  refine congrArg₂ ix2 (Fin.ext ?_) (Fin.ext ?_) <;> simp [Rect.emb_apply] <;> omega

theorem piece13 (x : Vec Ideal S1024x256 .bf16) (y : S1024x64.Idx) :
    k0_pay13 x y = headOf x ((Rect.unit (s := S4096x64) ![2048, 0] S1024x64.size inb_S4096x64_S1024x64_2048_0).emb y) := by
  have h0 : (y 0).val < 1024 := (y 0).isLt
  have h1 : (y 1).val < 64 := (y 1).isLt
  obtain ⟨r, hr⟩ : ∃ r : Fin 1024, r = y 0 := ⟨y 0, rfl⟩
  obtain ⟨d, hd⟩ : ∃ d : Fin 64, d = y 1 := ⟨y 1, rfl⟩
  have ey : y = ix2 r d := by rw [hr, hd]; exact eq_ix2 (n0 := 1024) (n1 := 64) y
  rw [ey]
  unfold headOf
  pointwise [k0_pay13, k0_pay10]
  rw [scale_named]
  congr 2
  refine congrArg₂ ix2 (Fin.ext ?_) (Fin.ext ?_) <;> simp [Rect.emb_apply] <;> omega

theorem piece14 (x : Vec Ideal S1024x256 .bf16) (y : S1024x64.Idx) :
    k0_pay14 x y = headOf x ((Rect.unit (s := S4096x64) ![3072, 0] S1024x64.size inb_S4096x64_S1024x64_3072_0).emb y) := by
  have h0 : (y 0).val < 1024 := (y 0).isLt
  have h1 : (y 1).val < 64 := (y 1).isLt
  obtain ⟨r, hr⟩ : ∃ r : Fin 1024, r = y 0 := ⟨y 0, rfl⟩
  obtain ⟨d, hd⟩ : ∃ d : Fin 64, d = y 1 := ⟨y 1, rfl⟩
  have ey : y = ix2 r d := by rw [hr, hd]; exact eq_ix2 (n0 := 1024) (n1 := 64) y
  rw [ey]
  unfold headOf
  pointwise [k0_pay14, k0_pay10]
  rw [scale_named]
  congr 2
  refine congrArg₂ ix2 (Fin.ext ?_) (Fin.ext ?_) <;> simp [Rect.emb_apply] <;> omega

theorem piece19 (x : Vec Ideal S1024x256 .bf16) (y : S1024x64.Idx) :
    k0_pay19 x y = headOf x ((Rect.unit (s := S4096x64) ![0, 0] S1024x64.size inb_S4096x64_S1024x64_0_0).emb y) := by
  have h0 : (y 0).val < 1024 := (y 0).isLt
  have h1 : (y 1).val < 64 := (y 1).isLt
  obtain ⟨r, hr⟩ : ∃ r : Fin 1024, r = y 0 := ⟨y 0, rfl⟩
  obtain ⟨d, hd⟩ : ∃ d : Fin 64, d = y 1 := ⟨y 1, rfl⟩
  have ey : y = ix2 r d := by rw [hr, hd]; exact eq_ix2 (n0 := 1024) (n1 := 64) y
  rw [ey]
  unfold headOf
  pointwise [k0_pay19, k0_pay18]
  rw [scale_named]
  congr 2
  refine congrArg₂ ix2 (Fin.ext ?_) (Fin.ext ?_) <;> simp [Rect.emb_apply] <;> omega

theorem piece20 (x : Vec Ideal S1024x256 .bf16) (y : S1024x64.Idx) :
    k0_pay20 x y = headOf x ((Rect.unit (s := S4096x64) ![1024, 0] S1024x64.size inb_S4096x64_S1024x64_1024_0).emb y) := by
  have h0 : (y 0).val < 1024 := (y 0).isLt
  have h1 : (y 1).val < 64 := (y 1).isLt
  obtain ⟨r, hr⟩ : ∃ r : Fin 1024, r = y 0 := ⟨y 0, rfl⟩
  obtain ⟨d, hd⟩ : ∃ d : Fin 64, d = y 1 := ⟨y 1, rfl⟩
  have ey : y = ix2 r d := by rw [hr, hd]; exact eq_ix2 (n0 := 1024) (n1 := 64) y
  rw [ey]
  unfold headOf
  pointwise [k0_pay20, k0_pay18]
  rw [scale_named]
  congr 2
  refine congrArg₂ ix2 (Fin.ext ?_) (Fin.ext ?_) <;> simp [Rect.emb_apply] <;> omega

theorem piece21 (x : Vec Ideal S1024x256 .bf16) (y : S1024x64.Idx) :
    k0_pay21 x y = headOf x ((Rect.unit (s := S4096x64) ![2048, 0] S1024x64.size inb_S4096x64_S1024x64_2048_0).emb y) := by
  have h0 : (y 0).val < 1024 := (y 0).isLt
  have h1 : (y 1).val < 64 := (y 1).isLt
  obtain ⟨r, hr⟩ : ∃ r : Fin 1024, r = y 0 := ⟨y 0, rfl⟩
  obtain ⟨d, hd⟩ : ∃ d : Fin 64, d = y 1 := ⟨y 1, rfl⟩
  have ey : y = ix2 r d := by rw [hr, hd]; exact eq_ix2 (n0 := 1024) (n1 := 64) y
  rw [ey]
  unfold headOf
  pointwise [k0_pay21, k0_pay18]
  rw [scale_named]
  congr 2
  refine congrArg₂ ix2 (Fin.ext ?_) (Fin.ext ?_) <;> simp [Rect.emb_apply] <;> omega

theorem piece22 (x : Vec Ideal S1024x256 .bf16) (y : S1024x64.Idx) :
    k0_pay22 x y = headOf x ((Rect.unit (s := S4096x64) ![3072, 0] S1024x64.size inb_S4096x64_S1024x64_3072_0).emb y) := by
  have h0 : (y 0).val < 1024 := (y 0).isLt
  have h1 : (y 1).val < 64 := (y 1).isLt
  obtain ⟨r, hr⟩ : ∃ r : Fin 1024, r = y 0 := ⟨y 0, rfl⟩
  obtain ⟨d, hd⟩ : ∃ d : Fin 64, d = y 1 := ⟨y 1, rfl⟩
  have ey : y = ix2 r d := by rw [hr, hd]; exact eq_ix2 (n0 := 1024) (n1 := 64) y
  rw [ey]
  unfold headOf
  pointwise [k0_pay22, k0_pay18]
  rw [scale_named]
  congr 2
  refine congrArg₂ ix2 (Fin.ext ?_) (Fin.ext ?_) <;> simp [Rect.emb_apply] <;> omega

theorem piece3 (a : Vec Ideal S4096x128 .f32) (y : S1024x64.Idx) :
    k0_pay3 a y = quotOf a ((Rect.unit (s := S1024x256) ![0, 0] S1024x64.size inb_S1024x256_S1024x64_0_0).emb y) := by
  obtain ⟨r, hr⟩ : ∃ r : Fin 1024, r = y 0 := ⟨y 0, rfl⟩
  obtain ⟨d, hd⟩ : ∃ d : Fin 64, d = y 1 := ⟨y 1, rfl⟩
  have ey : y = ix2 r d := by rw [hr, hd]; exact eq_ix2 (n0 := 1024) (n1 := 64) y
  rw [ey]
  unfold quotOf
  pointwise [k0_pay3, k0_pay2]
  refine congrArg₂ Ideal.div (congrArg a (congrArg₂ ix2 (Fin.ext ?_) (Fin.ext ?_))) (congrArg a (congrArg₂ ix2 (Fin.ext ?_) rfl)) <;>
    simp [Rect.emb_apply] <;> omega

theorem piece4 (a : Vec Ideal S4096x128 .f32) (y : S1024x64.Idx) :
    k0_pay4 a y = quotOf a ((Rect.unit (s := S1024x256) ![0, 64] S1024x64.size inb_S1024x256_S1024x64_0_64).emb y) := by
  obtain ⟨r, hr⟩ : ∃ r : Fin 1024, r = y 0 := ⟨y 0, rfl⟩
  obtain ⟨d, hd⟩ : ∃ d : Fin 64, d = y 1 := ⟨y 1, rfl⟩
  have ey : y = ix2 r d := by rw [hr, hd]; exact eq_ix2 (n0 := 1024) (n1 := 64) y
  rw [ey]
  unfold quotOf
  pointwise [k0_pay4, k0_pay2]
  refine congrArg₂ Ideal.div (congrArg a (congrArg₂ ix2 (Fin.ext ?_) (Fin.ext ?_))) (congrArg a (congrArg₂ ix2 (Fin.ext ?_) rfl)) <;>
    simp [Rect.emb_apply] <;> omega

theorem piece5 (a : Vec Ideal S4096x128 .f32) (y : S1024x64.Idx) :
    k0_pay5 a y = quotOf a ((Rect.unit (s := S1024x256) ![0, 128] S1024x64.size inb_S1024x256_S1024x64_0_128).emb y) := by
  obtain ⟨r, hr⟩ : ∃ r : Fin 1024, r = y 0 := ⟨y 0, rfl⟩
  obtain ⟨d, hd⟩ : ∃ d : Fin 64, d = y 1 := ⟨y 1, rfl⟩
  have ey : y = ix2 r d := by rw [hr, hd]; exact eq_ix2 (n0 := 1024) (n1 := 64) y
  rw [ey]
  unfold quotOf
  pointwise [k0_pay5, k0_pay2]
  refine congrArg₂ Ideal.div (congrArg a (congrArg₂ ix2 (Fin.ext ?_) (Fin.ext ?_))) (congrArg a (congrArg₂ ix2 (Fin.ext ?_) rfl)) <;>
    simp [Rect.emb_apply] <;> omega

theorem piece6 (a : Vec Ideal S4096x128 .f32) (y : S1024x64.Idx) :
    k0_pay6 a y = quotOf a ((Rect.unit (s := S1024x256) ![0, 192] S1024x64.size inb_S1024x256_S1024x64_0_192).emb y) := by
  obtain ⟨r, hr⟩ : ∃ r : Fin 1024, r = y 0 := ⟨y 0, rfl⟩
  obtain ⟨d, hd⟩ : ∃ d : Fin 64, d = y 1 := ⟨y 1, rfl⟩
  have ey : y = ix2 r d := by rw [hr, hd]; exact eq_ix2 (n0 := 1024) (n1 := 64) y
  rw [ey]
  unfold quotOf
  pointwise [k0_pay6, k0_pay2]
  refine congrArg₂ Ideal.div (congrArg a (congrArg₂ ix2 (Fin.ext ?_) (Fin.ext ?_))) (congrArg a (congrArg₂ ix2 (Fin.ext ?_) rfl)) <;>
    simp [Rect.emb_apply] <;> omega

theorem piece34 (a : Vec Ideal S4096x128 .f32) (y : S1024x64.Idx) :
    k0_pay34 a y = quotOf a ((Rect.unit (s := S1024x256) ![0, 0] S1024x64.size inb_S1024x256_S1024x64_0_0).emb y) := by
  obtain ⟨r, hr⟩ : ∃ r : Fin 1024, r = y 0 := ⟨y 0, rfl⟩
  obtain ⟨d, hd⟩ : ∃ d : Fin 64, d = y 1 := ⟨y 1, rfl⟩
  have ey : y = ix2 r d := by rw [hr, hd]; exact eq_ix2 (n0 := 1024) (n1 := 64) y
  rw [ey]
  unfold quotOf
  pointwise [k0_pay34, k0_pay33]
  refine congrArg₂ Ideal.div (congrArg a (congrArg₂ ix2 (Fin.ext ?_) (Fin.ext ?_))) (congrArg a (congrArg₂ ix2 (Fin.ext ?_) rfl)) <;>
    simp [Rect.emb_apply] <;> omega

theorem piece7 (a : Vec Ideal S4096x128 .f32) (y : S1024x64.Idx) :
    k0_pay7 (k0_pay33 a) y = quotOf a ((Rect.unit (s := S1024x256) ![0, 64] S1024x64.size inb_S1024x256_S1024x64_0_64).emb y) := by
  obtain ⟨r, hr⟩ : ∃ r : Fin 1024, r = y 0 := ⟨y 0, rfl⟩
  obtain ⟨d, hd⟩ : ∃ d : Fin 64, d = y 1 := ⟨y 1, rfl⟩
  have ey : y = ix2 r d := by rw [hr, hd]; exact eq_ix2 (n0 := 1024) (n1 := 64) y
  rw [ey]
  unfold quotOf
  pointwise [k0_pay7, k0_pay33]
  refine congrArg₂ Ideal.div (congrArg a (congrArg₂ ix2 (Fin.ext ?_) (Fin.ext ?_))) (congrArg a (congrArg₂ ix2 (Fin.ext ?_) rfl)) <;>
    simp [Rect.emb_apply] <;> omega

theorem piece8 (a : Vec Ideal S4096x128 .f32) (y : S1024x64.Idx) :
    k0_pay8 (k0_pay33 a) y = quotOf a ((Rect.unit (s := S1024x256) ![0, 128] S1024x64.size inb_S1024x256_S1024x64_0_128).emb y) := by
  obtain ⟨r, hr⟩ : ∃ r : Fin 1024, r = y 0 := ⟨y 0, rfl⟩
  obtain ⟨d, hd⟩ : ∃ d : Fin 64, d = y 1 := ⟨y 1, rfl⟩
  have ey : y = ix2 r d := by rw [hr, hd]; exact eq_ix2 (n0 := 1024) (n1 := 64) y
  rw [ey]
  unfold quotOf
  pointwise [k0_pay8, k0_pay33]
  refine congrArg₂ Ideal.div (congrArg a (congrArg₂ ix2 (Fin.ext ?_) (Fin.ext ?_))) (congrArg a (congrArg₂ ix2 (Fin.ext ?_) rfl)) <;>
    simp [Rect.emb_apply] <;> omega

theorem piece9 (a : Vec Ideal S4096x128 .f32) (y : S1024x64.Idx) :
    k0_pay9 (k0_pay33 a) y = quotOf a ((Rect.unit (s := S1024x256) ![0, 192] S1024x64.size inb_S1024x256_S1024x64_0_192).emb y) := by
  obtain ⟨r, hr⟩ : ∃ r : Fin 1024, r = y 0 := ⟨y 0, rfl⟩
  obtain ⟨d, hd⟩ : ∃ d : Fin 64, d = y 1 := ⟨y 1, rfl⟩
  have ey : y = ix2 r d := by rw [hr, hd]; exact eq_ix2 (n0 := 1024) (n1 := 64) y
  rw [ey]
  unfold quotOf
  pointwise [k0_pay9, k0_pay33]
  refine congrArg₂ Ideal.div (congrArg a (congrArg₂ ix2 (Fin.ext ?_) (Fin.ext ?_))) (congrArg a (congrArg₂ ix2 (Fin.ext ?_) rfl)) <;>
    simp [Rect.emb_apply] <;> omega

/-- The unshifted branch's heads are the scaled queries, head by head. -/
theorem headsU_eq (x : Vec Ideal S1024x256 .bf16) : headsU x = headOf x := by
  funext y
  unfold headsU
  refine View.canon_apply_of_pieces (headOf x) _ (fun p hp z => ?_) y ?_
  swap; · exact View.cover_of_tiledL (s := S4096x64) _ S1024x64.size (by sl_kernel_rfl) y
  rcases List.mem_cons.mp hp with rfl | hp
  · exact piece14 x z
  rcases List.mem_cons.mp hp with rfl | hp
  · exact piece13 x z
  rcases List.mem_cons.mp hp with rfl | hp
  · exact piece12 x z
  rcases List.mem_cons.mp hp with rfl | hp
  · exact piece11 x z
  exact absurd hp (by simp)

/-- So are the shifted branch's. -/
theorem headsS_eq (x : Vec Ideal S1024x256 .bf16) : headsS x = headOf x := by
  funext y
  unfold headsS
  refine View.canon_apply_of_pieces (headOf x) _ (fun p hp z => ?_) y ?_
  swap; · exact View.cover_of_tiledL (s := S4096x64) _ S1024x64.size (by sl_kernel_rfl) y
  rcases List.mem_cons.mp hp with rfl | hp
  · exact piece22 x z
  rcases List.mem_cons.mp hp with rfl | hp
  · exact piece21 x z
  rcases List.mem_cons.mp hp with rfl | hp
  · exact piece20 x z
  rcases List.mem_cons.mp hp with rfl | hp
  · exact piece19 x z
  exact absurd hp (by simp)

/-- The unshifted branch's block is the quotients, head by head. -/
theorem blockU_eq (a : Vec Ideal S4096x128 .f32) : blockU a = quotOf a := by
  funext y
  unfold blockU
  refine View.canon_apply_of_pieces (quotOf a) _ (fun p hp z => ?_) y ?_
  swap; · exact View.cover_of_tiledL (s := S1024x256) _ S1024x64.size (by sl_kernel_rfl) y
  rcases List.mem_cons.mp hp with rfl | hp
  · exact piece6 a z
  rcases List.mem_cons.mp hp with rfl | hp
  · exact piece5 a z
  rcases List.mem_cons.mp hp with rfl | hp
  · exact piece4 a z
  rcases List.mem_cons.mp hp with rfl | hp
  · exact piece3 a z
  exact absurd hp (by simp)

/-- So is the shifted branch's. -/
theorem blockS_eq (a : Vec Ideal S4096x128 .f32) : blockS a = quotOf a := by
  funext y
  unfold blockS
  refine View.canon_apply_of_pieces (quotOf a) _ (fun p hp z => ?_) y ?_
  swap; · exact View.cover_of_tiledL (s := S1024x256) _ S1024x64.size (by sl_kernel_rfl) y
  rcases List.mem_cons.mp hp with rfl | hp
  · exact piece9 a z
  rcases List.mem_cons.mp hp with rfl | hp
  · exact piece8 a z
  rcases List.mem_cons.mp hp with rfl | hp
  · exact piece7 a z
  rcases List.mem_cons.mp hp with rfl | hp
  · exact piece34 a z
  exact absurd hp (by simp)

end Cert.KernelIdeal.Attn

end
-- ==== Proof.AttnTotal.lean ====
/- What the accumulators of both branches hold at the end: the sums of powers of two times values, over all keys. -/
module

public import proofs.«01_k».proof.Proof.AttnRead
public import Idealize.ShloMosaic.Lib.Pipeline.ValueKit.Tiles

@[expose] public section

set_option maxRecDepth 16384

noncomputable section

namespace Cert.KernelIdeal.Attn

open Idealize.ShloMosaic
open Cert.KernelIdeal Cert.KernelIdeal.Gen
open scoped BigOperators

theorem trips1 : k0_t1_loop.trips = 8 := by decide +kernel
theorem trips2 : k0_t2_loop.trips = 8 := by decide +kernel
theorem offs1 : ∀ k : Fin k0_t1_loop.trips, k0_off1 k = ![0, 0, k.val * 1024] := by decide +kernel
theorem offs2 : ∀ k : Fin k0_t1_loop.trips, k0_off2 k = ![0, 0, k.val * 1024, 0] := by decide +kernel
theorem offs3 : ∀ k : Fin k0_t2_loop.trips, k0_off3 k = ![0, 0, k.val * 1024] := by decide +kernel
theorem offs4 : ∀ k : Fin k0_t2_loop.trips, k0_off4 k = ![0, 0, k.val * 1024, 0] := by decide +kernel

section
variable (kt : Vec Ideal S1x64x8192 .bf16) (v : Vec Ideal S1x1x8192x128 .bf16)

theorem keysU_at (k : Fin k0_t1_loop.trips) (hk : k.val < 8) (d : Fin 64) (j : Fin 1024) :
    keysU kt k (ix3 0 d j) = kt (ix3 0 d ⟨k.val * 1024 + j.val, by omega⟩) := by
  unfold keysU
  refine View.ld_unit_apply_of _ _ _ _ _ _ fun a => ?_
  have h : ∀ a, k0_off1 k a = (![0, 0, k.val * 1024] : Fin 3 → ℕ) a := congrFun (offs1 k)
  match a with
  | ⟨0, _⟩ => simp [h]
  | ⟨1, _⟩ => simp [h]
  | ⟨2, _⟩ => simp [h]

theorem valsU_at (k : Fin k0_t1_loop.trips) (hk : k.val < 8) (j : Fin 1024) (n : Fin 128) :
    valsU v k (ix4 0 0 j n) = v (ix4 0 0 ⟨k.val * 1024 + j.val, by omega⟩ n) := by
  unfold valsU
  refine View.ld_unit_apply_of _ _ _ _ _ _ fun a => ?_
  have h : ∀ a, k0_off2 k a = (![0, 0, k.val * 1024, 0] : Fin 4 → ℕ) a := congrFun (offs2 k)
  match a with
  | ⟨0, _⟩ => simp [h]
  | ⟨1, _⟩ => simp [h]
  | ⟨2, _⟩ => simp [h]
  | ⟨3, _⟩ => simp [h]

theorem keysS_at (k : Fin k0_t2_loop.trips) (hk : k.val < 8) (d : Fin 64) (j : Fin 1024) :
    keysS kt k (ix3 0 d j) = kt (ix3 0 d ⟨k.val * 1024 + j.val, by omega⟩) := by
  unfold keysS
  refine View.ld_unit_apply_of _ _ _ _ _ _ fun a => ?_
  have h : ∀ a, k0_off3 k a = (![0, 0, k.val * 1024] : Fin 3 → ℕ) a := congrFun (offs3 k)
  match a with
  | ⟨0, _⟩ => simp [h]
  | ⟨1, _⟩ => simp [h]
  | ⟨2, _⟩ => simp [h]

theorem valsS_at (k : Fin k0_t2_loop.trips) (hk : k.val < 8) (j : Fin 1024) (n : Fin 128) :
    valsS v k (ix4 0 0 j n) = v (ix4 0 0 ⟨k.val * 1024 + j.val, by omega⟩ n) := by
  unfold valsS
  refine View.ld_unit_apply_of _ _ _ _ _ _ fun a => ?_
  have h : ∀ a, k0_off4 k a = (![0, 0, k.val * 1024, 0] : Fin 4 → ℕ) a := congrFun (offs4 k)
  match a with
  | ⟨0, _⟩ => simp [h]
  | ⟨1, _⟩ => simp [h]
  | ⟨2, _⟩ => simp [h]
  | ⟨3, _⟩ => simp [h]
end

section
variable (x1 : Vec Ideal S1024x256 .bf16) (x2 : Vec Ideal S1x64x8192 .bf16) (x3 : Vec Ideal S1x1x8192x128 .bf16)
  (x4 : Vec Ideal S1x64x256 .bf16) (x5 : Vec Ideal S1x1x256x128 .bf16)

/-- The score of row `r` against sequence key `j`. -/
def seqScore (r : Fin 4096) (j : Fin 8192) : EReal := ∑ d : Fin 64, headOf x1 (ix2 r d) * x2 (ix3 0 d j)
/-- The score of row `r` against context key `j`. -/
def ctxScore (r : Fin 4096) (j : Fin 256) : EReal := ∑ d : Fin 64, headOf x1 (ix2 r d) * x4 (ix3 0 d j)

/-- The sum over the sequence's keys that the loops build. -/
def seqSum (r : Fin 4096) (n : Fin 128) : EReal := ∑ j : Fin 8192, Ideal.exp2 (seqScore x1 x2 r j) * x3 (ix4 0 0 j n)
/-- The sum over the context's keys. -/
def ctxSum (r : Fin 4096) (n : Fin 128) : EReal := ∑ j : Fin 256, Ideal.exp2 (ctxScore x1 x4 r j) * x5 (ix4 0 0 j n)

/-- The unshifted total is the sum over the sequence's keys and the context's. -/
theorem totalU_at (r : Fin 4096) (n : Fin 128) :
    totalU x1 x2 x3 x4 x5 (ix2 r n) = seqSum x1 x2 x3 r n + ctxSum x1 x4 x5 r n := by
  unfold totalU
  rw [pay1_at, headsU_eq, trips1]
  congr 1
  refine Cert.AttnMath.eight_tiles (fun k => accU x2 x3 (headOf x1) k (ix2 r n)) _ (pay15_at _) fun k hk => ?_
  have hk' : k < k0_t1_loop.trips := by rw [trips1]; exact hk
  show accU x2 x3 (headOf x1) (k + 1) (ix2 r n) = _
  rw [accU_succ _ _ _ _ hk', pay16_at]
  congr 1
  refine Finset.sum_congr rfl fun j _ => ?_
  rw [valsU_at x3 ⟨k, hk'⟩ hk]
  unfold seqScore
  simp only [keysU_at x2 ⟨k, hk'⟩ hk]

variable (hs : ∀ r j, ∃ x : ℝ, seqScore x1 x2 r j = x) (hc : ∀ r j, ∃ x : ℝ, ctxScore x1 x4 r j = x)

include hs in
theorem keyScores_real (k : ℕ) (hk : k < 8) (hk' : k < k0_t2_loop.trips) (i : S4096x1024.Idx) :
    ∃ x : ℝ, k0_pay25 (keysS x2 ⟨k, hk'⟩) (headOf x1) i = x := by
  obtain ⟨r, hr⟩ : ∃ r : Fin 4096, r = i 0 := ⟨i 0, rfl⟩
  obtain ⟨j, hj⟩ : ∃ j : Fin 1024, j = i 1 := ⟨i 1, rfl⟩
  have ei : i = ix2 r j := by rw [hr, hj]; exact eq_ix2 (n0 := 4096) (n1 := 1024) i
  rw [ei, pay25_at]
  simp only [keysS_at x2 ⟨k, hk'⟩ hk]
  exact hs _ _

include hs in
/-- The running maximum is a real number all along. -/
theorem max_real (k : ℕ) (hk : k ≤ 8) (i : S4096x1.Idx) : ∃ x : ℝ, (accS x2 x3 (headOf x1) k).1 i = x := by
  induction k generalizing i with
  | zero => exact pay24_real i
  | succ k ih =>
    have hk' : k < k0_t2_loop.trips := by rw [trips2]; exact hk
    rw [accS_succ _ _ _ _ hk']
    dsimp only
    rw [pay28_eq]
    exact pay26_real _ _ _ (keyScores_real x1 x2 hs k hk hk') (ih (by omega)) i

include hs hc in
/-- The shifted total, multiplied by two to the power of its last shift, is the same sum. -/
theorem totalS_at (r : Fin 4096) : ∃ μ : ℝ, ∀ n,
    Ideal.exp2 (μ : EReal) * totalS x1 x2 x3 x4 x5 (ix2 r n) = seqSum x1 x2 x3 r n + ctxSum x1 x4 x5 r n := by
  have hm := max_real x1 x2 x3 hs
  have hcs : ∀ i : S4096x256.Idx, ∃ x : ℝ, k0_pay29 x4 (headOf x1) i = x := fun i => by
    obtain ⟨r, hr⟩ : ∃ r : Fin 4096, r = i 0 := ⟨i 0, rfl⟩
    obtain ⟨j, hj⟩ : ∃ j : Fin 256, j = i 1 := ⟨i 1, rfl⟩
    have ei : i = ix2 r j := by rw [hr, hj]; exact eq_ix2 (n0 := 4096) (n1 := 256) i
    rw [ei, pay29_at]; exact hc _ _
  obtain ⟨μ, hμ⟩ := pay30_real x4 (headOf x1) (accS x2 x3 (headOf x1) 8).1 hcs (hm 8 le_rfl) (ix2 r 0)
  refine ⟨μ, fun n => ?_⟩
  unfold totalS
  rw [headsS_eq, trips2, pay31_at, hμ]
  obtain ⟨ν, hν⟩ := hm 8 le_rfl (ix2 r 0)
  rw [hν]
  have e := Cert.AttnMath.rescale ν μ ((accS x2 x3 (headOf x1) 8).2 (ix2 r n)) (fun j : Fin 256 => k0_pay29 x4 (headOf x1) (ix2 r j))
    (fun j => hcs _) (fun j => x5 (ix4 0 0 j n))
  refine e.trans ?_
  simp only [pay29_at]
  refine congrArg (· + ctxSum x1 x4 x5 r n) ?_
  rw [← hν]
  refine Cert.AttnMath.eight_tiles
    (fun k => Ideal.exp2 ((accS x2 x3 (headOf x1) k).1 (ix2 r 0)) * (accS x2 x3 (headOf x1) k).2 (ix2 r n)) _ ?_ fun k hk => ?_
  · show _ * k0_pay23 (F := Ideal) (ix2 r n) = 0
    rw [pay23_at, mul_zero]
  · have hk' : k < k0_t2_loop.trips := by rw [trips2]; exact hk
    obtain ⟨a, ha⟩ := hm k (by omega) (ix2 r 0)
    obtain ⟨b, hb⟩ := hm (k + 1) (by omega) (ix2 r 0)
    show Ideal.exp2 ((accS x2 x3 (headOf x1) (k + 1)).1 (ix2 r 0)) * (accS x2 x3 (headOf x1) (k + 1)).2 (ix2 r n) = _
    have hb' := hb
    rw [accS_succ _ _ _ _ hk'] at hb'
    dsimp only at hb'
    rw [pay28_eq] at hb'
    rw [hb, accS_succ _ _ _ _ hk']
    dsimp only
    rw [pay27_at, hb', ha]
    refine (Cert.AttnMath.rescale a b _ (fun j : Fin 1024 => k0_pay25 (keysS x2 ⟨k, hk'⟩) (headOf x1) (ix2 r j))
      (fun j => keyScores_real x1 x2 hs k hk hk' _) (fun j => valsS x3 ⟨k, hk'⟩ (ix4 0 0 j n))).trans ?_
    refine congrArg₂ (· + ·) (by rw [← ha]) (Finset.sum_congr rfl fun j _ => ?_)
    rw [valsS_at x3 ⟨k, hk'⟩ hk, pay25_at]
    unfold seqScore
    simp only [keysS_at x2 ⟨k, hk'⟩ hk]

end

end Cert.KernelIdeal.Attn

end
-- ==== Proof.AttnWeighted.lean ====
/- An element of a block's output as a weighted sum: the softmax of the scores over the context's and the sequence's keys. -/
module

public import proofs.«01_k».proof.Proof.AttnTotal
public import Idealize.ShloMosaic.Lib.Pointwise.Sums

@[expose] public section

set_option maxRecDepth 16384

noncomputable section

namespace Cert.KernelIdeal.Attn

open Idealize.ShloMosaic
open Cert.KernelIdeal Cert.KernelIdeal.Gen
open scoped BigOperators

/-- The context's entries first, then the sequence's. -/
def both {α : Type} (x : Fin 256 → α) (y : Fin 8192 → α) (J : Fin 8448) : α :=
  if h : J.val < 256 then x ⟨J.val, h⟩ else y ⟨J.val - 256, by omega⟩

theorem sum_both (f : Fin 8448 → EReal) :
    ∑ J, f J = (∑ j : Fin 256, f ⟨j.val, by omega⟩) + ∑ j : Fin 8192, f ⟨256 + j.val, by omega⟩ :=
  Fin.sum_univ_two_halves 256 8192 (by norm_num) f

theorem both_fst {α : Type} (x : Fin 256 → α) (y : Fin 8192 → α) (j : Fin 256) : both x y ⟨j.val, by omega⟩ = x j := by
  unfold both; rw [dif_pos j.isLt]
theorem both_snd {α : Type} (x : Fin 256 → α) (y : Fin 8192 → α) (j : Fin 8192) : both x y ⟨256 + j.val, by omega⟩ = y j := by
  unfold both; rw [dif_neg (by simp)]; congr 1; exact Fin.ext (by simp)

section
variable (x1 : Vec Ideal S1024x256 .bf16) (x2 : Vec Ideal S1x64x8192 .bf16) (x3 : Vec Ideal S1x1x8192x128 .bf16)
  (x4 : Vec Ideal S1x64x256 .bf16) (x5 : Vec Ideal S1x1x256x128 .bf16)

/-- Key `J`, component `e`. -/
def keyAt (J : Fin 8448) (e : Fin 64) : EReal := both (fun j => x4 (ix3 0 e j)) (fun j => x2 (ix3 0 e j)) J
/-- Value `J`, component `n`. -/
def valAt (n : Fin 128) (J : Fin 8448) : EReal := both (fun j => x5 (ix4 0 0 j n)) (fun j => x3 (ix4 0 0 j n)) J
/-- The score of key `J` for the query of row `r` in the head that holds column `c`. -/
def scoreAt (r : Fin 1024) (c : Fin 256) (J : Fin 8448) : EReal :=
  (∑ e : Fin 64, keyAt x2 x4 J e * x1 (ix2 r ⟨64 * (c.val / 64) + e.val, by omega⟩)) * ((1 / 8 : ℝ) : EReal)

variable (h1 : ∀ i, ∃ x : ℝ, x1 i = x) (h2 : ∀ i, ∃ x : ℝ, x2 i = x) (h4 : ∀ i, ∃ x : ℝ, x4 i = x)
  (o3 : ∀ j, x3 (ix4 0 0 j 64) = 1) (o5 : ∀ j, x5 (ix4 0 0 j 64) = 1)

include h1 h2 in
theorem seqScore_real (r : Fin 4096) (j : Fin 8192) : ∃ x : ℝ, seqScore x1 x2 r j = x := by
  choose a ha using h1
  choose b hb using h2
  unfold seqScore headOf
  simp only [ha, hb, ← EReal.coe_mul]
  exact ⟨_, (Cert.AttnMath.coe_sum _ _).symm⟩

include h1 h4 in
theorem ctxScore_real (r : Fin 4096) (j : Fin 256) : ∃ x : ℝ, ctxScore x1 x4 r j = x := by
  choose a ha using h1
  choose b hb using h4
  unfold ctxScore headOf
  simp only [ha, hb, ← EReal.coe_mul]
  exact ⟨_, (Cert.AttnMath.coe_sum _ _).symm⟩

include h1 h2 h4 in
theorem scoreAt_real (r : Fin 1024) (c : Fin 256) (J : Fin 8448) : ∃ x : ℝ, scoreAt x1 x2 x4 r c J = x := by
  choose a ha using h1
  choose b hb using h2
  choose d hd using h4
  have hk : ∀ e, ∃ x : ℝ, keyAt x2 x4 J e = x := fun e => by
    unfold keyAt both; split
    · exact ⟨_, hd _⟩
    · exact ⟨_, hb _⟩
  choose k hk using hk
  unfold scoreAt
  simp only [ha, hk, ← EReal.coe_mul, ← Cert.AttnMath.coe_sum]
  exact ⟨_, rfl⟩

include h1 h2 h4 o3 o5 in
/-- Where a multiple of an accumulator is the sum of the powers of two times the values, the quotients are the weighted sum. -/
theorem quot_weighted (a : Vec Ideal S4096x128 .f32) (κ : ℝ) (hκ : 0 < κ) (r : Fin 1024) (c : Fin 256)
    (ht : ∀ n, (κ : EReal) * a (ix2 ⟨1024 * (c.val / 64) + r.val, by omega⟩ n)
      = seqSum x1 x2 x3 ⟨1024 * (c.val / 64) + r.val, by omega⟩ n + ctxSum x1 x4 x5 ⟨1024 * (c.val / 64) + r.val, by omega⟩ n)
    (M : ℝ) :
    quotOf a (ix2 r c) = ∑ J, valAt x3 x5 ⟨c.val % 64, by omega⟩ J
      * Ideal.div (Ideal.exp (scoreAt x1 x2 x4 r c J - M)) (0 + ∑ i, Ideal.exp (scoreAt x1 x2 x4 r c i - M)) := by
  set ρ : Fin 4096 := ⟨1024 * (c.val / 64) + r.val, by omega⟩ with hρ
  have sr := seqScore_real x1 x2 h1 h2
  have cr := ctxScore_real x1 x4 h1 h4
  have σr := scoreAt_real x1 x2 x4 h1 h2 h4 r c
  choose S hS using sr
  choose C hC using cr
  choose σ hσ using σr
  have key : ∀ J, Real.log 2 * both (C ρ) (S ρ) J = σ J := by
    intro J
    choose a ha using h1
    choose b hb using h2
    choose d hd using h4
    have hl : Real.log 2 ≠ 0 := (Real.log_pos one_lt_two).ne'
    have step : ∀ (k : Fin 64 → ℝ) (s : ℝ), (s : EReal) = ∑ e : Fin 64, headOf x1 (ix2 ρ e) * (k e : EReal) →
        (∀ e, keyAt x2 x4 J e = k e) → Real.log 2 * s = σ J := by
      intro k s hs hk
      have e1 : headOf x1 = fun i => _ := rfl
      have hσJ := hσ J
      unfold scoreAt at hσJ
      simp only [hk, ha, ← EReal.coe_mul, ← Cert.AttnMath.coe_sum] at hσJ
      have hx : ∀ e : Fin 64, headOf x1 (ix2 ρ e) = ((a (ix2 r ⟨64 * (c.val / 64) + e.val, by omega⟩) * (8 * Real.log 2)⁻¹ : ℝ) : EReal) := fun e => by
        rw [EReal.coe_mul, ← ha]
        unfold headOf
        refine congrArg (· * _) (congrArg x1 (congrArg₂ ix2 (Fin.ext ?_) (Fin.ext ?_)))
        · show (1024 * (c.val / 64) + r.val) % 1024 = r.val; omega
        · show 64 * ((1024 * (c.val / 64) + r.val) / 1024) + e.val = 64 * (c.val / 64) + e.val; omega
      simp only [hx, ← EReal.coe_mul, ← Cert.AttnMath.coe_sum] at hs
      rw [EReal.coe_eq_coe_iff.mp hs, ← EReal.coe_eq_coe_iff.mp hσJ, Finset.mul_sum, Finset.sum_mul]
      refine Finset.sum_congr rfl fun e _ => ?_
      field_simp
    unfold both
    split
    · rename_i h
      refine step (fun e => d (ix3 0 e ⟨J.val, h⟩)) _ ?_ fun e => ?_
      · rw [← hC]; unfold ctxScore; simp only [hd]
      · unfold keyAt both; rw [dif_pos h]; exact hd _
    · rename_i h
      refine step (fun e => b (ix3 0 e ⟨J.val - 256, by omega⟩)) _ ?_ fun e => ?_
      · rw [← hS]; unfold seqScore; simp only [hb]
      · unfold keyAt both; rw [dif_neg h]; exact hb _
  have tot : ∀ n, (κ : EReal) * a (ix2 ρ n) = ∑ J, Ideal.exp2 ((both (C ρ) (S ρ) J : ℝ) : EReal) * valAt x3 x5 n J := fun n => by
    rw [ht n, sum_both, add_comm]
    unfold valAt ctxSum seqSum
    simp only [both_fst, both_snd, hS, hC]
  have one : ∀ J, valAt x3 x5 64 J = 1 := fun J => by
    unfold valAt both; split
    · exact o5 _
    · exact o3 _
  have fin := Cert.AttnMath.weighted (both (C ρ) (S ρ)) σ M key (valAt x3 x5 ⟨c.val % 64, by omega⟩) κ hκ
    (a (ix2 ρ ⟨c.val % 64, by omega⟩)) (a (ix2 ρ 64)) (tot _) (by rw [tot]; simp only [one])
  simp only [hσ]
  exact fin

include h1 h2 h4 o3 o5 in
/-- The unshifted branch's block is the softmax-weighted sum of the values. -/
theorem blockU_weighted (r : Fin 1024) (c : Fin 256) (M : ℝ) :
    blockU (totalU x1 x2 x3 x4 x5) (ix2 r c) = ∑ J, valAt x3 x5 ⟨c.val % 64, by omega⟩ J
      * Ideal.div (Ideal.exp (scoreAt x1 x2 x4 r c J - M)) (0 + ∑ i, Ideal.exp (scoreAt x1 x2 x4 r c i - M)) := by
  rw [blockU_eq]
  exact quot_weighted x1 x2 x3 x4 x5 h1 h2 h4 o3 o5 _ 1 one_pos r c (fun n => by rw [totalU_at, EReal.coe_one, one_mul]) M

include h1 h2 h4 o3 o5 in
/-- So is the shifted branch's. -/
theorem blockS_weighted (r : Fin 1024) (c : Fin 256) (M : ℝ) :
    blockS (totalS x1 x2 x3 x4 x5) (ix2 r c) = ∑ J, valAt x3 x5 ⟨c.val % 64, by omega⟩ J
      * Ideal.div (Ideal.exp (scoreAt x1 x2 x4 r c J - M)) (0 + ∑ i, Ideal.exp (scoreAt x1 x2 x4 r c i - M)) := by
  rw [blockS_eq]
  obtain ⟨μ, hμ⟩ := totalS_at x1 x2 x3 x4 x5 (seqScore_real x1 x2 h1 h2) (ctxScore_real x1 x4 h1 h4)
    ⟨1024 * (c.val / 64) + r.val, by omega⟩
  rw [Cert.AttnMath.exp2_real] at hμ
  exact quot_weighted x1 x2 x3 x4 x5 h1 h2 h4 o3 o5 _ _ (Real.exp_pos _) r c hμ M

end

end Cert.KernelIdeal.Attn

end
-- ==== Proof.AttnRef.lean ====
module
public import proofs.«01_k».proof.Proof.Gen.ReferenceIdeal.Read
-- ==== Proof.AttnRefValue.lean ====
/- The reference attention, element by element: the softmax-weighted sum of the values over the context's and the sequence's keys. -/
module

public import proofs.«01_k».proof.Proof.AttnWeighted
public import proofs.«01_k».proof.Proof.AttnRef
public import Idealize.ShloMosaic.Lib.KernelVsHost

@[expose] public section

set_option maxRecDepth 16384

noncomputable section

namespace Cert.ReferenceIdeal.Attn

open Idealize.ShloMosaic Idealize.ShloMosaic.StableHlo
open Cert.ReferenceIdeal Cert.ReferenceIdeal.Gen Cert.ReferenceIdeal.Read
open Cert.KernelIdeal.Attn (both)
open scoped BigOperators

section
variable (x0 : (⟨S2x8192x512, .f32⟩ : BufTy).Contents (Elt Ideal)) (x1 x2 : (⟨S2x8192x128, .f32⟩ : BufTy).Contents (Elt Ideal))
  (x3 x4 : (⟨S2x256x128, .f32⟩ : BufTy).Contents (Elt Ideal))

/-- Row `J` of a context array and a sequence array joined, at column `c` of batch `b`. -/
def rowAt (x1 : (⟨S2x8192x128, .f32⟩ : BufTy).Contents (Elt Ideal)) (x3 : (⟨S2x256x128, .f32⟩ : BufTy).Contents (Elt Ideal))
    (b : Fin 2) (c : Fin 128) (J : Fin 8448) : EReal := both (fun j => x3 (ix3 b j c)) (fun j => x1 (ix3 b j c)) J

/-- The scaled score of query `s` of batch `b`, head `g` of group `h`, against key `J`. -/
def score (b h : Fin 2) (g : Fin 4) (s : Fin 8192) (J : Fin 8448) : EReal :=
  (∑ e : Fin 64, rowAt x1 x3 b ⟨64 * h.val + e.val, by omega⟩ J * x0 (ix3 b s ⟨256 * h.val + 64 * g.val + e.val, by omega⟩))
    * ((1 / 8 : ℝ) : EReal)

theorem joined_at (b : Fin 2) (c : Fin 128) (J : Fin 8448) :
    val_main_v0 (F := Ideal) x1 x3 (ix3 b J c) = rowAt x1 x3 b c J := by
  unfold rowAt both
  pointwise [val_main_v0]

theorem eighth : (FloatOps.ofBits (F := Ideal) .f32 0x3E000000#32 : EReal) = ((1 / 8 : ℝ) : EReal) := by
  show Ideal.ofBits .f32 0x3E000000#32 = _
  simp [Ideal.ofBits, Ideal.ieee, -EReal.coe_mul]
  norm_num

theorem score_at (b h : Fin 2) (g : Fin 4) (s : Fin 8192) (J : Fin 8448) :
    val_main_v8 (F := Ideal) x0 x1 x3 (ix5 b h g s J) = score x0 x1 x3 b h g s J := by
  rw [val_main_v8_apply, val_main_v7_apply, val_main_cst_apply, eighth, val_main_v6_apply, val_main_v5_apply]
  unfold score
  refine congrArg (· * _) (Finset.sum_congr rfl fun e _ => ?_)
  rw [val_main_v3_apply, val_main_v2_apply, ← joined_at]
  refine congrArg₂ (· * ·) (congrArg _ (funext fun a => Fin.ext ?_)) (congrArg _ (funext fun a => Fin.ext ?_))
  · match a with
    | ⟨0, _⟩ => show (((b.val * 8448 + J.val) * 2 + h.val) * 64 + e.val) / 1081344 = b.val; omega
    | ⟨1, _⟩ => show (((b.val * 8448 + J.val) * 2 + h.val) * 64 + e.val) / 128 % 8448 = J.val; omega
    | ⟨2, _⟩ => show (((b.val * 8448 + J.val) * 2 + h.val) * 64 + e.val) % 128 = 64 * h.val + e.val; omega
  · match a with
    | ⟨0, _⟩ => show ((((b.val * 8192 + s.val) * 2 + h.val) * 4 + g.val) * 64 + e.val) / 4194304 = b.val; omega
    | ⟨1, _⟩ => show ((((b.val * 8192 + s.val) * 2 + h.val) * 4 + g.val) * 64 + e.val) / 512 % 8192 = s.val; omega
    | ⟨2, _⟩ => show ((((b.val * 8192 + s.val) * 2 + h.val) * 4 + g.val) * 64 + e.val) % 512 = 256 * h.val + 64 * g.val + e.val; omega

/-- The value that key `J` carries in group `h`, component `d`. -/
theorem value_at (b h : Fin 2) (g : Fin 4) (s : Fin 8192) (d : Fin 64) (J : Fin 8448) :
    val_main_v4 (F := Ideal) x2 x4 (lidx_main_v20 (idx_main_v21 (ix5 b s h g d)) J) = rowAt x2 x4 b ⟨64 * h.val + d.val, by omega⟩ J := by
  rw [val_main_v4_apply, ← joined_at]
  refine congrArg (val_main_v0 (F := Ideal) x2 x4) (funext fun a => Fin.ext ?_)
  match a with
  | ⟨0, _⟩ => show (((b.val * 8448 + J.val) * 2 + h.val) * 64 + d.val) / 1081344 = b.val; omega
  | ⟨1, _⟩ => show (((b.val * 8448 + J.val) * 2 + h.val) * 64 + d.val) / 128 % 8448 = J.val; omega
  | ⟨2, _⟩ => show (((b.val * 8448 + J.val) * 2 + h.val) * 64 + d.val) % 128 = 64 * h.val + d.val; omega

theorem reduces_last : S2x2x4x8192x8448.Reduces [4] S2x2x4x8192 := by decide +kernel

variable (hr : ∀ b h g s J, ∃ x : ℝ, score x0 x1 x3 b h g s J = x)

include hr in
/-- The maximum of a query's scores is a real number. -/
theorem top_real (i : S2x2x4x8192.Idx) : ∃ x : ℝ, val_main_v11 (F := Ideal) x0 x1 x3 i = x := by
  have hs : ∀ i, ∃ x : ℝ, val_main_v8 (F := Ideal) x0 x1 x3 i = x := fun i => by
    have e : i = ix5 (n0 := 2) (n1 := 2) (n2 := 4) (n3 := 8192) (n4 := 8448) (i 0) (i 1) (i 2) (i 3) (i 4) := by
      funext a; match a with
      | ⟨0, _⟩ => rfl
      | ⟨1, _⟩ => rfl
      | ⟨2, _⟩ => rfl
      | ⟨3, _⟩ => rfl
      | ⟨4, _⟩ => rfl
    obtain ⟨x, hx⟩ := hr (i 0) (i 1) (i 2) (i 3) (i 4)
    exact ⟨x, (congrArg _ e).trans ((score_at x0 x1 x3 _ _ _ _ _).trans hx)⟩
  have h9 : ∃ x : ℝ, val_main_v9 (F := Ideal) x0 x1 x3 i = x := by
    unfold val_main_v9 val_main_cst_0
    have e := hostReduce_maximumf_eq_multiReduction (F := Ideal) (φ := .f32) (val_main_v8 (F := Ideal) x0 x1 x3) 0xFF800000#32
      reducesTo_S2x2x4x8192x8448_S2x2x4x8192_d4 h_S_ reduces_last (.inl rfl) rfl
    obtain ⟨x, hx⟩ := Cert.AttnMath.fold_max_real (J := Fin 8448) (FloatOps.ofBits (F := Ideal) .f32 0xFF800000#32)
      Cert.KernelIdeal.Attn.start_ne_top (val_main_v8 (F := Ideal) x0 x1 x3 ∘ reduces_last.lift i) fun j => hs _
    exact ⟨x, (congrFun e i).trans ((Ideal.multiReduction_maximumf_single _ _ _ _ _ _).trans hx)⟩
  obtain ⟨x, hx⟩ := h9
  refine ⟨x, ?_⟩
  rw [val_main_v11_apply, val_main_v10_apply, val_main_cst_1_apply, hx]
  show max (Ideal.ofBits .f32 0xFF800000#32) (x : EReal) = x
  have hb : Ideal.ofBits .f32 0xFF800000#32 = ⊥ := by simp [Ideal.ofBits, Ideal.ieee]
  rw [hb]; exact max_eq_right bot_le

include hr in
/-- The reference's result: the values weighted by the softmax of the scores. -/
theorem result_at (b h : Fin 2) (g : Fin 4) (s : Fin 8192) (d : Fin 64) (R : Fin 16384) (C : Fin 512)
    (hR : R.val = 8192 * b.val + s.val) (hC : C.val = 256 * h.val + 64 * g.val + d.val) : ∃ M : ℝ,
    val_main_v23 (F := Ideal) x0 x1 x2 x3 x4 (ix2 R C) = ∑ J, rowAt x2 x4 b ⟨64 * h.val + d.val, by omega⟩ J
      * Ideal.div (Ideal.exp (score x0 x1 x3 b h g s J - M)) (0 + ∑ i, Ideal.exp (score x0 x1 x3 b h g s i - M)) := by
  obtain ⟨M, hM⟩ := top_real x0 x1 x3 hr (ix4 b h g s)
  refine ⟨M, ?_⟩
  have hexp : ∀ J, val_main_v15 (F := Ideal) x0 x1 x3 (ix5 b h g s J) = Ideal.exp (score x0 x1 x3 b h g s J - M) := fun J => by
    rw [val_main_v15_apply, val_main_v14_apply, score_at, val_main_v13_apply, val_main_v12_apply]
    rw [show idx_main_v12 (idx_main_v13 (ix5 b h g s J)) = ix4 b h g s from by
      funext a; match a with
      | ⟨0, _⟩ => rfl
      | ⟨1, _⟩ => rfl
      | ⟨2, _⟩ => rfl
      | ⟨3, _⟩ => rfl, hM]
    rfl
  have hv21 : idx_main_v22 (ix2 R C) = ix5 b s h g d := by
    funext a; refine Fin.ext ?_
    match a with
    | ⟨0, _⟩ => show (R.val * 512 + C.val) / 4194304 = b.val; omega
    | ⟨1, _⟩ => show (R.val * 512 + C.val) / 512 % 8192 = s.val; omega
    | ⟨2, _⟩ => show (R.val * 512 + C.val) / 256 % 2 = h.val; omega
    | ⟨3, _⟩ => show (R.val * 512 + C.val) / 64 % 4 = g.val; omega
    | ⟨4, _⟩ => show (R.val * 512 + C.val) % 64 = d.val; omega
  rw [val_main_v23_apply, val_main_v22_apply, hv21, val_main_v21_apply, val_main_v20_apply]
  show ∑ J : Fin 8448, _ = _
  refine Finset.sum_congr rfl fun J _ => ?_
  have hp : ridx_main_v20 (idx_main_v21 (ix5 b s h g d)) J = ix5 b h g s J := by
    funext a; match a with
    | ⟨0, _⟩ => rfl
    | ⟨1, _⟩ => rfl
    | ⟨2, _⟩ => rfl
    | ⟨3, _⟩ => rfl
    | ⟨4, _⟩ => rfl
  rw [value_at, hp, val_main_v19_apply, hexp, val_main_v18_apply, val_main_v17_apply, val_main_v16_apply, val_main_cst_2_apply]
  have hz : (FloatOps.ofBits (F := Ideal) .f32 0x00000000#32 : EReal) = 0 := by
    show Ideal.ofBits .f32 0x00000000#32 = 0
    simp [Ideal.ofBits, Ideal.ieee]
  rw [hz]
  refine congrArg (_ * ·) ?_
  show Ideal.div _ (0 + _) = Ideal.div _ (0 + _)
  refine congrArg (fun z => Ideal.div _ (0 + z)) (Finset.sum_congr rfl fun i _ => ?_)
  rw [← hexp]
  refine congrArg _ (funext fun a => ?_)
  match a with
  | ⟨0, _⟩ => rfl
  | ⟨1, _⟩ => rfl
  | ⟨2, _⟩ => rfl
  | ⟨3, _⟩ => rfl
  | ⟨4, _⟩ => rfl

end

end Cert.ReferenceIdeal.Attn

end
-- ==== Proof.AttnValue.lean ====
/- The array that the attention launch leaves is softmax attention of its arguments. -/
module

public import proofs.«01_k».proof.Proof.AttnBlocks
public import proofs.«01_k».proof.Proof.AttnWeighted
public import proofs.«01_k».proof.Proof.AttnRefValue

@[expose] public section

set_option maxRecDepth 16384

noncomputable section

namespace Cert.KernelIdeal.Attn

open Idealize.ShloMosaic Idealize.ShloMosaic.TcCoe Idealize.SL.Sem
open Cert.KernelIdeal Cert.KernelIdeal.Gen

/-- The reference's result on the kernel's arguments. -/
def spec (m : (ℓ : Loc nD τ sig) → Buf (Elt Ideal) ℓ) (c : Dev nD) : Vec Ideal S16384x512 .bf16 :=
  Cert.ReferenceIdeal.Read.val_main_v23 (F := Ideal) (m ((c.tc : Thread nD τ).loc main_arg0)) (m ((c.tc : Thread nD τ).loc main_arg1))
    (m ((c.tc : Thread nD τ).loc main_arg2)) (m ((c.tc : Thread nD τ).loc main_arg3)) (m ((c.tc : Thread nD τ).loc main_arg4))

section
variable (m : (ℓ : Loc nD τ sig) → Buf (Elt Ideal) ℓ) (c : Dev nD)

/-- The queries and both parts' keys are real numbers. -/
structure RealScores : Prop where
  q : ∀ i, ∃ r : ℝ, @Eq EReal ((m ((c.tc : Thread nD τ).loc main_arg0) : Vec Ideal S2x8192x512 .f32) i) r
  k : ∀ i, ∃ r : ℝ, @Eq EReal ((m ((c.tc : Thread nD τ).loc main_arg1) : Vec Ideal S2x8192x128 .f32) i) r
  ck : ∀ i, ∃ r : ℝ, @Eq EReal ((m ((c.tc : Thread nD τ).loc main_arg3) : Vec Ideal S2x256x128 .f32) i) r

variable (t : Fin cfg0.N)

/-- A block's keys, context first, are the rows of the joined keys. -/
theorem keyAt_eq (J : Fin 8448) (e : Fin 64) : keyAt (iblk m c 2 t) (iblk m c 4 t) J e
    = Cert.ReferenceIdeal.Attn.rowAt (m ((c.tc : Thread nD τ).loc main_arg1)) (m ((c.tc : Thread nD τ).loc main_arg3)) (batchOf t)
      ⟨64 * (groupOf t).val + e.val, by have := (groupOf t).isLt; omega⟩ J := by
  unfold keyAt Cert.ReferenceIdeal.Attn.rowAt
  rw [funext fun j => ctxKeyBlock m c t e j, funext fun j => keyBlock m c t e j]

/-- A block's values, context first, are the rows of the joined values. -/
theorem valAt_eq (J : Fin 8448) (n : Fin 64) (N : Fin 128) (hN : N.val = n.val) : valAt (iblk m c 3 t) (iblk m c 5 t) N J
    = Cert.ReferenceIdeal.Attn.rowAt (m ((c.tc : Thread nD τ).loc main_arg2)) (m ((c.tc : Thread nD τ).loc main_arg4)) (batchOf t)
      ⟨64 * (groupOf t).val + n.val, by have := (groupOf t).isLt; omega⟩ J := by
  unfold valAt Cert.ReferenceIdeal.Attn.rowAt
  rw [funext fun j => ctxValBlock m c t j n N hN, funext fun j => valBlock m c t j n N hN]

/-- A block's scores are the reference's. -/
theorem scoreAt_eq (r : Fin 1024) (n : Fin 256) (g : Fin 4) (hg : n.val / 64 = g.val) (S : Fin 8192)
    (hS : S.val = 1024 * (t.val % 8) + r.val) (J : Fin 8448) :
    scoreAt (iblk m c 1 t) (iblk m c 2 t) (iblk m c 4 t) r n J
      = Cert.ReferenceIdeal.Attn.score (m ((c.tc : Thread nD τ).loc main_arg0)) (m ((c.tc : Thread nD τ).loc main_arg1))
        (m ((c.tc : Thread nD τ).loc main_arg3)) (batchOf t) (groupOf t) g S J := by
  unfold scoreAt Cert.ReferenceIdeal.Attn.score
  refine congrArg₂ (· * ·) (Finset.sum_congr rfl fun e _ => congrArg₂ (· * ·) (keyAt_eq m c t J e) ?_) rfl
  exact queryBlock m c t r _ S _ hS (by show _ = _ + (64 * (n.val / 64) + e.val); rw [hg]; show _ + _ + _ = _; omega)

variable (hR : RealScores m c)
include hR

theorem queryBlock_real (i : S1024x256.Idx) : ∃ r : ℝ, @Eq EReal ((iblk m c 1 t : Vec Ideal S1024x256 .bf16) i) r := by
  rw [show i = ix2 (i 0) (i 1) from by funext a; match a with | ⟨0, _⟩ => rfl | ⟨1, _⟩ => rfl]
  have h0 : (i 0).val < 1024 := (i 0).isLt
  have h1 : (i 1).val < 256 := (i 1).isLt
  have := (groupOf t).isLt
  obtain ⟨r, hr⟩ := hR.q (ix3 (batchOf t) ⟨1024 * (t.val % 8) + (i 0).val, by omega⟩ ⟨256 * (groupOf t).val + (i 1).val, by omega⟩)
  exact ⟨r, (queryBlock m c t (i 0) (i 1) _ _ rfl rfl).trans hr⟩

theorem keyBlock_real (i : S1x64x8192.Idx) : ∃ r : ℝ, @Eq EReal ((iblk m c 2 t : Vec Ideal S1x64x8192 .bf16) i) r := by
  have h0 : (i 0).val < 1 := (i 0).isLt
  rw [show i = ix3 0 (i 1) (i 2) from by funext a; match a with | ⟨0, _⟩ => exact Fin.ext (by show (i 0).val = 0; omega) | ⟨1, _⟩ => rfl | ⟨2, _⟩ => rfl]
  obtain ⟨r, hr⟩ := hR.k _
  exact ⟨r, (keyBlock m c t (i 1) (i 2)).trans hr⟩

theorem ctxKeyBlock_real (i : S1x64x256.Idx) : ∃ r : ℝ, @Eq EReal ((iblk m c 4 t : Vec Ideal S1x64x256 .bf16) i) r := by
  have h0 : (i 0).val < 1 := (i 0).isLt
  rw [show i = ix3 0 (i 1) (i 2) from by funext a; match a with | ⟨0, _⟩ => exact Fin.ext (by show (i 0).val = 0; omega) | ⟨1, _⟩ => rfl | ⟨2, _⟩ => rfl]
  obtain ⟨r, hr⟩ := hR.ck _
  exact ⟨r, (ctxKeyBlock m c t (i 1) (i 2)).trans hr⟩

/-- The reference's scores are real numbers. -/
theorem score_real (b h : Fin 2) (g : Fin 4) (s : Fin 8192) (J : Fin 8448) : ∃ x : ℝ,
    Cert.ReferenceIdeal.Attn.score (m ((c.tc : Thread nD τ).loc main_arg0)) (m ((c.tc : Thread nD τ).loc main_arg1))
      (m ((c.tc : Thread nD τ).loc main_arg3)) b h g s J = x := by
  have hrow : ∀ e, ∃ x : ℝ, Cert.ReferenceIdeal.Attn.rowAt (m ((c.tc : Thread nD τ).loc main_arg1)) (m ((c.tc : Thread nD τ).loc main_arg3)) b e J = x := fun e => by
    unfold Cert.ReferenceIdeal.Attn.rowAt both
    split
    · exact hR.ck _
    · exact hR.k _
  choose f hf using hrow
  choose q hq using hR.q
  refine ⟨(∑ e : Fin 64, f ⟨64 * h.val + e.val, by omega⟩ * q (ix3 b s ⟨256 * h.val + 64 * g.val + e.val, by omega⟩)) * (1 / 8), ?_⟩
  unfold Cert.ReferenceIdeal.Attn.score
  rw [EReal.coe_mul, Cert.AttnMath.coe_sum]
  refine congrArg₂ (· * ·) (Finset.sum_congr rfl fun e _ => ?_) rfl
  rw [EReal.coe_mul]
  exact congrArg₂ (· * ·) (hf _) (hq _)

/-- What a grid point leaves in the result's block is the reference's result there, whichever branch ran. -/
theorem outAt_at (r : Fin 1024) (n : Fin 256) (R : Fin 16384) (C : Fin 512)
    (hRv : R.val = 1024 * (8 * (t.val / 16) + t.val % 8) + r.val) (hC : C.val = 256 * (t.val / 8 % 2) + n.val) :
    @Eq EReal ((outAt m c t : Vec Ideal S1024x256 .bf16) (ix2 r n)) (spec m c (ix2 R C)) := by
  have hbv : (batchOf t).val = t.val / 16 := rfl
  have hgv : (groupOf t).val = t.val / 8 % 2 := rfl
  obtain ⟨M, hM⟩ := Cert.ReferenceIdeal.Attn.result_at (m ((c.tc : Thread nD τ).loc main_arg0)) (m ((c.tc : Thread nD τ).loc main_arg1))
    (m ((c.tc : Thread nD τ).loc main_arg2)) (m ((c.tc : Thread nD τ).loc main_arg3)) (m ((c.tc : Thread nD τ).loc main_arg4))
    (score_real m c hR) (batchOf t) (groupOf t) ⟨n.val / 64, by omega⟩ ⟨1024 * (t.val % 8) + r.val, by omega⟩
    ⟨n.val % 64, by omega⟩ R C (by rw [hbv]; dsimp only; omega) (by rw [hgv]; dsimp only; omega)
  refine Eq.trans ?_ hM.symm
  have hw : ∀ J, valAt (iblk m c 3 t) (iblk m c 5 t) ⟨n.val % 64, by omega⟩ J
      * Ideal.div (Ideal.exp (scoreAt (iblk m c 1 t) (iblk m c 2 t) (iblk m c 4 t) r n J - M))
        (0 + ∑ i, Ideal.exp (scoreAt (iblk m c 1 t) (iblk m c 2 t) (iblk m c 4 t) r n i - M)) = _ := fun J => by
    rw [valAt_eq m c t J ⟨n.val % 64, by omega⟩ _ rfl,
      funext fun i => scoreAt_eq m c t r n ⟨n.val / 64, by omega⟩ rfl ⟨1024 * (t.val % 8) + r.val, by omega⟩ rfl i]
  by_cases h0 : isZero (flagOf (ms0_0 t) (hs0_0 t) (iblk m c 0 t))
  · rw [outAt_zero m c t h0]
    exact (blockU_weighted _ _ _ _ _ (queryBlock_real m c t hR) (keyBlock_real m c t hR) (ctxKeyBlock_real m c t hR)
      (valBlock_one m c t) (ctxValBlock_one m c t) r n M).trans (Finset.sum_congr rfl fun J _ => hw J)
  · rw [outAt_nonzero m c t h0]
    exact (blockS_weighted _ _ _ _ _ (queryBlock_real m c t hR) (keyBlock_real m c t hR) (ctxKeyBlock_real m c t hR)
      (valBlock_one m c t) (ctxValBlock_one m c t) r n M).trans (Finset.sum_congr rfl fun J _ => hw J)

/-- The array after the launch is the reference's result. -/
theorem final : (dats m 0 c).arrAt 6 cfg0.N = spec m c := by
  refine (dats m 0 c).arrAt_eq_of_covers 6 _ (by decide +kernel) fun t hf y => ?_
  blk_simp
  rw [after0_6]
  have hN := points
  have ht : t.val < cfg0.N := t.isLt
  have h0 : (y 0).val < 1024 := (y 0).isLt
  have h1 : (y 1).val < 256 := (y 1).isLt
  have hy : y = ix2 (⟨(y 0).val, h0⟩ : Fin 1024) (⟨(y 1).val, h1⟩ : Fin 256) := by
    funext a; match a with | ⟨0, _⟩ => rfl | ⟨1, _⟩ => rfl
  refine (congrArg (outAt m c t) hy).trans ((outAt_at m c t hR ⟨(y 0).val, h0⟩ ⟨(y 1).val, h1⟩
    ⟨1024 * (8 * (t.val / 16) + t.val % 8) + (y 0).val, by omega⟩ ⟨256 * (t.val / 8 % 2) + (y 1).val, by omega⟩ rfl rfl).trans
    (congrArg (spec m c) ?_))
  blk_ext [at6]

end

end Cert.KernelIdeal.Attn

end
-- ==== Proof.AttnClaim.lean ====
/- The attention programs' claims: their runs' frames, the kept constant, and the value claim. -/
module

public import proofs.«01_k».proof.Proof.AttnPre
public import proofs.«01_k».proof.Proof.AttnValue
public import proofs.«01_k».proof.Proof.KernelLaunch
public import proofs.«01_k».proof.Proof.Gen.Pre_finite_scores
public import proofs.«01_k».proof.Proof.Gen.ReferenceIdeal.Run
public import Idealize.ShloMosaic.Lib.Claim

@[expose] public section

set_option maxRecDepth 16384

noncomputable section

namespace Cert.Proof.AttnClaim

open Idealize.ShloMosaic Idealize.ShloMosaic.TcCoe Idealize.SL.Sem

/-- The kernel on machine words runs, keeps its arguments and leaves its counters at zero. -/
theorem frameWords : Cert.quiescent_Kernel := fun m ρ _ => Cert.Kernel.Attn.frame m ρ
/-- So does the idealized kernel. -/
theorem frameIdeal : Cert.quiescent_KernelIdeal := fun m ρ _ => Cert.KernelIdeal.Attn.frame m ρ
@[inherit_doc frameIdeal] theorem frameIdealPre : Cert.quiescent_KernelIdeal_pre_finite_scores :=
  fun m ρ _ => Cert.KernelIdeal.Attn.frame m ρ
/-- So does the reference. -/
theorem frameRef : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)
@[inherit_doc frameRef] theorem frameRefPre : Cert.quiescent_ReferenceIdeal_pre_finite_scores := fun m ρ _ =>
  frameRef m ρ trivial

/-- The idealized kernel's named constant rounds to the kernel's own. -/
theorem kept : Cert.preserves_Kernel_KernelIdeal :=
  IdealRules.named_const.statement Cert.KernelIdeal.κ "q_scale" .f32 0x3E38AA3B#32 (((8 * (Real.log 2))⁻¹ : ℝ) : EReal) rfl

/-- Under the precondition the scores' ingredients are real on every device. -/
theorem realScores (m : (ℓ : Loc Cert.KernelIdeal.nD Cert.KernelIdeal.τ Cert.KernelIdeal.sig) → Buf (Elt Ideal) ℓ)
    (h : Cert.Pre_KernelIdeal_finite_scores m) (c : Dev Cert.KernelIdeal.nD) : Cert.KernelIdeal.Attn.RealScores m c := by
  obtain ⟨h0, h1, h3⟩ := Cert.AttnPre.real_entries _ _ _ _ _ _ _ (fun j => congrFun (h c) j)
  exact ⟨h0, h1, h3⟩

/-- On real queries and keys the idealized kernel's result is softmax attention's, entry by entry. -/
theorem value : Cert.algebraic_KernelIdeal_ReferenceIdeal_pre_finite_scores := by
  intro m g m' g' hpre hagree
  refine ⟨fun c => Cert.KernelIdeal.Attn.spec m c, ?_, ?_⟩
  · exact (θ_run _ _ _).mono (fun r h c => ⟨((h.1 c).1 6).trans (Cert.KernelIdeal.Attn.final m c (realScores m hpre c)), h.2.1 c⟩)
      (θ_run_and (Cert.KernelIdeal.Attn.run_main m g) (Cert.KernelIdeal.Attn.frame m g))
  · refine (θ_run _ _ _).mono (fun r h c => ⟨(h c).1.trans ?_, (h c).2⟩) (Cert.ReferenceIdeal.Value.run (F := Ideal) m' g')
    refine (Cert.ReferenceIdeal.Read.val_main_v23_eq m' c).trans ?_
    obtain ⟨a0, a1, a2, a3, a4, -, -⟩ := hagree c
    rw [a0, a1, a2, a3, a4]
    rfl

end Cert.Proof.AttnClaim

end
-- ==== Proof.FfnBlock.lean ====
/- One grid point of the feed-forward kernel: what its body leaves in the output block, as a function of the input blocks. The eleven
   slices of the hidden width go through shared slots of scratch; every read of a slot finds the newest store into it. -/
module

public import proofs.«01_k».proof.Proof.Gen.Kernel2Ideal.Value
public import Idealize.ShloMosaic.Lib.Pipeline.ValueKit
public import Idealize.ShloMosaic.Lib.Pipeline.ReadBack

@[expose] public section

set_option maxRecDepth 65536
set_option maxHeartbeats 0

noncomputable section

namespace Cert.Kernel2Ideal.Ffn

open Idealize.ShloMosaic Idealize.ShloMosaic.TcCoe Idealize.SL.Sem
open Cert.Kernel2Ideal Cert.Kernel2Ideal.Gen

/-- The 1024 rows of one stored slab from row `s` on. -/
def rows (s : ℕ) (hs : s + 1024 ≤ 1056) (P : Vec Ideal S1x1056x256 .f32) : Vec Ideal S1024x256 .f32 :=
  fun j => P (ix3 0 ⟨s + (j 0).val, by have := (j 0).isLt; change _ < 1024 at this; omega⟩ (j 1))

/-- A read of a slab through its slot, after a store into that slot: the rows of what was stored. -/
theorem read_slab {κ : Kind} {sp : Space} (v : View sig κ sp S4x1056x256 .f32) (P : Vec Ideal S1x1056x256 .f32) (L : List (View.Piece (Elt Ideal) S4x1056x256 .f32)) (k s : ℕ)
    (hs : s + 1024 ≤ 1056)
    (inbS : ∀ a, (![s, 0] : Fin 2 → ℕ) a + (![1024, 256] : Fin 2 → ℕ) a ≤ S1056x256.size a)
    (inb : ∀ a, (![k, 0, 0] : Fin 3 → ℕ) a + (![1, 1056, 256] : Fin 3 → ℕ) a ≤ S4x1056x256.size a)
    (h0 h1 h2)
    (hR : (Rect.unit (s := S1056x256) ![s, 0] ![1024, 256] inbS).toLoadRect.shape.numel
      = ((Rect.unit (s := S1056x256) ![s, 0] ![1024, 256] inbS).toLoadRect.consLift ![1, 1056, 256] h0 h1).shape.numel)
    (j : (Rect.unit (s := S1056x256) ![s, 0] ![1024, 256] inbS).toLoadRect.shape.Idx) :
    v.readCov (⟨Rect.unit (s := S4x1056x256) ![k, 0, 0] ![1, 1056, 256] inb, P⟩ :: L)
        ((Rect.unit (s := S4x1056x256) ![k, 0, 0] ![1, 1056, 256] inb).withinL
          ((Rect.unit (s := S1056x256) ![s, 0] ![1024, 256] inbS).toLoadRect.consLift ![1, 1056, 256] h0 h1) h2)
        (no_index (Shape.reshapeEquiv hR j))
      = rows s hs P j := by
  rw [View.readCov_eq_canon']
  have h : Shape.reshapeEquiv hR j = Fin.cons ⟨0, Nat.one_pos⟩ j := Shape.reshapeEquiv_cons_one (d := ![1024, 256]) hR j
  refine Eq.trans ?_ (View.canon_cons_emb (Rect.unit (s := S4x1056x256) ![k, 0, 0] ![1, 1056, 256] inb) P L
    (ix3 0 ⟨s + (j 0).val, by have := (j 0).isLt; change _ < 1024 at this; omega⟩ (j 1)))
  refine congrArg (View.canon _) (Eq.trans (congrArg _ h) ?_)
  funext a
  apply Fin.ext
  fin_cases a
  · rfl
  · show 0 + (s) + 1 * (j 0).val = 0 + 1 * (s + (j 0).val); omega
  · show 0 + 0 + 1 * (j 1).val = 0 + 1 * (j 1).val; omega

/-- A store into another slot does not matter to it. -/
theorem skip_slab {κ : Kind} {sp : Space} (v : View sig κ sp S4x1056x256 .f32) (P : Vec Ideal S1x1056x256 .f32) (L : List (View.Piece (Elt Ideal) S4x1056x256 .f32)) (k k' s : ℕ)
    (hk : k ≠ k')
    (inbS : ∀ a, (![s, 0] : Fin 2 → ℕ) a + (![1024, 256] : Fin 2 → ℕ) a ≤ S1056x256.size a)
    (inb : ∀ a, (![k, 0, 0] : Fin 3 → ℕ) a + (![1, 1056, 256] : Fin 3 → ℕ) a ≤ S4x1056x256.size a)
    (inb' : ∀ a, (![k', 0, 0] : Fin 3 → ℕ) a + (![1, 1056, 256] : Fin 3 → ℕ) a ≤ S4x1056x256.size a)
    (h0 h1 h2) :
    v.readCov (⟨Rect.unit (s := S4x1056x256) ![k', 0, 0] ![1, 1056, 256] inb', P⟩ :: L)
        ((Rect.unit (s := S4x1056x256) ![k, 0, 0] ![1, 1056, 256] inb).withinL
          ((Rect.unit (s := S1056x256) ![s, 0] ![1024, 256] inbS).toLoadRect.consLift ![1, 1056, 256] h0 h1) h2)
      = v.readCov L
        ((Rect.unit (s := S4x1056x256) ![k, 0, 0] ![1, 1056, 256] inb).withinL
          ((Rect.unit (s := S1056x256) ![s, 0] ![1024, 256] inbS).toLoadRect.consLift ![1, 1056, 256] h0 h1) h2) := by
  refine View.readCov_skip _ _ _ _ _ (decide_eq_true ⟨0, ?_⟩)
  show _ ∨ _ ∨ k' + 1 * (1 - 1) < k + 0 ∨ k + 0 + 1 * (1 - 1) < k'
  omega

/-- The same for the two slots of activations. -/
theorem skip_act {κ : Kind} {sp : Space} (v : View sig κ sp S2x1024x256 .bf16) (P : Vec Ideal S1x1024x256 .bf16) (L : List (View.Piece (Elt Ideal) S2x1024x256 .bf16)) (k k' : ℕ)
    (hk : k ≠ k')
    (inb : ∀ a, (![k, 0, 0] : Fin 3 → ℕ) a + (![1, 1024, 256] : Fin 3 → ℕ) a ≤ S2x1024x256.size a)
    (inb' : ∀ a, (![k', 0, 0] : Fin 3 → ℕ) a + (![1, 1024, 256] : Fin 3 → ℕ) a ≤ S2x1024x256.size a) :
    v.readCov (⟨Rect.unit (s := S2x1024x256) ![k', 0, 0] ![1, 1024, 256] inb', P⟩ :: L)
        (Rect.unit (s := S2x1024x256) ![k, 0, 0] ![1, 1024, 256] inb).toLoadRect
      = v.readCov L (Rect.unit (s := S2x1024x256) ![k, 0, 0] ![1, 1024, 256] inb).toLoadRect := by
  refine View.readCov_skip _ _ _ _ _ (decide_eq_true ⟨0, ?_⟩)
  show _ ∨ _ ∨ k' + 1 * (1 - 1) < k ∨ k + 1 * (1 - 1) < k'
  omega

/-- The assembled block of rows: the halo before, the block, the halo after. -/
def stack (p : Vec Ideal S16x1024 .bf16) (q : Vec Ideal S1024x1024 .bf16) (r : Vec Ideal S16x1024 .bf16) : Vec Ideal S1056x1024 .bf16 :=
  View.canon [⟨Rect.unit (s := S1056x1024) ![1040, 0] ![16, 1024] inb_S1056x1024_S16x1024_1040_0, r⟩,
    ⟨Rect.unit (s := S1056x1024) ![16, 0] ![1024, 1024] inb_S1056x1024_S1024x1024_16_0, q⟩,
    ⟨Rect.unit (s := S1056x1024) ![0, 0] ![16, 1024] inb_S1056x1024_S16x1024_0_0, p⟩]

/-- What is read of the block of rows after its three stores. -/
theorem read_stack {κ : Kind} {sp : Space} (v : View sig κ sp S1056x1024 .bf16) (p : Vec Ideal S16x1024 .bf16) (q : Vec Ideal S1024x1024 .bf16) (r : Vec Ideal S16x1024 .bf16) :
    v.readCov [⟨Rect.unit (s := S1056x1024) ![1040, 0] ![16, 1024] inb_S1056x1024_S16x1024_1040_0, r⟩,
      ⟨Rect.unit (s := S1056x1024) ![16, 0] ![1024, 1024] inb_S1056x1024_S1024x1024_16_0, q⟩,
      ⟨Rect.unit (s := S1056x1024) ![0, 0] ![16, 1024] inb_S1056x1024_S16x1024_0_0, p⟩]
      (Rect.unit (s := S1056x1024) ![0, 0] ![1056, 1024] inb_S1056x1024_S1056x1024_0_0).toLoadRect = stack p q r := by
  rw [View.readCov_eq_canon']
  funext j
  refine congrArg (View.canon _) (funext fun a => Fin.ext ?_)
  fin_cases a
  · show 0 + 1 * (j 0).val = (j 0).val; omega
  · show 0 + 1 * (j 1).val = (j 1).val; omega

/-- The activation of one slice of the hidden width: the gate's convolution `g` and the value's `v`, `g` times its logistic times `v`. -/
def actOf (cg : Vec Ideal S8x256 .f32) (ug : Vec Ideal S1x1056x256 .f32) (bg : Vec Ideal S1x256 .f32)
    (cv : Vec Ideal S8x256 .f32) (uv : Vec Ideal S1x1056x256 .f32) (bv : Vec Ideal S1x256 .f32) : Vec Ideal S1x1024x256 .bf16 :=
  k0_pay13 (k0_pay12 (k0_pay11 cg (rows 15 (by decide) ug) (rows 16 (by decide) ug) (rows 17 (by decide) ug) bg) (FloatOps.ofBits .f32 0#32)
    cv (rows 15 (by decide) uv) (rows 16 (by decide) uv) (rows 17 (by decide) uv) bv)

/-- 256 columns of an array of `r` rows, from column `o` on. -/
abbrev colsAt {r n : ℕ} {e : EltTy} (X : Vec Ideal ⟨2, ![r, n]⟩ e) (o : ℕ) (h : o + 256 ≤ n) : Vec Ideal ⟨2, ![r, 256]⟩ e :=
  View.ld X (Rect.unit (s := ⟨2, ![r, n]⟩) ![0, o] ![r, 256] (fun a => by
    fin_cases a
    · show 0 + r ≤ r; omega
    · exact h))

/-- 256 rows of the last matrix, from row `o` on. -/
abbrev rowsAt (X : Vec Ideal S2816x1024 .bf16) (o : ℕ) (h : o + 256 ≤ 2816) : Vec Ideal S256x1024 .bf16 :=
  View.ld X (Rect.unit (s := S2816x1024) ![o, 0] ![256, 1024] (fun a => by
    fin_cases a
    · exact h
    · show 0 + 1024 ≤ 1024; omega))

section
variable (hb : Vec Ideal S1056x1024 .bf16) (x6 : Vec Ideal S1024x5632 .bf16) (x7 : Vec Ideal S8x5632 .f32)
  (x8 : Vec Ideal S1x5632 .f32) (x9 : Vec Ideal S2816x1024 .bf16)

/-- The activation of slice `n`. -/
def actAt (n : ℕ) (h : n < 11) : Vec Ideal S1x1024x256 .bf16 :=
  actOf (colsAt x7 (2816 + 256 * n) (by omega)) (k0_pay7 hb (colsAt x6 (2816 + 256 * n) (by omega))) (colsAt x8 (2816 + 256 * n) (by omega))
    (colsAt x7 (256 * n) (by omega)) (k0_pay7 hb (colsAt x6 (256 * n) (by omega))) (colsAt x8 (256 * n) (by omega))

/-- What is accumulated after the first `n` slices. -/
def accAt : (n : ℕ) → n ≤ 11 → Vec Ideal S1024x1024 .f32
  | 0, _ => k0_pay6 (F := Ideal)
  | n + 1, h => k0_pay23 (accAt n (by omega)) (actAt hb x6 x7 x8 n h) (rowsAt x9 (256 * n) (by omega))

end

variable (m : (ℓ : Loc nD τ sig) → Buf (Elt Ideal) ℓ) (c : Dev nD) (t : Fin cfg0.N)

/-- The block of rows the body works on: zeros stand for the halo at the ends of a sequence. -/
def hbAt : Vec Ideal S1056x1024 .bf16 :=
  stack (k0_pay2 (grid0.coords t) (iblk m c 1 t)) (k0_pay3 (iblk m c 0 t)) (k0_pay4 (grid0.coords t) (iblk m c 2 t))

/-- The output block at a grid point. -/
theorem outsAt_eq (y : S1024x1024.Idx) : outsAt0 m c t y
    = k0_pay1 (k0_pay99 (k0_pay5 (iblk m c 4 t)) (iblk m c 3 t)
        (accAt (hbAt m c t) (iblk m c 6 t) (iblk m c 7 t) (iblk m c 8 t) (iblk m c 9 t) 11 le_rfl)) (iblk m c 5 t) y := by
  unfold outsAt0
  frame_out
  delta LoadRect.valAlong
  simp (disch := decide) only [↓read_stack, ↓skip_slab, ↓skip_act, ↓read_slab, View.readCov_cons_toLoadRect]
  rfl

end Cert.Kernel2Ideal.Ffn

end
-- ==== Proof.FfnHost.lean ====
/- The arrays that the feed-forward kernel is launched on, element by element, from the arguments. -/
module

public import proofs.«01_k».proof.Proof.FfnBlock
public import Idealize.ShloMosaic.Lib.Pointwise

@[expose] public section

set_option maxRecDepth 16384

noncomputable section

namespace Cert.Kernel2Ideal.Ffn

open Idealize.ShloMosaic Idealize.ShloMosaic.TcCoe Idealize.ShloMosaic.StableHlo Idealize.ShloMosaic.Tactic Idealize.SL.Sem
open Cert.Kernel2Ideal Cert.Kernel2Ideal.Gen

/-- One row for each position of each batch. -/
def flat (x : Vec Ideal S2x8192x1024 .f32) : Vec Ideal S16384x1024 .f32 :=
  shapeCast S16384x1024 x shapeCasts_S2x8192x1024_S16384x1024

theorem flat_at (x : Vec Ideal S2x8192x1024 .f32) (b : Fin 2) (s : Fin 8192) (R : Fin 16384) (C : Fin 1024)
    (hR : R.val = 8192 * b.val + s.val) : flat x (ix2 R C) = x (ix3 b s C) := by
  pointwise [flat]
  refine congrArg x (funext fun a => Fin.ext ?_)
  match a with
  | ⟨0, _⟩ => simp; omega
  | ⟨1, _⟩ => simp; omega
  | ⟨2, _⟩ => simp

/-- The modulation vector's rows, with six rows of zeros after them. -/
def modOf (x : Vec Ideal S2x6144 .f32) : Vec Ideal S8x1x6144 .f32 :=
  shapeCast S8x1x6144 (concatenate S8x6144 0 [⟨S2x6144, x⟩, ⟨S6x6144, broadcastInDim S6x6144 ![] bcast_S_S6x6144 (constant (F := Ideal) S_ .f32 0x00000000#32)⟩]
    concatenates_S2x6144_S6x6144_S8x6144_d0) shapeCasts_S8x6144_S8x1x6144

theorem modOf_at (x : Vec Ideal S2x6144 .f32) (b : Fin 2) (B : Fin 8) (n : Fin 6144) (hB : B.val = b.val) : modOf x (ix3 B 0 n) = x (ix2 b n) := by
  have hb : B.val < 2 := by omega
  pointwise [modOf]
  rw [dif_pos hb]
  refine congrArg x (funext fun a => Fin.ext ?_)
  match a with
  | ⟨0, _⟩ => simp <;> omega
  | ⟨1, _⟩ => simp <;> omega

/-- The convolution's taps, with five rows of zeros after them. -/
def tapsOf (x : Vec Ideal S3x5632 .f32) : Vec Ideal S8x5632 .f32 :=
  concatenate S8x5632 0 [⟨S3x5632, x⟩, ⟨S5x5632, broadcastInDim S5x5632 ![] bcast_S_S5x5632 (constant (F := Ideal) S_ .f32 0x00000000#32)⟩]
    concatenates_S3x5632_S5x5632_S8x5632_d0

theorem tapsOf_at (x : Vec Ideal S3x5632 .f32) (b : Fin 3) (B : Fin 8) (n : Fin 5632) (hB : B.val = b.val) : tapsOf x (ix2 B n) = x (ix2 b n) := by
  have hb : B.val < 3 := by omega
  pointwise [tapsOf]
  rw [dif_pos hb]
  refine congrArg x (funext fun a => Fin.ext ?_)
  match a with
  | ⟨0, _⟩ => simp <;> omega
  | ⟨1, _⟩ => simp <;> omega

/-- A vector as one row. -/
def gainOf (x : Vec Ideal S1024 .f32) : Vec Ideal S1x1024 .f32 := shapeCast S1x1024 x shapeCasts_S1024_S1x1024
theorem gainOf_at (x : Vec Ideal S1024 .f32) (n : Fin 1024) : gainOf x (ix2 0 n) = x (ix1 n) := by
  pointwise [gainOf]
@[inherit_doc gainOf] def biasOf (x : Vec Ideal S5632 .f32) : Vec Ideal S1x5632 .f32 := shapeCast S1x5632 x shapeCasts_S5632_S1x5632
theorem biasOf_at (x : Vec Ideal S5632 .f32) (n : Fin 5632) : biasOf x (ix2 0 n) = x (ix1 n) := by
  pointwise [biasOf]

section
variable (m : (ℓ : Loc nD τ sig) → Buf (Elt Ideal) ℓ) (c : Dev nD)

theorem rows_eq : @Eq (Vec Ideal S16384x1024 .bf16) (V m c main_v6)
    (truncf (F := Ideal) .bf16 (flat (m ((c.tc : Thread nD τ).loc main_arg0))) bitsLt_bf16_f32) := by
  unfold V flat
  after_results
  first | done | rfl

theorem residual_eq : @Eq (Vec Ideal S16384x1024 .f32) (V m c main_v7) (flat (m ((c.tc : Thread nD τ).loc main_arg1))) := by
  unfold V flat
  after_results
  first | done | rfl

theorem mod_eq : @Eq (Vec Ideal S8x1x6144 .f32) (V m c main_v2) (modOf (m ((c.tc : Thread nD τ).loc main_arg2))) := by
  unfold V modOf
  after_results
  first | done | rfl

theorem gain_eq : @Eq (Vec Ideal S1x1024 .f32) (V m c main_v8) (gainOf (m ((c.tc : Thread nD τ).loc main_arg7))) := by
  unfold V gainOf
  after_results
  first | done | rfl

theorem up_eq : @Eq (Vec Ideal S1024x5632 .bf16) (V m c main_v9) (truncf (F := Ideal) .bf16 (m ((c.tc : Thread nD τ).loc main_arg3) : Vec Ideal S1024x5632 .f32) bitsLt_bf16_f32) := by
  unfold V
  after_results
  first | done | rfl

theorem taps_eq : @Eq (Vec Ideal S8x5632 .f32) (V m c main_v4) (tapsOf (m ((c.tc : Thread nD τ).loc main_arg4))) := by
  unfold V tapsOf
  after_results
  first | done | rfl

theorem bias_eq : @Eq (Vec Ideal S1x5632 .f32) (V m c main_v10) (biasOf (m ((c.tc : Thread nD τ).loc main_arg5))) := by
  unfold V biasOf
  after_results
  first | done | rfl

theorem down_eq : @Eq (Vec Ideal S2816x1024 .bf16) (V m c main_v11) (truncf (F := Ideal) .bf16 (m ((c.tc : Thread nD τ).loc main_arg6) : Vec Ideal S2816x1024 .f32) bitsLt_bf16_f32) := by
  unfold V
  after_results
  first | done | rfl

end

end Cert.Kernel2Ideal.Ffn

end
-- ==== Proof.FfnRead.lean ====
/- The feed-forward kernel's pure values, element by element, on the extended reals. -/
module

public import proofs.«01_k».proof.Proof.FfnBlock
public import Idealize.ShloMosaic.Lib.Pointwise
public import Idealize.ShloMosaic.PureOps.Ideal.Laws

@[expose] public section

set_option maxRecDepth 16384

noncomputable section

namespace Cert.Kernel2Ideal.Ffn

open Idealize.ShloMosaic Idealize.ShloMosaic.TcCoe Idealize.SL.Sem
open Cert.Kernel2Ideal.Gen

/-- A row's product with a slice of the up projection. -/
theorem pay7_at (h : Vec Ideal S1056x1024 .bf16) (w : Vec Ideal S1024x256 .bf16) (r : Fin 1056) (n : Fin 256) :
    k0_pay7 h w (ix3 0 r n) = ∑ k : Fin 1024, h (ix2 r k) * w (ix2 k n) := by
  pointwise [k0_pay7]

/-- The convolution's three taps on one channel. -/
def taps (w0 w1 w2 b u0 u1 u2 : EReal) : EReal := u0 * w0 + u1 * w1 + u2 * w2 + b

/-- A value scaled by its gate times the gate's sigmoid. -/
def gated (g v : EReal) : EReal := g * Ideal.div 1 (1 + Ideal.exp (0 - g)) * v

theorem pay11_at (cw : Vec Ideal S8x256 .f32) (u0 u1 u2 : Vec Ideal S1024x256 .f32) (b : Vec Ideal S1x256 .f32) (r : Fin 1024) (n : Fin 256) :
    k0_pay11 cw u0 u1 u2 b (ix2 r n)
      = taps (cw (ix2 0 n)) (cw (ix2 1 n)) (cw (ix2 2 n)) (b (ix2 0 n)) (u0 (ix2 r n)) (u1 (ix2 r n)) (u2 (ix2 r n)) := by
  pointwise [k0_pay11]
  rfl

theorem pay12_at (g : FVec Ideal S1024x256 .f32) (cw : Vec Ideal S8x256 .f32) (u0 u1 u2 : Vec Ideal S1024x256 .f32) (b : Vec Ideal S1x256 .f32) (r : Fin 1024) (n : Fin 256) :
    k0_pay13 (k0_pay12 g (FloatOps.ofBits .f32 0#32) cw u0 u1 u2 b) (ix3 0 r n) = gated (g (ix2 r n))
      (taps (cw (ix2 0 n)) (cw (ix2 1 n)) (cw (ix2 2 n)) (b (ix2 0 n)) (u0 (ix2 r n)) (u1 (ix2 r n)) (u2 (ix2 r n))) := by
  pointwise [k0_pay12, k0_pay13]
  rfl

/-- A slice of the down projection adds its products. -/
theorem pay23_at (a : Vec Ideal S1024x1024 .f32) (b : Vec Ideal S1x1024x256 .bf16) (w : Vec Ideal S256x1024 .bf16) (r c : Fin 1024) :
    k0_pay23 a b w (ix2 r c) = a (ix2 r c) + ∑ k : Fin 256, b (ix3 0 r k) * w (ix2 k c) := by
  pointwise [k0_pay23]

theorem pay6_at (r c : Fin 1024) : k0_pay6 (F := Ideal) (ix2 r c) = (0 : EReal) := by
  pointwise [k0_pay6]

/-- The residual sum's root mean square normalization. -/
theorem pay1_at (g : Vec Ideal S1x1x1024 .f32) (x a : Vec Ideal S1024x1024 .f32) (gf : Vec Ideal S1x1024 .f32) (r c : Fin 1024) :
    k0_pay1 (k0_pay99 (k0_pay5 g) x a) gf (ix2 r c)
      = (x (ix2 r c) + g (ix3 0 0 c) * a (ix2 r c)) * Ideal.rsqrt (Ideal.div (∑ k : Fin 1024,
        (x (ix2 r k) + g (ix3 0 0 k) * a (ix2 r k)) * (x (ix2 r k) + g (ix3 0 0 k) * a (ix2 r k))) (Ideal.ofBits .f32 0x44800000#32)
          + Ideal.ofBits .f32 0x358637BD#32) * gf (ix2 0 c) := by
  pointwise [k0_pay1, k0_pay99, k0_pay5]

section
variable (hb : Vec Ideal S1056x1024 .bf16) (x6 : Vec Ideal S1024x5632 .bf16) (x7 : Vec Ideal S8x5632 .f32)
  (x8 : Vec Ideal S1x5632 .f32) (x9 : Vec Ideal S2816x1024 .bf16)

/-- A row's value in channel `n` of the up projection. -/
def upAt (r : Fin 1056) (n : Fin 5632) : EReal := ∑ k : Fin 1024, hb (ix2 r k) * x6 (ix2 k n)

/-- The convolution at output row `r`, whose taps are the block's rows `r + 15` to `r + 17`. -/
def convAt (r : Fin 1024) (n : Fin 5632) : EReal :=
  taps (x7 (ix2 0 n)) (x7 (ix2 1 n)) (x7 (ix2 2 n)) (x8 (ix2 0 n))
    (upAt hb x6 ⟨15 + r.val, by omega⟩ n) (upAt hb x6 ⟨16 + r.val, by omega⟩ n) (upAt hb x6 ⟨17 + r.val, by omega⟩ n)

/-- What row `r` and hidden channel `l` contribute to output column `c`. -/
def termAt (r c : Fin 1024) (l : Fin 2816) : EReal :=
  gated (convAt hb x6 x7 x8 r ⟨2816 + l.val, by omega⟩) (convAt hb x6 x7 x8 r ⟨l.val, by omega⟩) * x9 (ix2 l c)

theorem colsAt_at {r n : ℕ} {e : EltTy} (X : Vec Ideal ⟨2, ![r, n]⟩ e) (o : ℕ) (h : o + 256 ≤ n) (i : Fin r) (j : Fin 256) :
    colsAt X o h (ix2 i j) = X (ix2 i ⟨o + j.val, by omega⟩) :=
  congrArg X (funext fun a => Fin.ext (by
    fin_cases a
    · show 0 + 1 * i.val = i.val; omega
    · show o + 1 * j.val = o + j.val; omega))

theorem rowsAt_at (X : Vec Ideal S2816x1024 .bf16) (o : ℕ) (h : o + 256 ≤ 2816) (i : Fin 256) (j : Fin 1024) :
    rowsAt X o h (ix2 i j) = X (ix2 ⟨o + i.val, by omega⟩ j) :=
  congrArg X (funext fun a => Fin.ext (by
    fin_cases a
    · show o + 1 * i.val = o + i.val; omega
    · show 0 + 1 * j.val = j.val; omega))

/-- A tap of a slice is the up projection's value in the slice's channel. -/
theorem rows_at (o : ℕ) (h : o + 256 ≤ 5632) (s : ℕ) (hs : s + 1024 ≤ 1056) (r : Fin 1024) (k : Fin 256) :
    rows s hs (k0_pay7 hb (colsAt x6 o h)) (ix2 r k) = upAt hb x6 ⟨s + r.val, by omega⟩ ⟨o + k.val, by omega⟩ := by
  refine (pay7_at hb (colsAt x6 o h) _ _).trans (Finset.sum_congr rfl fun l _ => ?_)
  exact congrArg (_ * ·) (colsAt_at x6 o h l k)

/-- A slice's taps and bias are the arrays' in the slice's channel. -/
theorem taps_cols (o : ℕ) (h : o + 256 ≤ 5632) (k : Fin 256) (u0 u1 u2 : EReal) :
    taps (colsAt x7 o h (ix2 0 k)) (colsAt x7 o h (ix2 1 k)) (colsAt x7 o h (ix2 2 k)) (colsAt x8 o h (ix2 0 k)) u0 u1 u2
      = taps (x7 (ix2 0 ⟨o + k.val, by omega⟩)) (x7 (ix2 1 ⟨o + k.val, by omega⟩)) (x7 (ix2 2 ⟨o + k.val, by omega⟩))
        (x8 (ix2 0 ⟨o + k.val, by omega⟩)) u0 u1 u2 :=
  congrFun (congrFun (congrFun (congr (congr (congr (congrArg taps (colsAt_at x7 o h 0 k)) (colsAt_at x7 o h 1 k)) (colsAt_at x7 o h 2 k))
    (colsAt_at x8 o h 0 k)) u0) u1) u2

theorem actAt_at (n : ℕ) (h : n < 11) (r : Fin 1024) (k : Fin 256) : actAt hb x6 x7 x8 n h (ix3 0 r k)
    = gated (convAt hb x6 x7 x8 r ⟨2816 + 256 * n + k.val, by omega⟩) (convAt hb x6 x7 x8 r ⟨256 * n + k.val, by omega⟩) := by
  unfold actAt actOf convAt
  rw [pay12_at, pay11_at]
  simp only [rows_at]
  exact congrArg₂ gated (taps_cols x7 x8 _ _ k _ _ _) (taps_cols x7 x8 _ _ k _ _ _)

/-- The slices' products add up to the sum over their hidden channels. -/
theorem accAt_at (r c : Fin 1024) : ∀ (n : ℕ) (h : n ≤ 11), accAt hb x6 x7 x8 x9 n h (ix2 r c)
    = ∑ s : Fin n, ∑ k : Fin 256, termAt hb x6 x7 x8 x9 r c ⟨s.val * 256 + k.val, by omega⟩
  | 0, _ => pay6_at r c
  | n + 1, h => by
    rw [Fin.sum_univ_castSucc]
    refine (pay23_at _ _ _ r c).trans (congrArg₂ (· + ·) (accAt_at r c n (by omega)) (Finset.sum_congr rfl fun k _ => ?_))
    refine (congrArg₂ (· * ·) (actAt_at hb x6 x7 x8 n (by omega) r k) (rowsAt_at x9 (256 * n) (by omega) k c)).trans ?_
    unfold termAt
    simp only [Fin.val_last, Nat.mul_comm n 256, Nat.add_assoc]

/-- After the last slice the sum runs over all hidden channels. -/
theorem accAt_all (r c : Fin 1024) : accAt hb x6 x7 x8 x9 11 le_rfl (ix2 r c) = ∑ l : Fin 2816, termAt hb x6 x7 x8 x9 r c l :=
  (accAt_at hb x6 x7 x8 x9 r c 11 le_rfl).trans (Fin.sum_mul_add_fin 11 256 (termAt hb x6 x7 x8 x9 r c))

end

section
variable (p : Vec Ideal S16x1024 .bf16) (q : Vec Ideal S1024x1024 .bf16) (r : Vec Ideal S16x1024 .bf16)

/-- A store into other rows does not matter to row `R`. -/
theorem canon_skip (o n : ℕ) (inb : ∀ a, (![o, 0] : Fin 2 → ℕ) a + (![n, 1024] : Fin 2 → ℕ) a ≤ S1056x1024.size a)
    (w : Vec Ideal ⟨2, ![n, 1024]⟩ .bf16) (L : List (View.Piece (Elt Ideal) S1056x1024 .bf16)) (R : Fin 1056) (k : Fin 1024)
    (h : R.val < o ∨ o + n ≤ R.val) :
    View.canon (⟨Rect.unit (s := S1056x1024) ![o, 0] ![n, 1024] inb, w⟩ :: L) (ix2 R k) = View.canon L (ix2 R k) := by
  refine View.canon_cons_of_not_mem _ L fun hm => ?_
  obtain ⟨i, hi, he⟩ := (LoadRect.mem_set _).mp hm (0 : Fin 2)
  change i < n at hi
  change R.val = o + 1 * i at he
  omega

/-- The block's last 16 rows are the rows after the tile. -/
theorem stack_after (i : Fin 16) (k : Fin 1024) (R : Fin 1056) (hR : R.val = 1040 + i.val) : stack p q r (ix2 R k) = r (ix2 i k) := by
  refine Eq.trans (congrArg (stack p q r) ?_) (View.canon_cons_emb (Rect.unit (s := S1056x1024) ![1040, 0] ![16, 1024] inb_S1056x1024_S16x1024_1040_0) r _ (ix2 i k))
  funext a
  apply Fin.ext
  fin_cases a
  · show R.val = 1040 + 1 * i.val; omega
  · show k.val = 0 + 1 * k.val; omega

/-- The block's middle rows are the tile. -/
theorem stack_tile (i k : Fin 1024) (R : Fin 1056) (hR : R.val = 16 + i.val) : stack p q r (ix2 R k) = q (ix2 i k) := by
  refine (canon_skip 1040 16 _ r _ R k (by omega)).trans ?_
  refine Eq.trans (congrArg _ ?_) (View.canon_cons_emb (Rect.unit (s := S1056x1024) ![16, 0] ![1024, 1024] inb_S1056x1024_S1024x1024_16_0) q _ (ix2 i k))
  funext a
  apply Fin.ext
  fin_cases a
  · show R.val = 16 + 1 * i.val; omega
  · show k.val = 0 + 1 * k.val; omega

/-- The block's first 16 rows are the rows before the tile. -/
theorem stack_before (i : Fin 16) (k : Fin 1024) (R : Fin 1056) (hR : R.val = i.val) : stack p q r (ix2 R k) = p (ix2 i k) := by
  refine (canon_skip 1040 16 _ r _ R k (by omega)).trans ((canon_skip 16 1024 _ q _ R k (by omega)).trans ?_)
  refine Eq.trans (congrArg _ ?_) (View.canon_cons_emb (Rect.unit (s := S1056x1024) ![0, 0] ![16, 1024] inb_S1056x1024_S16x1024_0_0) p _ (ix2 i k))
  funext a
  apply Fin.ext
  fin_cases a
  · show R.val = 0 + 1 * i.val; omega
  · show k.val = 0 + 1 * k.val; omega

end

section
variable (m : (ℓ : Loc nD τ sig) → Buf (Elt Ideal) ℓ) (c : Dev nD) (t : Fin cfg0.N)

/-- The residual plus the gate times a value. -/
def sumOf (x : Vec Ideal S1024x1024 .f32) (g : Vec Ideal S1x1x1024 .f32) (r k : Fin 1024) (y : EReal) : EReal :=
  x (ix2 r k) + g (ix3 0 0 k) * y

/-- The residual sum that a grid point normalizes. -/
def sumAt (r k : Fin 1024) : EReal :=
  sumOf (iblk m c 3 t) (iblk m c 4 t) r k
    (∑ l : Fin 2816, termAt (hbAt m c t) (iblk m c 6 t) (iblk m c 7 t) (iblk m c 8 t) (iblk m c 9 t) r k l)

/-- A row divided by its root mean square, with the small constant the program adds, and scaled. -/
def normed (x : Fin 1024 → EReal) (g : EReal) (k : Fin 1024) : EReal :=
  x k * Ideal.rsqrt (Ideal.div (∑ l : Fin 1024, x l * x l) (Ideal.ofBits .f32 0x44800000#32) + Ideal.ofBits .f32 0x358637BD#32) * g

/-- The output block at a grid point, element by element. -/
theorem outsAt_at (r k : Fin 1024) : @Eq EReal (outsAt0 m c t (ix2 r k))
    (normed (sumAt m c t r) ((iblk m c 5 t : Vec Ideal S1x1024 .f32) (ix2 0 k)) k) := by
  refine (outsAt_eq m c t (ix2 r k)).trans ((pay1_at _ _ _ _ r k).trans ?_)
  simp only [accAt_all]
  rfl

end

end Cert.Kernel2Ideal.Ffn

end
-- ==== Proof.FfnBlocks.lean ====
/- The blocks that a grid point of the feed-forward launch takes, element by element, from the arguments. -/
module

public import proofs.«01_k».proof.Proof.FfnHost
public import proofs.«01_k».proof.Proof.FfnRead
public import Idealize.ShloMosaic.Lib.Pipeline.ValueKit

@[expose] public section

set_option maxRecDepth 16384

noncomputable section

namespace Cert.Kernel2Ideal.Ffn

open Idealize.ShloMosaic Idealize.ShloMosaic.TcCoe Idealize.SL.Sem
open Cert.Kernel2Ideal Cert.Kernel2Ideal.Gen

/-- Where each window's block lies at grid point `t`: batch `t / 8`, tile `t % 8` of its sequence. -/
theorem at0 : ∀ t : Fin cfg0.N, win0_0.index t = ![t.val, 0] := (by decide +kernel : ∀ t : Fin grid0.N, _)
/-- The same for the 16 rows before the tile. -/
theorem at1 : ∀ t : Fin cfg0.N, win0_1.index t = ![64 * t.val - 1, 0] := (by decide +kernel : ∀ t : Fin grid0.N, _)
/-- The same for the 16 rows after the tile. -/
theorem at2 : ∀ t : Fin cfg0.N, win0_2.index t = ![min (64 * (t.val + 1)) 1023, 0] := (by decide +kernel : ∀ t : Fin grid0.N, _)
/-- The same for window 3. -/
theorem at3 : ∀ t : Fin cfg0.N, win0_3.index t = ![t.val, 0] := (by decide +kernel : ∀ t : Fin grid0.N, _)
/-- The same for window 4. -/
theorem at4 : ∀ t : Fin cfg0.N, win0_4.index t = ![t.val / 8, 0, 5] := (by decide +kernel : ∀ t : Fin grid0.N, _)
/-- Windows 5 to 9 are whole arrays. -/
theorem at5 : ∀ t : Fin cfg0.N, win0_5.index t = ![0, 0] := (by decide +kernel : ∀ t : Fin grid0.N, _)
@[inherit_doc at5] theorem at6 : ∀ t : Fin cfg0.N, win0_6.index t = ![0, 0] := (by decide +kernel : ∀ t : Fin grid0.N, _)
@[inherit_doc at5] theorem at7 : ∀ t : Fin cfg0.N, win0_7.index t = ![0, 0] := (by decide +kernel : ∀ t : Fin grid0.N, _)
@[inherit_doc at5] theorem at8 : ∀ t : Fin cfg0.N, win0_8.index t = ![0, 0] := (by decide +kernel : ∀ t : Fin grid0.N, _)
@[inherit_doc at5] theorem at9 : ∀ t : Fin cfg0.N, win0_9.index t = ![0, 0] := (by decide +kernel : ∀ t : Fin grid0.N, _)
/-- The result's window. -/
theorem at10 : ∀ t : Fin cfg0.N, win0_10.index t = ![t.val, 0] := (by decide +kernel : ∀ t : Fin grid0.N, _)
/-- The launch has 16 grid points. -/
theorem points : cfg0.N = 16 := (by decide +kernel : grid0.N = 16)

/-- The batch that grid point `t` works on. -/
def batchOf (t : Fin cfg0.N) : Fin 2 := ⟨t.val / 8, by have := t.isLt; have := points; omega⟩

section
variable (m : (ℓ : Loc nD τ sig) → Buf (Elt Ideal) ℓ) (c : Dev nD) (t : Fin cfg0.N)

/-- A row of the tile is a row of argument 0. -/
theorem tileBlock (r k : Fin 1024) (S : Fin 8192) (hS : S.val = 1024 * (t.val % 8) + r.val) :
    @Eq EReal ((iblk m c 0 t : Vec Ideal S1024x1024 .bf16) (ix2 r k))
      ((m ((c.tc : Thread nD τ).loc main_arg0) : Vec Ideal S2x8192x1024 .f32) (ix3 (batchOf t) S k)) := by
  have hb := (batchOf t).isLt
  have hbv : (batchOf t).val = t.val / 8 := rfl
  refine Eq.trans (b := (V m c main_v6 : Vec Ideal S16384x1024 .bf16) (ix2 ⟨8192 * (batchOf t).val + S.val, by omega⟩ k)) ?_
    ((congrFun (rows_eq m c) _).trans (flat_at _ _ _ _ _ rfl))
  blk_ext [iblk, at0]

/-- The last row before a tile that is not its sequence's first. -/
theorem beforeBlock (h : t.val % 8 ≠ 0) (k : Fin 1024) (S : Fin 8192) (hS : S.val + 1 = 1024 * (t.val % 8)) :
    @Eq EReal ((iblk m c 1 t : Vec Ideal S16x1024 .bf16) (ix2 15 k))
      ((m ((c.tc : Thread nD τ).loc main_arg0) : Vec Ideal S2x8192x1024 .f32) (ix3 (batchOf t) S k)) := by
  have hb := (batchOf t).isLt
  have hbv : (batchOf t).val = t.val / 8 := rfl
  refine Eq.trans (b := (V m c main_v6 : Vec Ideal S16384x1024 .bf16) (ix2 ⟨8192 * (batchOf t).val + S.val, by omega⟩ k)) ?_
    ((congrFun (rows_eq m c) _).trans (flat_at _ _ _ _ _ rfl))
  blk_ext [iblk, at1]

/-- The first row after a tile that is not its sequence's last. -/
theorem afterBlock (h : t.val % 8 ≠ 7) (k : Fin 1024) (S : Fin 8192) (hS : S.val = 1024 * (t.val % 8 + 1)) :
    @Eq EReal ((iblk m c 2 t : Vec Ideal S16x1024 .bf16) (ix2 0 k))
      ((m ((c.tc : Thread nD τ).loc main_arg0) : Vec Ideal S2x8192x1024 .f32) (ix3 (batchOf t) S k)) := by
  have hN := points
  have ht : t.val < cfg0.N := t.isLt
  have hb := (batchOf t).isLt
  have hbv : (batchOf t).val = t.val / 8 := rfl
  refine Eq.trans (b := (V m c main_v6 : Vec Ideal S16384x1024 .bf16) (ix2 ⟨8192 * (batchOf t).val + S.val, by omega⟩ k)) ?_
    ((congrFun (rows_eq m c) _).trans (flat_at _ _ _ _ _ rfl))
  blk_ext [iblk, at2]

/-- The residual's rows. -/
theorem residualBlock (r k : Fin 1024) (S : Fin 8192) (hS : S.val = 1024 * (t.val % 8) + r.val) :
    @Eq EReal ((iblk m c 3 t : Vec Ideal S1024x1024 .f32) (ix2 r k))
      ((m ((c.tc : Thread nD τ).loc main_arg1) : Vec Ideal S2x8192x1024 .f32) (ix3 (batchOf t) S k)) := by
  have hb := (batchOf t).isLt
  have hbv : (batchOf t).val = t.val / 8 := rfl
  refine Eq.trans (b := (V m c main_v7 : Vec Ideal S16384x1024 .f32) (ix2 ⟨8192 * (batchOf t).val + S.val, by omega⟩ k)) ?_
    ((congrFun (residual_eq m c) _).trans (flat_at _ _ _ _ _ rfl))
  blk_ext [iblk, at3]

/-- The gate is the last sixth of the modulation vector. -/
theorem gateBlock (k : Fin 1024) :
    @Eq EReal ((iblk m c 4 t : Vec Ideal S1x1x1024 .f32) (ix3 0 0 k))
      ((m ((c.tc : Thread nD τ).loc main_arg2) : Vec Ideal S2x6144 .f32) (ix2 (batchOf t) ⟨5120 + k.val, by omega⟩)) := by
  have hb := (batchOf t).isLt
  have hbv : (batchOf t).val = t.val / 8 := rfl
  refine Eq.trans (b := (V m c main_v2 : Vec Ideal S8x1x6144 .f32) (ix3 ⟨(batchOf t).val, by omega⟩ 0 ⟨5120 + k.val, by omega⟩)) ?_
    ((congrFun (mod_eq m c) _).trans (modOf_at _ _ _ _ rfl))
  blk_ext [iblk, at4]

theorem gainBlock (k : Fin 1024) :
    @Eq EReal ((iblk m c 5 t : Vec Ideal S1x1024 .f32) (ix2 0 k))
      ((m ((c.tc : Thread nD τ).loc main_arg7) : Vec Ideal S1024 .f32) (ix1 k)) := by
  refine Eq.trans (b := (V m c main_v8 : Vec Ideal S1x1024 .f32) (ix2 0 k)) ?_ ((congrFun (gain_eq m c) _).trans (gainOf_at _ _))
  blk_ext [iblk, at5]

theorem upBlock (k : Fin 1024) (n : Fin 5632) :
    @Eq EReal ((iblk m c 6 t : Vec Ideal S1024x5632 .bf16) (ix2 k n))
      ((m ((c.tc : Thread nD τ).loc main_arg3) : Vec Ideal S1024x5632 .f32) (ix2 k n)) := by
  refine Eq.trans (b := (V m c main_v9 : Vec Ideal S1024x5632 .bf16) (ix2 k n)) ?_ (congrFun (up_eq m c) _)
  blk_ext [iblk, at6]

theorem tapsBlock (b : Fin 3) (B : Fin 8) (n : Fin 5632) (hB : B.val = b.val) :
    @Eq EReal ((iblk m c 7 t : Vec Ideal S8x5632 .f32) (ix2 B n))
      ((m ((c.tc : Thread nD τ).loc main_arg4) : Vec Ideal S3x5632 .f32) (ix2 b n)) := by
  refine Eq.trans (b := (V m c main_v4 : Vec Ideal S8x5632 .f32) (ix2 B n)) ?_ ((congrFun (taps_eq m c) _).trans (tapsOf_at _ _ _ _ hB))
  blk_ext [iblk, at7]

theorem biasBlock (n : Fin 5632) :
    @Eq EReal ((iblk m c 8 t : Vec Ideal S1x5632 .f32) (ix2 0 n))
      ((m ((c.tc : Thread nD τ).loc main_arg5) : Vec Ideal S5632 .f32) (ix1 n)) := by
  refine Eq.trans (b := (V m c main_v10 : Vec Ideal S1x5632 .f32) (ix2 0 n)) ?_ ((congrFun (bias_eq m c) _).trans (biasOf_at _ _))
  blk_ext [iblk, at8]

theorem downBlock (l : Fin 2816) (k : Fin 1024) :
    @Eq EReal ((iblk m c 9 t : Vec Ideal S2816x1024 .bf16) (ix2 l k))
      ((m ((c.tc : Thread nD τ).loc main_arg6) : Vec Ideal S2816x1024 .f32) (ix2 l k)) := by
  refine Eq.trans (b := (V m c main_v11 : Vec Ideal S2816x1024 .bf16) (ix2 l k)) ?_ (congrFun (down_eq m c) _)
  blk_ext [iblk, at9]

/-- The tile's number in its sequence, as the body computes it. -/
def posAt (i : grid0.Coords) : BitVec 32 :=
  let n : BitVec 32 := Scalar.select (Scalar.cmpi .eq 8#32 0#32) 1#32 8#32
  let q : BitVec 32 := Scalar.remsi (BitVec.ofNat 32 (i 0).val) n
  Scalar.select (Scalar.andi (Scalar.xori (Scalar.cmpi .slt q 0#32) (Scalar.cmpi .slt n 0#32)) (Scalar.cmpi .ne q 0#32)) (Scalar.addi q n) q

/-- Whether a tile has rows before it, and after it, in its sequence. -/
theorem bit_before : ∀ t : Fin cfg0.N, Scalar.cmpi .sgt (posAt (grid0.coords t)) 0#32 = if t.val % 8 = 0 then 0#1 else 1#1 :=
  (by decide +kernel : ∀ t : Fin grid0.N, _)
@[inherit_doc bit_before] theorem bit_after : ∀ t : Fin cfg0.N, Scalar.cmpi .slt (posAt (grid0.coords t)) 7#32 = if t.val % 8 = 7 then 0#1 else 1#1 :=
  (by decide +kernel : ∀ t : Fin grid0.N, _)

/-- The rows before the first tile of a sequence are replaced by zeros; other tiles keep them. -/
theorem pay2_at (x : Vec Ideal S16x1024 .bf16) (i : Fin 16) (k : Fin 1024) :
    k0_pay2 (grid0.coords t) x (ix2 i k) = if t.val % 8 = 0 then (0 : EReal) else x (ix2 i k) := by
  have h := bit_before t
  unfold posAt at h
  by_cases h0 : t.val % 8 = 0
  · rw [if_pos h0] at h ⊢
    unfold k0_pay2
    simp only [h]
    pointwise []
  · rw [if_neg h0] at h ⊢
    unfold k0_pay2
    simp only [h]
    pointwise []

/-- The same for the rows after the last tile. -/
theorem pay4_at (x : Vec Ideal S16x1024 .bf16) (i : Fin 16) (k : Fin 1024) :
    k0_pay4 (grid0.coords t) x (ix2 i k) = if t.val % 8 = 7 then (0 : EReal) else x (ix2 i k) := by
  have h := bit_after t
  unfold posAt at h
  by_cases h0 : t.val % 8 = 7
  · rw [if_pos h0] at h ⊢
    unfold k0_pay4
    simp only [h]
    pointwise []
  · rw [if_neg h0] at h ⊢
    unfold k0_pay4
    simp only [h]
    pointwise []

theorem pay3_at (x : Vec Ideal S1024x1024 .bf16) (i k : Fin 1024) : k0_pay3 x (ix2 i k) = x (ix2 i k) := by
  pointwise [k0_pay3]

/-- Row `P` of a sequence that has a row of zeros before its first row and one after its last. -/
def padded (x : Vec Ideal S2x8192x1024 .f32) (b : Fin 2) (P : ℕ) (k : Fin 1024) : EReal :=
  if h : 1 ≤ P ∧ P ≤ 8192 then x (ix3 b ⟨P - 1, by omega⟩ k) else 0

/-- The block's row `15 + d + r` is the padded sequence's row `d` after output row `r`, for the taps `d` = 0, 1 and 2. -/
theorem hbAt_at (d : ℕ) (hd : d ≤ 2) (r k : Fin 1024) (R : Fin 1056) (hR : R.val = 15 + d + r.val) :
    @Eq EReal (hbAt m c t (ix2 R k))
      (padded (m ((c.tc : Thread nD τ).loc main_arg0)) (batchOf t) (1024 * (t.val % 8) + r.val + d) k) := by
  unfold hbAt padded
  by_cases h15 : R.val = 15
  · refine (stack_before _ _ _ 15 k R h15).trans ((pay2_at t _ _ _).trans ?_)
    by_cases h0 : t.val % 8 = 0
    · rw [if_pos h0, dif_neg (by omega)]
    · rw [if_neg h0, dif_pos (by omega)]
      exact beforeBlock m c t h0 k _ (by dsimp only; omega)
  by_cases h1040 : R.val = 1040
  · refine (stack_after _ _ _ 0 k R h1040).trans ((pay4_at t _ _ _).trans ?_)
    by_cases h0 : t.val % 8 = 7
    · rw [if_pos h0, dif_neg (by omega)]
    · rw [if_neg h0, dif_pos (by omega)]
      exact afterBlock m c t h0 k _ (by dsimp only; omega)
  · refine (stack_tile _ _ _ ⟨R.val - 16, by omega⟩ k R (by dsimp only; omega)).trans ((pay3_at _ _ _).trans ?_)
    rw [dif_pos (by omega)]
    exact tileBlock m c t _ k _ (by dsimp only; omega)

end

end Cert.Kernel2Ideal.Ffn

end
-- ==== Proof.FfnRefValue.lean ====
/- The feed-forward reference's result, element by element. -/
module

public import proofs.«01_k».proof.Proof.FfnBlocks
public import proofs.«01_k».proof.Proof.Gen.Reference2Ideal.Read
public import Idealize.ShloMosaic.Lib.Pointwise
public import Idealize.ShloMosaic.PureOps.Ideal.Laws

@[expose] public section

set_option maxRecDepth 16384

noncomputable section

namespace Cert.Reference2Ideal.Ffn

open Idealize.ShloMosaic Idealize.ShloMosaic.TcCoe Idealize.ShloMosaic.StableHlo Idealize.SL.Sem
open Cert.Reference2Ideal Cert.Reference2Ideal.Read
open Cert.Kernel2Ideal.Ffn (padded taps gated normed)

section
variable (h : Vec Ideal S2x8192x1024 .f32) (x1 : Vec Ideal S2x8192x1024 .f32) (md : Vec Ideal S2x6144 .f32)
  (wu : Vec Ideal S1024x5632 .f32) (cw : Vec Ideal S3x5632 .f32) (cb : Vec Ideal S5632 .f32) (wd : Vec Ideal S2816x1024 .f32)
  (gf : Vec Ideal S1024 .f32)

/-- The up projection of row `P` of the padded sequence. -/
def up (b : Fin 2) (P : ℕ) (n : Fin 5632) : EReal := ∑ k : Fin 1024, padded h b P k * wu (ix2 k n)

/-- The convolution at position `s`. -/
def conv (b : Fin 2) (s : ℕ) (n : Fin 5632) : EReal :=
  taps (cw (ix2 0 n)) (cw (ix2 1 n)) (cw (ix2 2 n)) (cb (ix1 n)) (up h wu b (s + 0) n) (up h wu b (s + 1) n) (up h wu b (s + 2) n)

/-- The gated feed-forward output at position `s`. -/
def ffn (b : Fin 2) (s : ℕ) (k : Fin 1024) : EReal :=
  ∑ l : Fin 2816, gated (conv h wu cw cb b s ⟨2816 + l.val, by omega⟩) (conv h wu cw cb b s ⟨l.val, by omega⟩) * wd (ix2 l k)

theorem v13_at (b : Fin 2) (P : Fin 8194) (n : Fin 5632) : val_main_v13 (F := Ideal) h wu (ix3 b P n) = up h wu b P.val n := by
  unfold val_main_v13 up padded
  have hp := P.isLt
  by_cases hP : 1 ≤ P.val ∧ P.val ≤ 8192
  · refine (pad_apply _ _ _ _ _ _ _ _).trans ?_
    rw [dif_pos (by intro a; fin_cases a <;> simp <;> omega)]
    refine (congrArg (val_main_v12 (F := Ideal) h wu) (a₂ := ix3 b ⟨P.val - 1, by omega⟩ n) (funext fun a => Fin.ext ?_)).trans ?_
    · fin_cases a
      · show (b.val - 0) / (0 + 1) = b.val; omega
      · show (P.val - 1) / (0 + 1) = P.val - 1; omega
      · show (n.val - 0) / (0 + 1) = n.val; omega
    pointwise [val_main_v12]
    refine Finset.sum_congr rfl fun k _ => ?_
    rw [dif_pos hP]
  · refine (pad_apply _ _ _ _ _ _ _ _).trans ?_
    rw [dif_neg (by intro hh; have := hh 1; simp at this; omega)]
    simp only [dif_neg hP, zero_mul, Finset.sum_const_zero]
    show (((0#32 : BitVec 32).toInt : ℝ) : EReal) = 0
    simp

theorem v36_at (b : Fin 2) (s : Fin 8192) (n : Fin 5632) : val_main_v36 (F := Ideal) h wu cw cb (ix3 b s n) = conv h wu cw cb b s.val n := by
  unfold conv taps
  rw [← v13_at h wu b ⟨s.val + 0, by omega⟩ n, ← v13_at h wu b ⟨s.val + 1, by omega⟩ n, ← v13_at h wu b ⟨s.val + 2, by omega⟩ n]
  pointwise [val_main_v36, val_main_v35, val_main_v34, val_main_v33, val_main_v32, val_main_v31, val_main_v30, val_main_v29, val_main_v28, val_main_v27,
    val_main_v26, val_main_v25, val_main_v24, val_main_v23, val_main_v22, val_main_v21, val_main_v20, val_main_v19, val_main_v18, val_main_v17, val_main_v16,
    val_main_v15, val_main_v14]
  simp only [Nat.add_comm 1, Nat.add_comm 2]

theorem v40_at (b : Fin 2) (s : Fin 8192) (l : Fin 2816) : val_main_v40 (F := Ideal) h wu cw cb (ix3 b s l)
    = gated (conv h wu cw cb b s.val ⟨2816 + l.val, by omega⟩) (conv h wu cw cb b s.val ⟨l.val, by omega⟩) := by
  rw [← v36_at, ← v36_at]
  unfold gated
  pointwise [val_main_v40, val_main_v39, val_main_call1_v5, val_main_call1_v4, val_main_call1_cst_0, val_main_call1_v3, val_main_call1_v2,
    val_main_call1_cst, val_main_call1_v1, val_main_call1_v0, val_main_v38, val_main_v37]
  rw [zero_sub]

theorem v41_at (b : Fin 2) (s : Fin 8192) (k : Fin 1024) : val_main_v41 (F := Ideal) h wu cw cb wd (ix3 b s k) = ffn h wu cw cb wd b s.val k := by
  unfold ffn
  pointwise [val_main_v41]
  exact Finset.sum_congr rfl fun l _ => congrArg (· * _) (v40_at h wu cw cb b s l)

/-- The gated output added to the residual. -/
def total (b : Fin 2) (s : Fin 8192) (k : Fin 1024) : EReal :=
  x1 (ix3 b s k) + md (ix2 b ⟨5120 + k.val, by omega⟩) * ffn h wu cw cb wd b s.val k

theorem v44_at (b : Fin 2) (s : Fin 8192) (k : Fin 1024) : val_main_v44 (F := Ideal) h x1 md wu cw cb wd (ix3 b s k) = total h x1 md wu cw cb wd b s k := by
  unfold total
  rw [← v41_at]
  pointwise [val_main_v44, val_main_v43, val_main_v42, val_main_v11, val_main_v5]

/-- The reference's result. -/
theorem result_at (b : Fin 2) (s : Fin 8192) (k : Fin 1024) (R : Fin 16384) (hR : R.val = 8192 * b.val + s.val) :
    val_main_v58 (F := Ideal) h x1 md wu cw cb wd gf (ix2 R k) = normed (total h x1 md wu cw cb wd b s) (gf (ix1 k)) k := by
  have hs := s.isLt
  unfold normed
  simp only [← v44_at]
  pointwise [val_main_v58, val_main_v57, val_main_v56, val_main_v55, val_main_v54, val_main_v53, val_main_v52, val_main_v51, val_main_v50, val_main_cst_1,
    val_main_v49, val_main_v48, val_main_cst_0, val_main_v47, val_main_v46, val_main_cst, val_main_v45]
  rw [show (⟨R.val / 8192, by omega⟩ : Fin 2) = b from Fin.ext (by dsimp only; omega),
    show (⟨R.val % 8192, by omega⟩ : Fin 8192) = s from Fin.ext (by dsimp only; omega)]

end

end Cert.Reference2Ideal.Ffn

end
-- ==== Proof.FfnValue.lean ====
/- The array that the feed-forward launch leaves is the reference's result on its arguments. -/
module

public import proofs.«01_k».proof.Proof.FfnRefValue

@[expose] public section

set_option maxRecDepth 16384

noncomputable section

namespace Cert.Kernel2Ideal.Ffn

open Idealize.ShloMosaic Idealize.ShloMosaic.TcCoe Idealize.SL.Sem
open Cert.Kernel2Ideal Cert.Kernel2Ideal.Gen

/-- The reference's result on the kernel's arguments. -/
def spec (m : (ℓ : Loc nD τ sig) → Buf (Elt Ideal) ℓ) (c : Dev nD) : Vec Ideal S16384x1024 .f32 :=
  Cert.Reference2Ideal.Read.val_main_v58 (F := Ideal) (m ((c.tc : Thread nD τ).loc main_arg0)) (m ((c.tc : Thread nD τ).loc main_arg1))
    (m ((c.tc : Thread nD τ).loc main_arg2)) (m ((c.tc : Thread nD τ).loc main_arg3)) (m ((c.tc : Thread nD τ).loc main_arg4))
    (m ((c.tc : Thread nD τ).loc main_arg5)) (m ((c.tc : Thread nD τ).loc main_arg6)) (m ((c.tc : Thread nD τ).loc main_arg7))

section
variable (m : (ℓ : Loc nD τ sig) → Buf (Elt Ideal) ℓ) (c : Dev nD) (t : Fin cfg0.N)

/-- A block row's up projection is the padded sequence's. -/
theorem upAt_eq (d : ℕ) (hd : d ≤ 2) (r : Fin 1024) (R : Fin 1056) (hR : R.val = 15 + d + r.val) (n : Fin 5632) :
    upAt (hbAt m c t) (iblk m c 6 t) R n = Cert.Reference2Ideal.Ffn.up (m ((c.tc : Thread nD τ).loc main_arg0))
      (m ((c.tc : Thread nD τ).loc main_arg3)) (batchOf t) (1024 * (t.val % 8) + r.val + d) n :=
  Finset.sum_congr rfl fun k _ => congrArg₂ (· * ·) (hbAt_at m c t d hd r k R hR) (upBlock m c t k n)

theorem taps_congr {w0 w1 w2 b u0 u1 u2 w0' w1' w2' b' u0' u1' u2' : EReal} (h0 : w0 = w0') (h1 : w1 = w1') (h2 : w2 = w2') (hb : b = b')
    (k0 : u0 = u0') (k1 : u1 = u1') (k2 : u2 = u2') : taps w0 w1 w2 b u0 u1 u2 = taps w0' w1' w2' b' u0' u1' u2' := by
  rw [h0, h1, h2, hb, k0, k1, k2]

/-- A block row's convolution is the reference's. -/
theorem convAt_eq (r : Fin 1024) (n : Fin 5632) :
    convAt (hbAt m c t) (iblk m c 6 t) (iblk m c 7 t) (iblk m c 8 t) r n = Cert.Reference2Ideal.Ffn.conv (m ((c.tc : Thread nD τ).loc main_arg0))
      (m ((c.tc : Thread nD τ).loc main_arg3)) (m ((c.tc : Thread nD τ).loc main_arg4)) (m ((c.tc : Thread nD τ).loc main_arg5))
      (batchOf t) (1024 * (t.val % 8) + r.val) n := by
  unfold convAt Cert.Reference2Ideal.Ffn.conv
  exact taps_congr (tapsBlock m c t 0 0 n rfl) (tapsBlock m c t 1 1 n rfl) (tapsBlock m c t 2 2 n rfl) (biasBlock m c t n)
    (upAt_eq m c t 0 (by omega) r _ rfl n) (upAt_eq m c t 1 (by omega) r _ rfl n) (upAt_eq m c t 2 (by omega) r _ rfl n)

/-- A block row's residual sum is the reference's. -/
theorem sumAt_eq (r : Fin 1024) (S : Fin 8192) (hS : S.val = 1024 * (t.val % 8) + r.val) (k : Fin 1024) :
    sumAt m c t r k = Cert.Reference2Ideal.Ffn.total (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4))
      (m ((c.tc : Thread nD τ).loc main_arg5)) (m ((c.tc : Thread nD τ).loc main_arg6)) (batchOf t) S k := by
  unfold sumAt sumOf Cert.Reference2Ideal.Ffn.total Cert.Reference2Ideal.Ffn.ffn
  rw [hS]
  exact congrArg₂ (· + ·) (residualBlock m c t r k S hS) (congrArg₂ (· * ·) (gateBlock m c t k) (Finset.sum_congr rfl fun l _ =>
    congrArg₂ (· * ·) (congrArg₂ gated (convAt_eq m c t r _) (convAt_eq m c t r _)) (downBlock m c t l k)))

/-- What a grid point leaves in the result's block is the reference's result there. -/
theorem outsAt_spec (r k : Fin 1024) (R : Fin 16384) (hR : R.val = 1024 * t.val + r.val) :
    @Eq EReal (outsAt0 m c t (ix2 r k)) (spec m c (ix2 R k)) := by
  have hbv : (batchOf t).val = t.val / 8 := rfl
  refine (outsAt_at m c t r k).trans (Eq.trans ?_ (Cert.Reference2Ideal.Ffn.result_at _ _ _ _ _ _ _ _ (batchOf t)
    ⟨1024 * (t.val % 8) + r.val, by omega⟩ k R (by rw [hbv]; dsimp only; omega)).symm)
  rw [funext (sumAt_eq m c t r ⟨1024 * (t.val % 8) + r.val, by omega⟩ rfl)]
  exact congrArg (fun g => normed _ g k) (gainBlock m c t k)

/-- The array after the launch is the reference's result. -/
theorem final : (dats m 0 c).arrAt 10 cfg0.N = spec m c := by
  refine (dats m 0 c).arrAt_eq_of_covers 10 _ (by decide +kernel) fun t hf y => ?_
  blk_simp
  rw [after0_10]
  have hN := points
  have ht : t.val < cfg0.N := t.isLt
  have h0 : (y 0).val < 1024 := (y 0).isLt
  have h1 : (y 1).val < 1024 := (y 1).isLt
  have hy : y = ix2 (⟨(y 0).val, h0⟩ : Fin 1024) (⟨(y 1).val, h1⟩ : Fin 1024) := by
    funext a; match a with | ⟨0, _⟩ => rfl | ⟨1, _⟩ => rfl
  refine (congrArg (outsAt0 m c t) hy).trans ((outsAt_spec m c t ⟨(y 0).val, h0⟩ ⟨(y 1).val, h1⟩
    ⟨1024 * t.val + (y 0).val, by omega⟩ rfl).trans (congrArg (spec m c) ?_))
  blk_ext [at10]

end

end Cert.Kernel2Ideal.Ffn

end
-- ==== Proof.FfnClaim.lean ====
/- The feed-forward programs' claims: their runs' frames and the value claim. -/
module

public import proofs.«01_k».proof.Defs
public import proofs.«01_k».proof.Proof.FfnValue
public import proofs.«01_k».proof.Proof.Gen.Kernel2.Frame
public import proofs.«01_k».proof.Proof.Gen.Reference2Ideal.Run
public import Idealize.ShloMosaic.Lib.Claim
public import Idealize.ShloMosaic.Adequacy
public import Idealize.ShloMosaic.Init

@[expose] public section

set_option maxRecDepth 16384

noncomputable section

namespace Cert.Proof.FfnClaim

open Idealize.ShloMosaic Idealize.ShloMosaic.TcCoe Idealize.SL.Sem

/-- The kernel on machine words runs, keeps its arguments and leaves its counters at zero. -/
theorem frameWords : Cert.quiescent_Kernel2 := fun m ρ _ => Cert.Kernel2.Gen.frame m ρ
/-- So does the idealized kernel. -/
theorem frameIdeal : Cert.quiescent_Kernel2Ideal := fun m ρ _ => Cert.Kernel2Ideal.Gen.frame m ρ
/-- So does the reference. -/
theorem frameRef : Cert.quiescent_Reference2Ideal := fun m ρ _ =>
  (θ_run Cert.Reference2Ideal.defs _ _).mono (fun r h => ⟨fun c => (h c).2, sem_eq_zero_of_no_sems (by decide) r.2⟩)
    (Cert.Reference2Ideal.Value.run (F := Ideal) m ρ)

/-- The idealized kernel's result is the reference's, entry by entry, on all arguments. -/
theorem value : Cert.algebraic_Kernel2Ideal_Reference2Ideal := by
  intro m g m' g' hpre hagree
  refine ⟨fun c => Cert.Kernel2Ideal.Ffn.spec m c, ?_, ?_⟩
  · exact (θ_run _ _ _).mono (fun r h c => ⟨(h c).1.trans (Cert.Kernel2Ideal.Ffn.final m c), (h c).2⟩)
      (Cert.Kernel2Ideal.Value.run_blocks m g)
  · refine (θ_run _ _ _).mono (fun r h c => ⟨(h c).1.trans ?_, (h c).2⟩) (Cert.Reference2Ideal.Value.run (F := Ideal) m' g')
    refine (Cert.Reference2Ideal.Read.val_main_v58_eq m' c).trans ?_
    obtain ⟨a0, a1, a2, a3, a4, a5, a6, a7⟩ := hagree c
    rw [a0, a1, a2, a3, a4, a5, a6, a7]
    rfl

end Cert.Proof.FfnClaim

end
-- ==== Proof.MergeRead.lean ====
/- The merge kernel's pure values, element by element, on the extended reals. -/
module

public import proofs.«01_k».proof.Proof.Gen.Kernel3Ideal.Value
public import Idealize.ShloMosaic.Lib.Pipeline.ValueKit
public import Idealize.ShloMosaic.Lib.Pointwise
public import Idealize.ShloMosaic.PureOps.Ideal.Laws

@[expose] public section

set_option maxRecDepth 16384

noncomputable section

namespace Cert.Kernel3Ideal.Merge

open Idealize.ShloMosaic Idealize.ShloMosaic.TcCoe Idealize.SL.Sem
open Cert.Kernel3Ideal Cert.Kernel3Ideal.Gen

/-- An entry of a row divided by the row's root mean square, with the small constant the program adds; `d` is the row's length. -/
def rms {n : ℕ} (d : EReal) (x : Fin n → EReal) (k : Fin n) : EReal :=
  x k * Ideal.rsqrt (Ideal.div (∑ l : Fin n, x l * x l) d + Ideal.ofBits .f32 0x358637BD#32)

/-- A value times its sigmoid. -/
def silu (z : EReal) : EReal := z * Ideal.div 1 (1 + Ideal.exp (0 - z))

/-- Entry `j` of head `h` of the second mixer: the head's norm, its scale and its gate. -/
def head (o gr : Fin 512 → EReal) (gg : Fin 128 → EReal) (h : Fin 4) (j : Fin 128) : EReal :=
  rms (Ideal.ofBits .f32 0x43000000#32) (fun l : Fin 128 => o ⟨128 * h.val + l.val, by omega⟩) j * gg j * silu (gr ⟨128 * h.val + j.val, by omega⟩)

/-- The row that the out-projection takes: the first mixer's normed row, then the second mixer's four heads. -/
def mixed (a o gr ga : Fin 512 → EReal) (gg : Fin 128 → EReal) (k : Fin 1024) : EReal :=
  if h : k.val < 512 then rms (Ideal.ofBits .f32 0x44000000#32) a ⟨k.val, h⟩ * ga ⟨k.val, h⟩
  else head o gr gg ⟨(k.val - 512) / 128, by omega⟩ ⟨(k.val - 512) % 128, by omega⟩

theorem pay6_at (a : Vec Ideal S1024x512 .bf16) (g : Vec Ideal S1x512 .f32) (r : Fin 1024) (k : Fin 512) :
    k0_pay6 a g (ix2 r k) = rms (Ideal.ofBits .f32 0x44000000#32) (fun l => a (ix2 r l)) k * g (ix2 0 k) := by
  unfold rms
  pointwise [k0_pay6]

theorem pay3_at (a b : Vec Ideal S1024x512 .bf16) (r : Fin 1024) (k : Fin 512) : k0_pay3 a b (ix2 r k) = a (ix2 r k) + b (ix2 r k) := by
  pointwise [k0_pay3]

theorem pay4_at (a : Vec Ideal S1024x512 .bf16) (r : Fin 1024) (k : Fin 512) : k0_pay4 a (ix2 r k) = a (ix2 r k) := by
  pointwise [k0_pay4]

theorem pay5_at (a : Vec Ideal S1x128 .f32) (k : Fin 128) : k0_pay5 a (ix2 0 k) = a (ix2 0 k) := by
  pointwise [k0_pay5]

section
variable (a b gr : Vec Ideal S1024x512 .bf16) (gg : Vec Ideal S1x128 .f32) (r : Fin 1024) (j : Fin 128)

theorem pay8_at : k0_pay8 (k0_pay4 gr) (k0_pay5 gg) (k0_pay7 a b) (ix2 r j)
    = head (fun l => k0_pay3 a b (ix2 r l)) (fun l => k0_pay4 gr (ix2 r l)) (fun l => k0_pay5 gg (ix2 0 l)) 0 j := by
  unfold head rms silu
  pointwise [k0_pay8, k0_pay7]

theorem pay9_at (v23 v26 : Vec Ideal S1024x512 .f32) (v28 : Vec Ideal S1x128 .f32) : k0_pay9 (F := Ideal) v23 v26 v28 (ix2 r j)
    = head (fun l => v23 (ix2 r l)) (fun l => v26 (ix2 r l)) (fun l => v28 (ix2 0 l)) 1 j := by
  unfold head rms silu
  pointwise [k0_pay9]

set_option maxHeartbeats 1000000 in
theorem pay11_at (v23 v26 : Vec Ideal S1024x512 .f32) (v28 : Vec Ideal S1x128 .f32) (v29 : Vec Ideal S1024x512 .bf16) (v53 v77 : Vec Ideal S1024x128 .bf16)
    (k : Fin 1024) : k0_pay11 (F := Ideal) v23 v26 v28 v29 v53 v77 (k0_pay10 (F := Ideal) v23) (ix2 r k)
    = if h : k.val < 512 then v29 (ix2 r ⟨k.val, h⟩) else if h1 : k.val < 640 then v53 (ix2 r ⟨k.val - 512, by omega⟩)
      else if h2 : k.val < 768 then v77 (ix2 r ⟨k.val - 640, by omega⟩)
      else if h3 : k.val < 896 then head (fun l => v23 (ix2 r l)) (fun l => v26 (ix2 r l)) (fun l => v28 (ix2 0 l)) 2 ⟨k.val - 768, by omega⟩
      else head (fun l => v23 (ix2 r l)) (fun l => v26 (ix2 r l)) (fun l => v28 (ix2 0 l)) 3 ⟨k.val - 896, by omega⟩ := by
  unfold head rms silu
  pointwise [k0_pay11, k0_pay10]
  by_cases h0 : k.val < 512
  · rw [dif_pos h0, dif_pos h0]
  rw [dif_neg h0, dif_neg h0]
  by_cases h1 : k.val < 640
  · rw [dif_pos h1, dif_pos (by omega)]
  rw [dif_neg h1, dif_neg (by omega)]
  by_cases h2 : k.val < 768
  · rw [dif_pos h2, dif_pos (by omega)]
    simp only [Nat.sub_sub, Nat.reduceAdd]
  rw [dif_neg h2, dif_neg (by omega)]
  by_cases h3 : k.val < 896
  · rw [dif_pos h3, dif_pos (by omega)]
    simp only [Nat.sub_sub, Nat.reduceAdd]
  · rw [dif_neg h3, dif_neg (by omega)]
    simp only [Nat.sub_sub, Nat.reduceAdd]

/-- The row that the body hands to the out-projection. -/
theorem mixed_at (v0 a b gr : Vec Ideal S1024x512 .bf16) (ga : Vec Ideal S1x512 .f32) (gg : Vec Ideal S1x128 .f32) (k : Fin 1024) :
    k0_pay11 (F := Ideal) (k0_pay3 a b) (k0_pay4 gr) (k0_pay5 gg) (k0_pay6 v0 ga) (k0_pay8 (k0_pay4 gr) (k0_pay5 gg) (k0_pay7 a b))
      (k0_pay9 (k0_pay3 a b) (k0_pay4 gr) (k0_pay5 gg)) (k0_pay10 (k0_pay3 a b)) (ix2 r k)
    = mixed (fun l => v0 (ix2 r l)) (fun l => a (ix2 r l) + b (ix2 r l)) (fun l => gr (ix2 r l)) (fun l => ga (ix2 0 l)) (fun l => gg (ix2 0 l)) k := by
  refine (pay11_at r _ _ _ _ _ _ k).trans ?_
  have e3 : (fun l => k0_pay3 a b (ix2 r l)) = fun l => a (ix2 r l) + b (ix2 r l) := funext fun l => pay3_at a b r l
  have e4 : (fun l => k0_pay4 gr (ix2 r l)) = fun l => gr (ix2 r l) := funext fun l => pay4_at gr r l
  have e5 : (fun l => k0_pay5 gg (ix2 0 l)) = fun l => gg (ix2 0 l) := funext fun l => pay5_at gg l
  simp only [pay6_at, pay8_at, pay9_at, e3, e4, e5]
  unfold mixed
  by_cases h0 : k.val < 512
  · rw [dif_pos h0, dif_pos h0]
  rw [dif_neg h0, dif_neg h0]
  by_cases h1 : k.val < 640
  · rw [dif_pos h1]
    exact congrArg₂ (head _ _ _) (Fin.ext (by dsimp only; omega)) (Fin.ext (by dsimp only; omega))
  rw [dif_neg h1]
  by_cases h2 : k.val < 768
  · rw [dif_pos h2]
    exact congrArg₂ (head _ _ _) (Fin.ext (by dsimp only; omega)) (Fin.ext (by dsimp only; omega))
  rw [dif_neg h2]
  by_cases h3 : k.val < 896
  · rw [dif_pos h3]
    exact congrArg₂ (head _ _ _) (Fin.ext (by dsimp only; omega)) (Fin.ext (by dsimp only; omega))
  · rw [dif_neg h3]
    exact congrArg₂ (head _ _ _) (Fin.ext (by dsimp only; omega)) (Fin.ext (by dsimp only; omega))

end

theorem pay1_at (x : Vec Ideal S1024x1024 .bf16) (y : Vec Ideal S1024x1024 .f32) (g : Vec Ideal S1x1x1024 .f32) (w : Vec Ideal S1024x1024 .bf16) (r k : Fin 1024) :
    k0_pay1 x (k0_pay12 y) (k0_pay13 g) (k0_pay14 w) (ix2 r k) = y (ix2 r k) + g (ix3 0 0 k) * ∑ l : Fin 1024, x (ix2 r l) * w (ix2 l k) := by
  pointwise [k0_pay1, k0_pay12, k0_pay13, k0_pay14]

theorem pay2_at (x : Vec Ideal S1024x1024 .bf16) (y : Vec Ideal S1024x1024 .f32) (g : Vec Ideal S1x1024 .f32) (w : Vec Ideal S1024x1024 .bf16)
    (g2 : Vec Ideal S1x1024 .f32) (sc sh : Vec Ideal S1x1x1024 .f32) (r k : Fin 1024) :
    k0_pay2 (F := Ideal) x y g w g2 sc sh (ix2 r k) = rms (Ideal.ofBits .f32 0x44800000#32) (fun l => k0_pay1 (F := Ideal) x y g w (ix2 r l)) k
      * (g2 (ix2 0 k) * (1 + sc (ix3 0 0 k))) + sh (ix3 0 0 k) := by
  unfold rms
  pointwise [k0_pay2]

end Cert.Kernel3Ideal.Merge

end
-- ==== Proof.MergeBlocks.lean ====
/- The blocks that a grid point of the merge launch takes, element by element, from the arguments, and what it leaves in its two output blocks. -/
module

public import proofs.«01_k».proof.Proof.MergeRead

@[expose] public section

set_option maxRecDepth 16384

noncomputable section

namespace Cert.Kernel3Ideal.Merge

open Idealize.ShloMosaic Idealize.ShloMosaic.TcCoe Idealize.ShloMosaic.StableHlo Idealize.ShloMosaic.Tactic Idealize.SL.Sem
open Cert.Kernel3Ideal Cert.Kernel3Ideal.Gen

/-- One row for each position of each batch. -/
def flat (x : Vec Ideal S2x8192x1024 .f32) : Vec Ideal S16384x1024 .f32 :=
  shapeCast S16384x1024 x shapeCasts_S2x8192x1024_S16384x1024

theorem flat_at (x : Vec Ideal S2x8192x1024 .f32) (b : Fin 2) (s : Fin 8192) (R : Fin 16384) (C : Fin 1024)
    (hR : R.val = 8192 * b.val + s.val) : flat x (ix2 R C) = x (ix3 b s C) := by
  pointwise [flat]
  refine congrArg x (funext fun a => Fin.ext ?_)
  match a with
  | ⟨0, _⟩ => simp; omega
  | ⟨1, _⟩ => simp; omega
  | ⟨2, _⟩ => simp

@[inherit_doc flat] def flatHalf (x : Vec Ideal S2x8192x512 .f32) : Vec Ideal S16384x512 .f32 :=
  shapeCast S16384x512 x shapeCasts_S2x8192x512_S16384x512

theorem flatHalf_at (x : Vec Ideal S2x8192x512 .f32) (b : Fin 2) (s : Fin 8192) (R : Fin 16384) (C : Fin 512)
    (hR : R.val = 8192 * b.val + s.val) : flatHalf x (ix2 R C) = x (ix3 b s C) := by
  pointwise [flatHalf]
  refine congrArg x (funext fun a => Fin.ext ?_)
  match a with
  | ⟨0, _⟩ => simp; omega
  | ⟨1, _⟩ => simp; omega
  | ⟨2, _⟩ => simp

/-- The same, with the four heads side by side. -/
def flatHeads (x : Vec Ideal S2x8192x4x128 .f32) : Vec Ideal S16384x512 .f32 :=
  shapeCast S16384x512 x shapeCasts_S2x8192x4x128_S16384x512

theorem flatHeads_at (x : Vec Ideal S2x8192x4x128 .f32) (b : Fin 2) (s : Fin 8192) (R : Fin 16384) (C : Fin 512)
    (hR : R.val = 8192 * b.val + s.val) : flatHeads x (ix2 R C) = x (ix4 b s ⟨C.val / 128, by omega⟩ ⟨C.val % 128, by omega⟩) := by
  pointwise [flatHeads]
  refine congrArg x (funext fun a => Fin.ext ?_)
  match a with
  | ⟨0, _⟩ => simp; omega
  | ⟨1, _⟩ => simp; omega
  | ⟨2, _⟩ => simp <;> omega
  | ⟨3, _⟩ => simp <;> omega

/-- The modulation vector's rows, with six rows of zeros after them. -/
def modOf (x : Vec Ideal S2x6144 .f32) : Vec Ideal S8x1x6144 .f32 :=
  shapeCast S8x1x6144 (concatenate S8x6144 0 [⟨S2x6144, x⟩, ⟨S6x6144, broadcastInDim S6x6144 ![] bcast_S_S6x6144 (constant (F := Ideal) S_ .f32 0x00000000#32)⟩]
    concatenates_S2x6144_S6x6144_S8x6144_d0) shapeCasts_S8x6144_S8x1x6144

theorem modOf_at (x : Vec Ideal S2x6144 .f32) (b : Fin 2) (B : Fin 8) (n : Fin 6144) (hB : B.val = b.val) : modOf x (ix3 B 0 n) = x (ix2 b n) := by
  have hb : B.val < 2 := by omega
  pointwise [modOf]
  rw [dif_pos hb]
  refine congrArg x (funext fun a => Fin.ext ?_)
  match a with
  | ⟨0, _⟩ => simp <;> omega
  | ⟨1, _⟩ => simp <;> omega

/-- A vector as one row. -/
def attGainOf (x : Vec Ideal S512 .f32) : Vec Ideal S1x512 .f32 := shapeCast S1x512 x shapeCasts_S512_S1x512
theorem attGainOf_at (x : Vec Ideal S512 .f32) (n : Fin 512) : attGainOf x (ix2 0 n) = x (ix1 n) := by
  pointwise [attGainOf]
@[inherit_doc attGainOf] def headGainOf (x : Vec Ideal S128 .f32) : Vec Ideal S1x128 .f32 := shapeCast S1x128 x shapeCasts_S128_S1x128
theorem headGainOf_at (x : Vec Ideal S128 .f32) (n : Fin 128) : headGainOf x (ix2 0 n) = x (ix1 n) := by
  pointwise [headGainOf]
@[inherit_doc attGainOf] def gainOf (x : Vec Ideal S1024 .f32) : Vec Ideal S1x1024 .f32 := shapeCast S1x1024 x shapeCasts_S1024_S1x1024
theorem gainOf_at (x : Vec Ideal S1024 .f32) (n : Fin 1024) : gainOf x (ix2 0 n) = x (ix1 n) := by
  pointwise [gainOf]

section
variable (m : (ℓ : Loc nD τ sig) → Buf (Elt Ideal) ℓ) (c : Dev nD)

theorem att_eq : @Eq (Vec Ideal S16384x512 .bf16) (V m c main_v4)
    (truncf (F := Ideal) .bf16 (flatHalf (m ((c.tc : Thread nD τ).loc main_arg0))) bitsLt_bf16_f32) := by
  unfold V flatHalf
  after_results
  first | done | rfl

theorem fwd_eq : @Eq (Vec Ideal S16384x512 .bf16) (V m c main_v6)
    (truncf (F := Ideal) .bf16 (flatHeads (m ((c.tc : Thread nD τ).loc main_arg1))) bitsLt_bf16_f32) := by
  unfold V flatHeads
  after_results
  first | done | rfl

theorem bwd_eq : @Eq (Vec Ideal S16384x512 .bf16) (V m c main_v8)
    (truncf (F := Ideal) .bf16 (flatHeads (m ((c.tc : Thread nD τ).loc main_arg2))) bitsLt_bf16_f32) := by
  unfold V flatHeads
  after_results
  first | done | rfl

theorem gate_eq : @Eq (Vec Ideal S16384x512 .bf16) (V m c main_v10)
    (truncf (F := Ideal) .bf16 (flatHalf (m ((c.tc : Thread nD τ).loc main_arg3))) bitsLt_bf16_f32) := by
  unfold V flatHalf
  after_results
  first | done | rfl

theorem residual_eq : @Eq (Vec Ideal S16384x1024 .f32) (V m c main_v11) (flat (m ((c.tc : Thread nD τ).loc main_arg4))) := by
  unfold V flat
  after_results
  first | done | rfl

theorem mod_eq : @Eq (Vec Ideal S8x1x6144 .f32) (V m c main_v2) (modOf (m ((c.tc : Thread nD τ).loc main_arg5))) := by
  unfold V modOf
  after_results
  first | done | rfl

theorem attGain_eq : @Eq (Vec Ideal S1x512 .f32) (V m c main_v12) (attGainOf (m ((c.tc : Thread nD τ).loc main_arg6))) := by
  unfold V attGainOf
  after_results
  first | done | rfl

theorem headGain_eq : @Eq (Vec Ideal S1x128 .f32) (V m c main_v13) (headGainOf (m ((c.tc : Thread nD τ).loc main_arg7))) := by
  unfold V headGainOf
  after_results
  first | done | rfl

theorem proj_eq : @Eq (Vec Ideal S1024x1024 .bf16) (V m c main_v14) (truncf (F := Ideal) .bf16 (m ((c.tc : Thread nD τ).loc main_arg8) : Vec Ideal S1024x1024 .f32) bitsLt_bf16_f32) := by
  unfold V
  after_results
  first | done | rfl

theorem gain_eq : @Eq (Vec Ideal S1x1024 .f32) (V m c main_v15) (gainOf (m ((c.tc : Thread nD τ).loc main_arg9))) := by
  unfold V gainOf
  after_results
  first | done | rfl

end

/-- Windows 0 to 4 and the results' windows 12 and 13 are the rows of the tile. -/
theorem at0 : ∀ t : Fin cfg0.N, win0_0.index t = ![t.val, 0] := (by decide +kernel : ∀ t : Fin grid0.N, _)
@[inherit_doc at0] theorem at1 : ∀ t : Fin cfg0.N, win0_1.index t = ![t.val, 0] := (by decide +kernel : ∀ t : Fin grid0.N, _)
@[inherit_doc at0] theorem at2 : ∀ t : Fin cfg0.N, win0_2.index t = ![t.val, 0] := (by decide +kernel : ∀ t : Fin grid0.N, _)
@[inherit_doc at0] theorem at3 : ∀ t : Fin cfg0.N, win0_3.index t = ![t.val, 0] := (by decide +kernel : ∀ t : Fin grid0.N, _)
@[inherit_doc at0] theorem at4 : ∀ t : Fin cfg0.N, win0_4.index t = ![t.val, 0] := (by decide +kernel : ∀ t : Fin grid0.N, _)
/-- Windows 5, 9 and 10 are parts 2, 3 and 4 of the batch's modulation vector. -/
theorem at5 : ∀ t : Fin cfg0.N, win0_5.index t = ![t.val / 8, 0, 2] := (by decide +kernel : ∀ t : Fin grid0.N, _)
/-- Windows 6, 7, 8 and 11 are whole arrays. -/
theorem at6 : ∀ t : Fin cfg0.N, win0_6.index t = ![0, 0] := (by decide +kernel : ∀ t : Fin grid0.N, _)
@[inherit_doc at6] theorem at7 : ∀ t : Fin cfg0.N, win0_7.index t = ![0, 0] := (by decide +kernel : ∀ t : Fin grid0.N, _)
@[inherit_doc at6] theorem at8 : ∀ t : Fin cfg0.N, win0_8.index t = ![0, 0] := (by decide +kernel : ∀ t : Fin grid0.N, _)
@[inherit_doc at5] theorem at9 : ∀ t : Fin cfg0.N, win0_9.index t = ![t.val / 8, 0, 3] := (by decide +kernel : ∀ t : Fin grid0.N, _)
@[inherit_doc at5] theorem at10 : ∀ t : Fin cfg0.N, win0_10.index t = ![t.val / 8, 0, 4] := (by decide +kernel : ∀ t : Fin grid0.N, _)
@[inherit_doc at6] theorem at11 : ∀ t : Fin cfg0.N, win0_11.index t = ![0, 0] := (by decide +kernel : ∀ t : Fin grid0.N, _)
@[inherit_doc at0] theorem at12 : ∀ t : Fin cfg0.N, win0_12.index t = ![t.val, 0] := (by decide +kernel : ∀ t : Fin grid0.N, _)
@[inherit_doc at0] theorem at13 : ∀ t : Fin cfg0.N, win0_13.index t = ![t.val, 0] := (by decide +kernel : ∀ t : Fin grid0.N, _)
/-- The launch has 16 grid points. -/
theorem points : cfg0.N = 16 := (by decide +kernel : grid0.N = 16)

/-- The batch that grid point `t` works on. -/
def batchOf (t : Fin cfg0.N) : Fin 2 := ⟨t.val / 8, by have := t.isLt; have := points; omega⟩

section
variable (m : (ℓ : Loc nD τ sig) → Buf (Elt Ideal) ℓ) (c : Dev nD) (t : Fin cfg0.N)

section
variable (r : Fin 1024) (S : Fin 8192) (hS : S.val = 1024 * (t.val % 8) + r.val)
include hS

theorem attBlock (k : Fin 512) :
    @Eq EReal ((iblk m c 0 t : Vec Ideal S1024x512 .bf16) (ix2 r k))
      ((m ((c.tc : Thread nD τ).loc main_arg0) : Vec Ideal S2x8192x512 .f32) (ix3 (batchOf t) S k)) := by
  have hb := (batchOf t).isLt
  have hbv : (batchOf t).val = t.val / 8 := rfl
  refine Eq.trans (b := (V m c main_v4 : Vec Ideal S16384x512 .bf16) (ix2 ⟨8192 * (batchOf t).val + S.val, by omega⟩ k)) ?_
    ((congrFun (att_eq m c) _).trans (flatHalf_at _ _ _ _ _ rfl))
  blk_ext [iblk, at0]

theorem fwdBlock (k : Fin 512) :
    @Eq EReal ((iblk m c 1 t : Vec Ideal S1024x512 .bf16) (ix2 r k))
      ((m ((c.tc : Thread nD τ).loc main_arg1) : Vec Ideal S2x8192x4x128 .f32) (ix4 (batchOf t) S ⟨k.val / 128, by omega⟩ ⟨k.val % 128, by omega⟩)) := by
  have hb := (batchOf t).isLt
  have hbv : (batchOf t).val = t.val / 8 := rfl
  refine Eq.trans (b := (V m c main_v6 : Vec Ideal S16384x512 .bf16) (ix2 ⟨8192 * (batchOf t).val + S.val, by omega⟩ k)) ?_
    ((congrFun (fwd_eq m c) _).trans (flatHeads_at _ _ _ _ _ rfl))
  blk_ext [iblk, at1]

theorem bwdBlock (k : Fin 512) :
    @Eq EReal ((iblk m c 2 t : Vec Ideal S1024x512 .bf16) (ix2 r k))
      ((m ((c.tc : Thread nD τ).loc main_arg2) : Vec Ideal S2x8192x4x128 .f32) (ix4 (batchOf t) S ⟨k.val / 128, by omega⟩ ⟨k.val % 128, by omega⟩)) := by
  have hb := (batchOf t).isLt
  have hbv : (batchOf t).val = t.val / 8 := rfl
  refine Eq.trans (b := (V m c main_v8 : Vec Ideal S16384x512 .bf16) (ix2 ⟨8192 * (batchOf t).val + S.val, by omega⟩ k)) ?_
    ((congrFun (bwd_eq m c) _).trans (flatHeads_at _ _ _ _ _ rfl))
  blk_ext [iblk, at2]

theorem gateBlock (k : Fin 512) :
    @Eq EReal ((iblk m c 3 t : Vec Ideal S1024x512 .bf16) (ix2 r k))
      ((m ((c.tc : Thread nD τ).loc main_arg3) : Vec Ideal S2x8192x512 .f32) (ix3 (batchOf t) S k)) := by
  have hb := (batchOf t).isLt
  have hbv : (batchOf t).val = t.val / 8 := rfl
  refine Eq.trans (b := (V m c main_v10 : Vec Ideal S16384x512 .bf16) (ix2 ⟨8192 * (batchOf t).val + S.val, by omega⟩ k)) ?_
    ((congrFun (gate_eq m c) _).trans (flatHalf_at _ _ _ _ _ rfl))
  blk_ext [iblk, at3]

theorem residualBlock (k : Fin 1024) :
    @Eq EReal ((iblk m c 4 t : Vec Ideal S1024x1024 .f32) (ix2 r k))
      ((m ((c.tc : Thread nD τ).loc main_arg4) : Vec Ideal S2x8192x1024 .f32) (ix3 (batchOf t) S k)) := by
  have hb := (batchOf t).isLt
  have hbv : (batchOf t).val = t.val / 8 := rfl
  refine Eq.trans (b := (V m c main_v11 : Vec Ideal S16384x1024 .f32) (ix2 ⟨8192 * (batchOf t).val + S.val, by omega⟩ k)) ?_
    ((congrFun (residual_eq m c) _).trans (flat_at _ _ _ _ _ rfl))
  blk_ext [iblk, at4]

end

theorem scaleBlock (k : Fin 1024) :
    @Eq EReal ((iblk m c 5 t : Vec Ideal S1x1x1024 .f32) (ix3 0 0 k))
      ((m ((c.tc : Thread nD τ).loc main_arg5) : Vec Ideal S2x6144 .f32) (ix2 (batchOf t) ⟨2048 + k.val, by omega⟩)) := by
  have hb := (batchOf t).isLt
  have hbv : (batchOf t).val = t.val / 8 := rfl
  refine Eq.trans (b := (V m c main_v2 : Vec Ideal S8x1x6144 .f32) (ix3 ⟨(batchOf t).val, by omega⟩ 0 ⟨2048 + k.val, by omega⟩)) ?_
    ((congrFun (mod_eq m c) _).trans (modOf_at _ _ _ _ rfl))
  blk_ext [iblk, at5]

theorem attGainBlock (k : Fin 512) :
    @Eq EReal ((iblk m c 6 t : Vec Ideal S1x512 .f32) (ix2 0 k))
      ((m ((c.tc : Thread nD τ).loc main_arg6) : Vec Ideal S512 .f32) (ix1 k)) := by
  refine Eq.trans (b := (V m c main_v12 : Vec Ideal S1x512 .f32) (ix2 0 k)) ?_ ((congrFun (attGain_eq m c) _).trans (attGainOf_at _ _))
  blk_ext [iblk, at6]

theorem headGainBlock (k : Fin 128) :
    @Eq EReal ((iblk m c 7 t : Vec Ideal S1x128 .f32) (ix2 0 k))
      ((m ((c.tc : Thread nD τ).loc main_arg7) : Vec Ideal S128 .f32) (ix1 k)) := by
  refine Eq.trans (b := (V m c main_v13 : Vec Ideal S1x128 .f32) (ix2 0 k)) ?_ ((congrFun (headGain_eq m c) _).trans (headGainOf_at _ _))
  blk_ext [iblk, at7]

theorem projBlock (l k : Fin 1024) :
    @Eq EReal ((iblk m c 8 t : Vec Ideal S1024x1024 .bf16) (ix2 l k))
      ((m ((c.tc : Thread nD τ).loc main_arg8) : Vec Ideal S1024x1024 .f32) (ix2 l k)) := by
  refine Eq.trans (b := (V m c main_v14 : Vec Ideal S1024x1024 .bf16) (ix2 l k)) ?_ (congrFun (proj_eq m c) _)
  blk_ext [iblk, at8]

theorem shiftBlock (k : Fin 1024) :
    @Eq EReal ((iblk m c 9 t : Vec Ideal S1x1x1024 .f32) (ix3 0 0 k))
      ((m ((c.tc : Thread nD τ).loc main_arg5) : Vec Ideal S2x6144 .f32) (ix2 (batchOf t) ⟨3072 + k.val, by omega⟩)) := by
  have hb := (batchOf t).isLt
  have hbv : (batchOf t).val = t.val / 8 := rfl
  refine Eq.trans (b := (V m c main_v2 : Vec Ideal S8x1x6144 .f32) (ix3 ⟨(batchOf t).val, by omega⟩ 0 ⟨3072 + k.val, by omega⟩)) ?_
    ((congrFun (mod_eq m c) _).trans (modOf_at _ _ _ _ rfl))
  blk_ext [iblk, at9]

theorem stretchBlock (k : Fin 1024) :
    @Eq EReal ((iblk m c 10 t : Vec Ideal S1x1x1024 .f32) (ix3 0 0 k))
      ((m ((c.tc : Thread nD τ).loc main_arg5) : Vec Ideal S2x6144 .f32) (ix2 (batchOf t) ⟨4096 + k.val, by omega⟩)) := by
  have hb := (batchOf t).isLt
  have hbv : (batchOf t).val = t.val / 8 := rfl
  refine Eq.trans (b := (V m c main_v2 : Vec Ideal S8x1x6144 .f32) (ix3 ⟨(batchOf t).val, by omega⟩ 0 ⟨4096 + k.val, by omega⟩)) ?_
    ((congrFun (mod_eq m c) _).trans (modOf_at _ _ _ _ rfl))
  blk_ext [iblk, at10]

theorem gainBlock (k : Fin 1024) :
    @Eq EReal ((iblk m c 11 t : Vec Ideal S1x1024 .f32) (ix2 0 k))
      ((m ((c.tc : Thread nD τ).loc main_arg9) : Vec Ideal S1024 .f32) (ix1 k)) := by
  refine Eq.trans (b := (V m c main_v15 : Vec Ideal S1x1024 .f32) (ix2 0 k)) ?_ ((congrFun (gain_eq m c) _).trans (gainOf_at _ _))
  blk_ext [iblk, at11]

end

/-- Each load takes the whole of its block, and the store fills it. -/
theorem load0 (X : Vec Ideal S1024x512 .bf16) : View.ld (Val := Elt Ideal) (e' := EltTy.bf16) X r0_0 = X := by unfold r0_0; exact View.ld_unit_lit _ X (by decide)
@[inherit_doc load0] theorem load1 (X : Vec Ideal S1x512 .f32) : View.ld (Val := Elt Ideal) (e' := EltTy.f32) X r0_1 = X := by unfold r0_1; exact View.ld_unit_lit _ X (by decide)
@[inherit_doc load0] theorem load2 (X : Vec Ideal S1x128 .f32) : View.ld (Val := Elt Ideal) (e' := EltTy.f32) X r0_2 = X := by unfold r0_2; exact View.ld_unit_lit _ X (by decide)
@[inherit_doc load0] theorem load3 {e : EltTy} (X : Vec Ideal S1024x1024 e) : View.ld (Val := Elt Ideal) (e' := e) X r0_3 = X := by unfold r0_3; exact View.ld_unit_lit _ X (by decide)
@[inherit_doc load0] theorem load4 (X : Vec Ideal S1x1x1024 .f32) : View.ld (Val := Elt Ideal) (e' := EltTy.f32) X r0_4 = X := by unfold r0_4; exact View.ld_unit_lit _ X (by decide)
@[inherit_doc load0] theorem load5 (X : Vec Ideal S1x1024 .f32) : View.ld (Val := Elt Ideal) (e' := EltTy.f32) X r0_5 = X := by unfold r0_5; exact View.ld_unit_lit _ X (by decide)
@[inherit_doc load0] theorem store_all {e : EltTy} (X : Vec Ideal S1024x1024 e) :
    View.canon ([⟨r0_3, X⟩] : List (View.Piece (Elt Ideal) S1024x1024 e)) = X := by
  unfold r0_3
  exact View.canon_cons_unit_lit _ X [] (by decide)

section
variable (x0 x1 x2 x3 : Vec Ideal S1024x512 .bf16) (x4 : Vec Ideal S1024x1024 .f32) (x5 : Vec Ideal S1x1x1024 .f32) (x6 : Vec Ideal S1x512 .f32)
  (x7 : Vec Ideal S1x128 .f32) (x8 : Vec Ideal S1024x1024 .bf16) (x9 x10 : Vec Ideal S1x1x1024 .f32) (x11 : Vec Ideal S1x1024 .f32) (r k : Fin 1024)

/-- The gated residual sum of one row, from the blocks. -/
def sumOf : EReal := x4 (ix2 r k) + x5 (ix3 0 0 k) * ∑ l : Fin 1024,
  mixed (fun l => x0 (ix2 r l)) (fun l => x1 (ix2 r l) + x2 (ix2 r l)) (fun l => x3 (ix2 r l)) (fun l => x6 (ix2 0 l)) (fun l => x7 (ix2 0 l)) l * x8 (ix2 l k)

theorem out12_at : out0_12 x0 x1 x2 x3 x4 x5 x6 x7 x8 x9 x10 x11 (ix2 r k) = sumOf x0 x1 x2 x3 x4 x5 x6 x7 x8 r k := by
  unfold_out out0_12
  refine (congrFun (store_all _) _).trans ?_
  simp only [load0, load1, load2, load3, load4]
  refine (pay1_at _ _ _ _ r k).trans ?_
  unfold sumOf
  simp only [mixed_at]

theorem out13_at : out0_13 x0 x1 x2 x3 x4 x5 x6 x7 x8 x9 x10 x11 (ix2 r k)
    = rms (Ideal.ofBits .f32 0x44800000#32) (sumOf x0 x1 x2 x3 x4 x5 x6 x7 x8 r) k * (x11 (ix2 0 k) * (1 + x10 (ix3 0 0 k))) + x9 (ix3 0 0 k) := by
  unfold_out out0_13
  refine (congrFun (store_all _) _).trans ?_
  simp only [load0, load1, load2, load3, load4, load5]
  refine (pay2_at _ _ _ _ _ _ _ r k).trans ?_
  simp only [pay1_at, mixed_at]
  rfl

end

end Cert.Kernel3Ideal.Merge

end
-- ==== Proof.MergeRefValue.lean ====
/- The merge reference's two results, element by element. -/
module

public import proofs.«01_k».proof.Proof.MergeRead
public import proofs.«01_k».proof.Proof.Gen.Reference3Ideal.Read

@[expose] public section

set_option maxRecDepth 16384

noncomputable section

namespace Cert.Reference3Ideal.Merge

open Idealize.ShloMosaic Idealize.ShloMosaic.TcCoe Idealize.ShloMosaic.StableHlo Idealize.SL.Sem
open Cert.Reference3Ideal Cert.Reference3Ideal.Read
open Cert.Kernel3Ideal.Merge (rms silu head mixed)

section
variable (x0 : Vec Ideal S2x8192x512 .f32) (x1 x2 : Vec Ideal S2x8192x4x128 .f32) (x3 : Vec Ideal S2x8192x512 .f32) (x4 : Vec Ideal S2x8192x1024 .f32)
  (x5 : Vec Ideal S2x6144 .f32) (x6 : Vec Ideal S512 .f32) (x7 : Vec Ideal S128 .f32) (x8 : Vec Ideal S1024x1024 .f32) (x9 : Vec Ideal S1024 .f32)
  (b : Fin 2) (s : Fin 8192)

theorem v25_at (k : Fin 512) : val_main_v25 (F := Ideal) x0 x6 (ix3 b s k) = rms (Ideal.ofBits .f32 0x44000000#32) (fun l => x0 (ix3 b s l)) k * x6 (ix1 k) := by
  unfold rms
  pointwise [val_main_v25, val_main_v24, val_main_v23, val_main_v22, val_main_v21, val_main_v20, val_main_v19, val_main_v18, val_main_v17, val_main_v16,
    val_main_v15, val_main_v14, val_main_v13, val_main_v12, val_main_cst, val_main_cst_0, val_main_cst_1]

/-- The sum of the two directions of the second mixer, its heads side by side. -/
def both (l : Fin 512) : EReal :=
  x1 (ix4 b s ⟨l.val / 128, by omega⟩ ⟨l.val % 128, by omega⟩) + x2 (ix4 b s ⟨l.val / 128, by omega⟩ ⟨l.val % 128, by omega⟩)

theorem v38_at (h : Fin 4) (j : Fin 128) : val_main_v38 (F := Ideal) x1 x2 x7 (ix4 b s h j)
    = rms (Ideal.ofBits .f32 0x43000000#32) (fun l : Fin 128 => x1 (ix4 b s h l) + x2 (ix4 b s h l)) j * x7 (ix1 j) := by
  unfold rms
  pointwise [val_main_v38, val_main_v37, val_main_v36, val_main_v35, val_main_v34, val_main_v33, val_main_v32, val_main_v31, val_main_v30, val_main_v29,
    val_main_v28, val_main_v27, val_main_v26, val_main_v12, val_main_cst_2, val_main_cst_3, val_main_cst_4]

theorem v41_at (k : Fin 512) : val_main_v41 (F := Ideal) x1 x2 x3 x7 (ix3 b s k)
    = val_main_v38 (F := Ideal) x1 x2 x7 (ix4 b s ⟨k.val / 128, by omega⟩ ⟨k.val % 128, by omega⟩) * silu (x3 (ix3 b s k)) := by
  unfold silu
  rw [zero_sub]
  pointwise [val_main_v41, val_main_v40, val_main_v39, val_main_call0_v5, val_main_call0_v4, val_main_call0_cst_0, val_main_call0_v3, val_main_call0_v2,
    val_main_call0_cst, val_main_call0_v1, val_main_call0_v0]

theorem v42_at (k : Fin 1024) : val_main_v42 (F := Ideal) x0 x1 x2 x3 x6 x7 (ix3 b s k)
    = mixed (fun l => x0 (ix3 b s l)) (both x1 x2 b s) (fun l => x3 (ix3 b s l)) (fun l => x6 (ix1 l)) (fun l => x7 (ix1 l)) k := by
  unfold mixed
  pointwise [val_main_v42]
  split
  · exact v25_at x0 x6 b s _
  · refine (v41_at x1 x2 x3 x7 b s _).trans ?_
    rw [v38_at]
    unfold head
    refine congrArg₂ (· * ·) (congrArg₂ (· * ·) (congrArg (fun y : Fin 128 → EReal => rms _ y _) (funext fun l => ?_)) rfl)
      (congrArg (fun n : Fin 512 => silu (x3 (ix3 b s n))) (Fin.ext (by dsimp only; omega)))
    have h1 : ∀ n h', (⟨(128 * n + l.val) / 128, h'⟩ : Fin 4) = ⟨n, by omega⟩ := fun n h' => Fin.ext (by dsimp only; omega)
    have h2 : ∀ n h', (⟨(128 * n + l.val) % 128, h'⟩ : Fin 128) = l := fun n h' => Fin.ext (by dsimp only; omega)
    unfold both
    simp only [h1, h2]

/-- The residual and the gated projection of the mixers' outputs. -/
def sumOf (k : Fin 1024) : EReal := x4 (ix3 b s k) + x5 (ix2 b ⟨2048 + k.val, by omega⟩) * ∑ l : Fin 1024,
  mixed (fun l => x0 (ix3 b s l)) (both x1 x2 b s) (fun l => x3 (ix3 b s l)) (fun l => x6 (ix1 l)) (fun l => x7 (ix1 l)) l * x8 (ix2 l k)

theorem v46_at (k : Fin 1024) : val_main_v46 (F := Ideal) x0 x1 x2 x3 x4 x5 x6 x7 x8 (ix3 b s k) = sumOf x0 x1 x2 x3 x4 x5 x6 x7 x8 b s k := by
  unfold sumOf
  pointwise [val_main_v46, val_main_v45, val_main_v44, val_main_v43, val_main_v8, val_main_v2, v42_at]

theorem v65_at (k : Fin 1024) : val_main_v65 (F := Ideal) x0 x1 x2 x3 x4 x5 x6 x7 x8 x9 (ix3 b s k)
    = rms (Ideal.ofBits .f32 0x44800000#32) (sumOf x0 x1 x2 x3 x4 x5 x6 x7 x8 b s) k * (x9 (ix1 k) * (1 + x5 (ix2 b ⟨4096 + k.val, by omega⟩)))
      + x5 (ix2 b ⟨3072 + k.val, by omega⟩) := by
  unfold rms
  rw [← mul_assoc]
  pointwise [val_main_v65, val_main_v64, val_main_v63, val_main_v62, val_main_v61, val_main_v60, val_main_cst_8, val_main_v59, val_main_v58, val_main_v57,
    val_main_v56, val_main_v55, val_main_v54, val_main_v53, val_main_v52, val_main_cst_7, val_main_v51, val_main_v50, val_main_cst_6, val_main_v49,
    val_main_v48, val_main_cst_5, val_main_v47, val_main_v10, val_main_v9, val_main_v4, val_main_v3, v46_at]

variable (R : Fin 16384) (hR : R.val = 8192 * b.val + s.val)
include hR

theorem v66_at (k : Fin 1024) : val_main_v66 (F := Ideal) x0 x1 x2 x3 x4 x5 x6 x7 x8 (ix2 R k) = sumOf x0 x1 x2 x3 x4 x5 x6 x7 x8 b s k := by
  rw [← v46_at]
  pointwise [val_main_v66]
  rw [show (⟨R.val / 8192, by omega⟩ : Fin 2) = b from Fin.ext (by dsimp only; omega),
    show (⟨R.val % 8192, by omega⟩ : Fin 8192) = s from Fin.ext (by dsimp only; omega)]

theorem v68_at (k : Fin 1024) : val_main_v68 (F := Ideal) x0 x1 x2 x3 x4 x5 x6 x7 x8 x9 (ix2 R k)
    = rms (Ideal.ofBits .f32 0x44800000#32) (sumOf x0 x1 x2 x3 x4 x5 x6 x7 x8 b s) k * (x9 (ix1 k) * (1 + x5 (ix2 b ⟨4096 + k.val, by omega⟩)))
      + x5 (ix2 b ⟨3072 + k.val, by omega⟩) := by
  rw [← v65_at]
  pointwise [val_main_v68, val_main_v67]
  rw [show (⟨R.val / 8192, by omega⟩ : Fin 2) = b from Fin.ext (by dsimp only; omega),
    show (⟨R.val % 8192, by omega⟩ : Fin 8192) = s from Fin.ext (by dsimp only; omega)]

end

end Cert.Reference3Ideal.Merge

end
-- ==== Proof.MergeValue.lean ====
/- The idealized merge kernel's two results: the residual and the next part's input. -/
module

public import proofs.«01_k».proof.Proof.MergeBlocks
public import proofs.«01_k».proof.Proof.MergeRefValue
public import proofs.«01_k».proof.Proof.Gen.Kernel3Ideal.Value

@[expose] public section

set_option maxRecDepth 16384

noncomputable section

namespace Cert.Kernel3Ideal.Merge

open Idealize.ShloMosaic Idealize.ShloMosaic.TcCoe Idealize.ShloMosaic.StableHlo Idealize.ShloMosaic.Tactic Idealize.SL.Sem
open Cert.Kernel3Ideal Cert.Kernel3Ideal.Gen
open Cert.Reference3Ideal.Merge (both)

theorem mixed_congr {a a' o o' gr gr' ga ga' : Fin 512 → EReal} {gg gg' : Fin 128 → EReal} (h0 : a = a') (h1 : o = o') (h2 : gr = gr') (h3 : ga = ga')
    (h4 : gg = gg') (k : Fin 1024) : mixed a o gr ga gg k = mixed a' o' gr' ga' gg' k := by subst h0 h1 h2 h3 h4; rfl

section
variable (m : (ℓ : Loc nD τ sig) → Buf (Elt Ideal) ℓ) (c : Dev nD)

/-- The reference's residual, from this program's arguments. -/
def residual : Vec Ideal S16384x1024 .f32 := Cert.Reference3Ideal.Read.val_main_v66 (F := Ideal) (m ((c.tc : Thread nD τ).loc main_arg0))
  (m ((c.tc : Thread nD τ).loc main_arg1)) (m ((c.tc : Thread nD τ).loc main_arg2)) (m ((c.tc : Thread nD τ).loc main_arg3))
  (m ((c.tc : Thread nD τ).loc main_arg4)) (m ((c.tc : Thread nD τ).loc main_arg5)) (m ((c.tc : Thread nD τ).loc main_arg6))
  (m ((c.tc : Thread nD τ).loc main_arg7)) (m ((c.tc : Thread nD τ).loc main_arg8))

/-- The reference's input of the next part, from this program's arguments. -/
def normedInput : Vec Ideal S16384x1024 .bf16 := Cert.Reference3Ideal.Read.val_main_v68 (F := Ideal) (m ((c.tc : Thread nD τ).loc main_arg0))
  (m ((c.tc : Thread nD τ).loc main_arg1)) (m ((c.tc : Thread nD τ).loc main_arg2)) (m ((c.tc : Thread nD τ).loc main_arg3))
  (m ((c.tc : Thread nD τ).loc main_arg4)) (m ((c.tc : Thread nD τ).loc main_arg5)) (m ((c.tc : Thread nD τ).loc main_arg6))
  (m ((c.tc : Thread nD τ).loc main_arg7)) (m ((c.tc : Thread nD τ).loc main_arg8)) (m ((c.tc : Thread nD τ).loc main_arg9))

section
variable (t : Fin cfg0.N)

/-- What grid point `t` leaves in the first result's block. -/
def outsA (t : Fin cfg0.N) : Vec Ideal S1024x1024 .f32 := out0_12 (iblk m c 0 t) (iblk m c 1 t) (iblk m c 2 t) (iblk m c 3 t) (iblk m c 4 t) (iblk m c 5 t)
  (iblk m c 6 t) (iblk m c 7 t) (iblk m c 8 t) (iblk m c 9 t) (iblk m c 10 t) (iblk m c 11 t)

/-- What grid point `t` leaves in the second result's block. -/
def outsB (t : Fin cfg0.N) : Vec Ideal S1024x1024 .bf16 := out0_13 (iblk m c 0 t) (iblk m c 1 t) (iblk m c 2 t) (iblk m c 3 t) (iblk m c 4 t) (iblk m c 5 t)
  (iblk m c 6 t) (iblk m c 7 t) (iblk m c 8 t) (iblk m c 9 t) (iblk m c 10 t) (iblk m c 11 t)

/-- The sum of one row at grid point `t`, from the blocks it takes. -/
def blockSum (r k : Fin 1024) : EReal :=
  sumOf (iblk m c 0 t) (iblk m c 1 t) (iblk m c 2 t) (iblk m c 3 t) (iblk m c 4 t) (iblk m c 5 t) (iblk m c 6 t) (iblk m c 7 t) (iblk m c 8 t) r k

variable (r : Fin 1024) (S : Fin 8192) (hS : S.val = 1024 * (t.val % 8) + r.val)
include hS

/-- It is the reference's sum of that row. -/
theorem blockSum_eq (k : Fin 1024) : blockSum m c t r k = Cert.Reference3Ideal.Merge.sumOf
    (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg4)) (m ((c.tc : Thread nD τ).loc main_arg5))
    (m ((c.tc : Thread nD τ).loc main_arg6)) (m ((c.tc : Thread nD τ).loc main_arg7)) (m ((c.tc : Thread nD τ).loc main_arg8)) (batchOf t) S k := by
  unfold blockSum sumOf Cert.Reference3Ideal.Merge.sumOf
  refine congrArg₂ (fun a b : EReal => a + b) (residualBlock m c t r S hS k)
    (congrArg₂ (fun a b : EReal => a * b) (scaleBlock m c t k) (Finset.sum_congr rfl fun l _ => ?_))
  refine congrArg₂ (fun a b : EReal => a * b) ?_ (projBlock m c t l k)
  have h0 := funext fun n => attBlock m c t r S hS n
  have h1 := funext fun n => congrArg₂ (fun a b : EReal => a + b) (fwdBlock m c t r S hS n) (bwdBlock m c t r S hS n)
  have h3 := funext fun n => gateBlock m c t r S hS n
  have h6 := funext fun n => attGainBlock m c t n
  have h7 := funext fun n => headGainBlock m c t n
  exact mixed_congr h0 h1 h3 h6 h7 l

variable (R : Fin 16384) (hR : R.val = 1024 * t.val + r.val)
include hR

theorem row_eq : R.val = 8192 * (batchOf t).val + S.val := by
  have hbv : (batchOf t).val = t.val / 8 := rfl
  omega

theorem outsA_spec (k : Fin 1024) : outsA m c t (ix2 r k) = residual m c (ix2 R k) :=
  (out12_at _ _ _ _ _ _ _ _ _ _ _ _ r k).trans ((blockSum_eq m c t r S hS k).trans
    (Cert.Reference3Ideal.Merge.v66_at _ _ _ _ _ _ _ _ _ (batchOf t) S R (row_eq t r S hS R hR) k).symm)

theorem outsB_spec (k : Fin 1024) : outsB m c t (ix2 r k) = normedInput m c (ix2 R k) := by
  refine (out13_at _ _ _ _ _ _ _ _ _ _ _ _ r k).trans (Eq.trans ?_
    (Cert.Reference3Ideal.Merge.v68_at _ _ _ _ _ _ _ _ _ _ (batchOf t) S R (row_eq t r S hS R hR) k).symm)
  refine congrArg₂ (fun a b : EReal => a + b) (congrArg₂ (fun a b : EReal => a * b)
    (congrArg (fun y : Fin 1024 → EReal => rms _ y k) (funext fun n => blockSum_eq m c t r S hS n))
    (congrArg₂ (fun a b : EReal => a * (1 + b)) (gainBlock m c t k) (stretchBlock m c t k))) (shiftBlock m c t k)

end

/-- The first array after the launch is the reference's residual. -/
theorem finalA : (dats m 0 c).arrAt 12 cfg0.N = residual m c := by
  refine (dats m 0 c).arrAt_eq_of_covers 12 _ (by decide +kernel) fun t hf y => ?_
  blk_simp
  rw [after0_12]
  have hN := points
  have ht : t.val < cfg0.N := t.isLt
  have h0 : (y 0).val < 1024 := (y 0).isLt
  have h1 : (y 1).val < 1024 := (y 1).isLt
  have hy : y = ix2 (⟨(y 0).val, h0⟩ : Fin 1024) (⟨(y 1).val, h1⟩ : Fin 1024) := by
    funext a; match a with | ⟨0, _⟩ => rfl | ⟨1, _⟩ => rfl
  refine (congrArg (outsA m c t) hy).trans ((outsA_spec m c t ⟨(y 0).val, h0⟩ ⟨1024 * (t.val % 8) + (y 0).val, by omega⟩ rfl
    ⟨1024 * t.val + (y 0).val, by omega⟩ rfl ⟨(y 1).val, h1⟩).trans (congrArg (residual m c) ?_))
  blk_ext [at12]

/-- The second array after the launch is the reference's input of the next part. -/
theorem finalB : (dats m 0 c).arrAt 13 cfg0.N = normedInput m c := by
  refine (dats m 0 c).arrAt_eq_of_covers 13 _ (by decide +kernel) fun t hf y => ?_
  blk_simp
  rw [after0_13]
  have hN := points
  have ht : t.val < cfg0.N := t.isLt
  have h0 : (y 0).val < 1024 := (y 0).isLt
  have h1 : (y 1).val < 1024 := (y 1).isLt
  have hy : y = ix2 (⟨(y 0).val, h0⟩ : Fin 1024) (⟨(y 1).val, h1⟩ : Fin 1024) := by
    funext a; match a with | ⟨0, _⟩ => rfl | ⟨1, _⟩ => rfl
  refine (congrArg (outsB m c t) hy).trans ((outsB_spec m c t ⟨(y 0).val, h0⟩ ⟨1024 * (t.val % 8) + (y 0).val, by omega⟩ rfl
    ⟨1024 * t.val + (y 0).val, by omega⟩ rfl ⟨(y 1).val, h1⟩).trans (congrArg (normedInput m c) ?_))
  blk_ext [at13]

end

end Cert.Kernel3Ideal.Merge

end
-- ==== Proof.MergeClaim.lean ====
/- The merge programs' claims: their runs' frames and the value claim. -/
module

public import proofs.«01_k».proof.Defs
public import proofs.«01_k».proof.Proof.MergeValue
public import proofs.«01_k».proof.Proof.Gen.Kernel3.Frame
public import proofs.«01_k».proof.Proof.Gen.Reference3Ideal.Run
public import Idealize.ShloMosaic.Lib.Claim
public import Idealize.ShloMosaic.Adequacy
public import Idealize.ShloMosaic.Init

@[expose] public section

set_option maxRecDepth 16384

noncomputable section

namespace Cert.Proof.MergeClaim

open Idealize.ShloMosaic Idealize.ShloMosaic.TcCoe Idealize.SL.Sem

/-- The kernel on machine words runs, keeps its arguments and leaves its counters at zero. -/
theorem frameWords : Cert.quiescent_Kernel3 := fun m ρ _ => Cert.Kernel3.Gen.frame m ρ
/-- So does the idealized kernel. -/
theorem frameIdeal : Cert.quiescent_Kernel3Ideal := fun m ρ _ => Cert.Kernel3Ideal.Gen.frame m ρ
/-- So does the reference. -/
theorem frameRef : Cert.quiescent_Reference3Ideal := fun m ρ _ =>
  (θ_run Cert.Reference3Ideal.defs _ _).mono (fun r h => ⟨fun c => (h c).2.2, sem_eq_zero_of_no_sems (by decide) r.2⟩)
    (Cert.Reference3Ideal.Value.run (F := Ideal) m ρ)

/-- The idealized kernel's two results are the reference's, entry by entry, on all arguments. -/
theorem value : Cert.algebraic_Kernel3Ideal_Reference3Ideal := by
  intro m g m' g' hpre hagree
  refine ⟨fun c => Cert.Kernel3Ideal.Merge.residual m c, fun c => Cert.Kernel3Ideal.Merge.normedInput m c, ?_, ?_⟩
  · exact (θ_run _ _ _).mono (fun r h c => ⟨(h c).1.trans (Cert.Kernel3Ideal.Merge.finalA m c),
      (h c).2.1.trans (Cert.Kernel3Ideal.Merge.finalB m c), (h c).2.2⟩) (Cert.Kernel3Ideal.Value.run_blocks m g)
  · refine (θ_run _ _ _).mono (fun r h c => ⟨(h c).1.trans ?_, (h c).2.1.trans ?_, (h c).2.2⟩) (Cert.Reference3Ideal.Value.run (F := Ideal) m' g')
    · refine (Cert.Reference3Ideal.Read.val_main_v66_eq _ _ _ _ _ _ _ _ _).trans ?_
      obtain ⟨a0, a1, a2, a3, a4, a5, a6, a7, a8, -⟩ := hagree c
      rw [a0, a1, a2, a3, a4, a5, a6, a7, a8]
      rfl
    · refine (Cert.Reference3Ideal.Read.val_main_v68_eq m' c).trans ?_
      obtain ⟨a0, a1, a2, a3, a4, a5, a6, a7, a8, a9⟩ := hagree c
      rw [a0, a1, a2, a3, a4, a5, a6, a7, a8, a9]
      rfl

end Cert.Proof.MergeClaim

end
-- ==== Proof.InprojRead.lean ====
/- The in-projection kernel's values, read element by element on the reals. -/
module

public import proofs.«01_k».proof.Proof.Gen.Kernel4Ideal.Skeleton
public import Idealize.ShloMosaic.Lib.Pointwise
public import Idealize.ShloMosaic.Lib.KernelVsHost

@[expose] public section

set_option maxRecDepth 16384

noncomputable section

namespace Cert.Kernel4Ideal.Inproj

open Idealize.ShloMosaic Idealize.ShloMosaic.TcCoe Idealize.SL.Sem
open Cert.Kernel4Ideal Cert.Kernel4Ideal.Gen

/-- A row's norm, with its scale, then the modulation. -/
def hrow (x g sc sh : Fin 1024 → EReal) (k : Fin 1024) : EReal :=
  x k * Ideal.rsqrt (Ideal.div (∑ l : Fin 1024, x l * x l) (Ideal.ofBits .f32 0x44800000#32) + Ideal.ofBits .f32 0x358637BD#32) * (g k * (1 + sc k)) + sh k

theorem pay1_at (x : Vec Ideal S1024x1024 .f32) (g : Vec Ideal S1x1024 .f32) (sc sh : Vec Ideal S1x1x1024 .f32) (r k : Fin 1024) :
    k0_pay1 x g sc sh (ix2 r k) = hrow (fun l => x (ix2 r l)) (fun l => g (ix2 0 l)) (fun l => sc (ix3 0 0 l)) (fun l => sh (ix3 0 0 l)) k := by
  unfold hrow
  pointwise [k0_pay1]

theorem pay2_at (x : Vec Ideal S1024x1024 .f32) (g : Vec Ideal S1x1024 .f32) (sc sh : Vec Ideal S1x1x1024 .f32) (w : Vec Ideal S1024x768 .bf16) (r : Fin 1024) (n : Fin 768) :
    k0_pay2 x g sc sh w (ix2 r n) = ∑ l : Fin 1024, k0_pay1 x g sc sh (ix2 r l) * w (ix2 l n) := by
  pointwise [k0_pay2]

theorem pay3_at (x : Vec Ideal S1024x1024 .f32) (g : Vec Ideal S1x1024 .f32) (sc sh : Vec Ideal S1x1x1024 .f32) (w : Vec Ideal S1024x544 .bf16) (r : Fin 1024) (n : Fin 544) :
    k0_pay3 x g sc sh w (ix2 r n) = ∑ l : Fin 1024, k0_pay1 x g sc sh (ix2 r l) * w (ix2 l n) := by
  pointwise [k0_pay3]

theorem pay18_at (h : FVec Ideal S1024x1024 .bf16) (w : Vec Ideal S1024x512 .bf16) (r : Fin 1024) (n : Fin 512) :
    k0_pay18 h w (ix2 r n) = ∑ l : Fin 1024, h (ix2 r l) * w (ix2 l n) := by
  pointwise [k0_pay18]

theorem pay26_at (h : FVec Ideal S1024x1024 .bf16) (w : Vec Ideal S1024x512 .bf16) (r : Fin 1024) (n : Fin 512) :
    k0_pay26 h w (ix2 r n) = ∑ l : Fin 1024, h (ix2 r l) * w (ix2 l n) := by
  pointwise [k0_pay26]

theorem pay24_at (z : FVec Ideal S1024x512 .f32) (r : Fin 1024) (n : Fin 256) :
    k0_pay24 z (ix2 r n) = z (ix2 r ⟨n.val, by omega⟩) * Ideal.ofBits .f32 0x3E000000#32 := by
  pointwise [k0_pay24]

theorem pay25_at (z : FVec Ideal S1024x512 .f32) (r : Fin 1024) (n : Fin 256) :
    k0_pay25 z (ix2 r n) = z (ix2 r ⟨256 + n.val, by omega⟩) := by
  pointwise [k0_pay25]

theorem pay27_at (z : FVec Ideal S1024x544 .f32) (r : Fin 1024) (n : Fin 512) :
    k0_pay27 z (ix2 r n) = z (ix2 r ⟨32 + n.val, by omega⟩) := by
  pointwise [k0_pay27]

theorem pay5_at (x : Vec Ideal S1024x1024 .f32) (g : Vec Ideal S1x1024 .f32) (sc sh : Vec Ideal S1x1x1024 .f32) (w : Vec Ideal S1024x768 .bf16) (r : Fin 1024) (n : Fin 640) :
    k0_pay5 x g sc sh w (ix2 r n) = k0_pay2 x g sc sh w (ix2 r ⟨n.val, by omega⟩) := by
  pointwise [k0_pay5]

theorem pay6_at (x : Vec Ideal S1024x1024 .f32) (g : Vec Ideal S1x1024 .f32) (sc sh : Vec Ideal S1x1x1024 .f32) (w : Vec Ideal S1024x768 .bf16) (r : Fin 1024) (n : Fin 640) :
    k0_pay6 x g sc sh w (ix2 r n) = k0_pay5 x g sc sh w (ix2 r n) * k0_pay5 x g sc sh w (ix2 r n) := by
  pointwise [k0_pay6]

/-- A sum against a block of ones is the sum over that block. -/
theorem block_sum {n : ℕ} (f : Fin n → EReal) (q : ℕ) (hq : 64 * q + 64 ≤ n) :
    ∑ l : Fin n, f l * (if l.val / 64 = q then 1 else 0) = ∑ j : Fin 64, f ⟨64 * q + j.val, by omega⟩ := by
  refine (Finset.sum_of_injOn (fun j : Fin 64 => (⟨64 * q + j.val, by omega⟩ : Fin n)) ?_ ?_ ?_ ?_).symm
  · intro a _ b _ h
    have := congrArg Fin.val h
    dsimp only at this
    exact Fin.ext (by omega)
  · intro a _; exact Finset.mem_coe.2 (Finset.mem_univ _)
  · intro i _ hi
    rw [if_neg, mul_zero]
    intro h
    exact hi ⟨⟨i.val % 64, by omega⟩, Finset.mem_coe.2 (Finset.mem_univ _), Fin.ext (by dsimp only; omega)⟩
  · intro j _
    dsimp only
    rw [if_pos (by omega), mul_one]

/-- The mean of a head's squares that entry `i` is divided by. -/
def headSum (sq : Fin 640 → EReal) (i : Fin 640) : EReal := ∑ j : Fin 64, sq ⟨64 * (i.val / 64) + j.val, by omega⟩

theorem pay7_at (bd : FVec Ideal S256x256 .bf16) (z : FVec Ideal S1024x640 .f32) (sq : FVec Ideal S1024x640 .bf16) (g : Vec Ideal S1x640 .f32)
    (hbd : ∀ l j : Fin 256, bd (ix2 l j) = if l.val / 64 = j.val / 64 then (1 : EReal) else 0) (r : Fin 1024) (i : Fin 640) :
    k0_pay7 bd z sq g (ix2 r i) = z (ix2 r i) * Ideal.rsqrt (headSum (fun l => sq (ix2 r l)) i * Ideal.ofBits .f32 0x3C800000#32 + Ideal.ofBits .f32 0x358637BD#32)
      * g (ix2 0 i) := by
  unfold headSum
  pointwise [k0_pay7]
  refine congrArg (fun e => z (ix2 r i) * Ideal.rsqrt (e * _ + _) * g (ix2 0 i)) ?_
  split
  · refine (Finset.sum_congr rfl fun l _ => congrArg (fun e : EReal => _ * e) (hbd _ _)).trans
      ((block_sum (fun l : Fin 256 => sq (ix2 r ⟨l.val, by omega⟩)) (i.val / 64) (by omega)).trans (Finset.sum_congr rfl fun j _ => ?_))
    rfl
  · split
    · refine (Finset.sum_congr rfl fun l _ => congrArg (fun e : EReal => _ * e) (hbd _ _)).trans
        ((block_sum (fun l : Fin 256 => sq (ix2 r ⟨256 + l.val, by omega⟩)) ((i.val - 256) / 64) (by omega)).trans (Finset.sum_congr rfl fun j _ => ?_))
      exact congrArg (fun l => sq (ix2 r l)) (Fin.ext (by dsimp only; omega))
    · refine (Finset.sum_congr rfl fun l _ => congrArg (fun e : EReal => _ * e) (hbd _ _)).trans
        ((block_sum (fun l : Fin 128 => sq (ix2 r ⟨512 + l.val, by omega⟩)) ((i.val - 256 - 256) / 64) (by omega)).trans (Finset.sum_congr rfl fun j _ => ?_))
      exact congrArg (fun l => sq (ix2 r l)) (Fin.ext (by dsimp only; omega))

theorem turn127 (x : FVec Ideal S1024x128 .f32) (r : Fin 1024) (k : Fin 128) :
    dynamicRotate 1 127#32 none x rotates_S1024x128_d1 (ix2 r k) = x (ix2 r ⟨(k.val + 1) % 128, by omega⟩) :=
  dynamicRotate_apply _ _ _ _ _ _ fun b => by
    match b with
    | ⟨0, _⟩ => rfl
    | ⟨1, _⟩ => simp

theorem turn1 (x : FVec Ideal S1024x128 .f32) (r : Fin 1024) (k : Fin 128) :
    dynamicRotate 1 1#32 none x rotates_S1024x128_d1 (ix2 r k) = x (ix2 r ⟨(k.val + 127) % 128, by omega⟩) :=
  dynamicRotate_apply _ _ _ _ _ _ fun b => by
    match b with
    | ⟨0, _⟩ => rfl
    | ⟨1, _⟩ => simp

theorem turn64 (x : FVec Ideal S1024x128 .f32) (r : Fin 1024) (k : Fin 128) :
    dynamicRotate 1 64#32 none x rotates_S1024x128_d1 (ix2 r k) = x (ix2 r ⟨(k.val + 64) % 128, by omega⟩) :=
  dynamicRotate_apply _ _ _ _ _ _ fun b => by
    match b with
    | ⟨0, _⟩ => rfl
    | ⟨1, _⟩ => simp

theorem pay8_at (r : Fin 1024) (k : Fin 128) : k0_pay8 (ix2 r k) = if k.val % 2 = 0 then 1#1 else 0#1 := by
  pointwise [k0_pay8]
  revert k
  decide

/-- An entry and its partner, the other of its pair, turned. -/
def turned (y : Fin 640 → EReal) (co si : Fin 128 → EReal) (k : Fin 640) : EReal :=
  y k * co ⟨k.val % 128, by omega⟩ + y ⟨k.val + 1 - 2 * (k.val % 2), by omega⟩ * si ⟨k.val % 128, by omega⟩

theorem piece (y : Fin 640 → EReal) (co si : Fin 128 → EReal) (k a p q : Fin 640) (c : Fin 128) (b : ℕ) (ha : a.val = k.val) (hc : c.val = k.val % 128)
    (hb : b % 2 = k.val % 2) (hp : k.val % 2 = 0 → p.val = k.val + 1) (hq : k.val % 2 = 1 → q.val + 1 = k.val) :
    y a * co c + Scalar.select (if b % 2 = 0 then 1#1 else 0#1) (y p) (y q) * si c = turned y co si k := by
  unfold turned
  obtain rfl : a = k := Fin.ext ha
  rw [show c = ⟨a.val % 128, by omega⟩ from Fin.ext hc]
  congr 2
  rcases Nat.mod_two_eq_zero_or_one a.val with h | h
  · rw [if_pos (by omega)]
    exact congrArg y (Fin.ext (by have := hp h; dsimp only; omega))
  · rw [if_neg (by omega)]
    exact congrArg y (Fin.ext (by have := hq h; dsimp only; omega))

theorem pay12_at (y : FVec Ideal S1024x640 .f32) (co si : FVec Ideal S1024x128 .f32) (bd : FVec Ideal S256x256 .bf16) (z : FVec Ideal S1024x640 .f32)
    (sq : FVec Ideal S1024x640 .bf16) (g : Vec Ideal S1x640 .f32) (hy : y = k0_pay7 bd z sq g) (r : Fin 1024) (k : Fin 512) :
    k0_pay12 y k0_pay8 co si (k0_pay11 bd z sq g) (ix2 r k)
      = turned (fun l => y (ix2 r l)) (fun l => co (ix2 r l)) (fun l => si (ix2 r l)) ⟨k.val, by omega⟩ := by
  rw [show k0_pay11 bd z sq g = extractStridedSlice S1024x128 ![0, 0] y slices_S1024x640_o0_0_S1024x128 from by rw [hy]; rfl]
  pointwise [k0_pay12, turn127, turn1, pay8_at]
  split
  · exact piece (fun l => y (ix2 r l)) (fun l => co (ix2 r l)) (fun l => si (ix2 r l)) _ _ _ _ _ _ (by simp <;> omega) (by simp <;> omega) (by simp <;> omega) (by dsimp only; omega) (by dsimp only; omega)
  · split
    · exact piece (fun l => y (ix2 r l)) (fun l => co (ix2 r l)) (fun l => si (ix2 r l)) _ _ _ _ _ _ (by simp <;> omega) (by simp <;> omega) (by simp <;> omega) (by dsimp only; omega) (by dsimp only; omega)
    · split
      · exact piece (fun l => y (ix2 r l)) (fun l => co (ix2 r l)) (fun l => si (ix2 r l)) _ _ _ _ _ _ (by simp <;> omega) (by simp <;> omega) (by simp <;> omega) (by dsimp only; omega) (by dsimp only; omega)
      · exact piece (fun l => y (ix2 r l)) (fun l => co (ix2 r l)) (fun l => si (ix2 r l)) _ _ _ _ _ _ (by simp <;> omega) (by simp <;> omega) (by simp <;> omega) (by dsimp only; omega) (by dsimp only; omega)

theorem pay13_at (y : FVec Ideal S1024x640 .f32) (co si : FVec Ideal S1024x128 .f32) (r : Fin 1024) (k : Fin 128) :
    k0_pay13 y k0_pay8 co si (ix3 0 k r)
      = turned (fun l => y (ix2 r l)) (fun l => co (ix2 r l)) (fun l => si (ix2 r l)) ⟨512 + k.val, by omega⟩ := by
  pointwise [k0_pay13, turn127, turn1, pay8_at]
  exact piece (fun l => y (ix2 r l)) (fun l => co (ix2 r l)) (fun l => si (ix2 r l)) _ _ _ _ _ _ (by simp <;> omega) (by simp <;> omega) (by simp <;> omega) (by dsimp only; omega) (by dsimp only; omega)

theorem tail_eq (k : Fin 128) (x x' : EReal) (h : k.val < 64 → x = x') :
    Scalar.select (IntOp.cmpi CmpIPredicate.slt (BitVec.ofNat 32 k.val) 64#32) x
      (Scalar.select (IntOp.cmpi CmpIPredicate.eq (BitVec.ofNat 32 k.val) 64#32) (1 : EReal) 0)
      = if k.val < 64 then x' else if k.val = 64 then 1 else 0 := by
  rw [show IntOp.cmpi CmpIPredicate.slt (BitVec.ofNat 32 k.val) 64#32 = if k.val < 64 then 1#1 else 0#1 from by clear h; revert k; decide,
    show IntOp.cmpi CmpIPredicate.eq (BitVec.ofNat 32 k.val) 64#32 = if k.val = 64 then 1#1 else 0#1 from by clear h; revert k; decide]
  by_cases h1 : k.val < 64
  · rw [if_pos h1, if_pos h1, h h1]; rfl
  · rw [if_neg h1, if_neg h1]
    by_cases h2 : k.val = 64
    · rw [if_pos h2, if_pos h2]; rfl
    · rw [if_neg h2, if_neg h2]; rfl

theorem pay16_at (z : FVec Ideal S1024x768 .f32) (r : Fin 1024) (k : Fin 128) :
    k0_pay16 (iota .tc S1024x128 32 [1] iota_S1024x128_d1_w32) (k0_pay14 z) (ix4 0 0 r k)
      = if k.val < 64 then z (ix2 r ⟨640 + k.val % 64, by omega⟩) else if k.val = 64 then (1 : EReal) else 0 := by
  pointwise [k0_pay16, k0_pay15, k0_pay14]
  exact tail_eq k _ _ fun h => congrArg (fun l => z (ix2 r l)) (Fin.ext (by dsimp only; omega))

theorem pay17_at (z : FVec Ideal S1024x768 .f32) (r : Fin 1024) (k : Fin 128) :
    k0_pay17 (iota .tc S1024x128 32 [1] iota_S1024x128_d1_w32) (k0_pay14 z) (ix4 0 0 r k)
      = if k.val < 64 then z (ix2 r ⟨704 + k.val % 64, by omega⟩) else if k.val = 64 then (1 : EReal) else 0 := by
  pointwise [k0_pay17, k0_pay15, k0_pay14, turn64]
  exact tail_eq k _ _ fun h => congrArg (fun l => z (ix2 r l)) (Fin.ext (by dsimp only; omega))

end Cert.Kernel4Ideal.Inproj

end
-- ==== Proof.InprojRefValue.lean ====
/- The in-projection reference's results, element by element. -/
module

public import proofs.«01_k».proof.Proof.InprojRead
public import proofs.«01_k».proof.Proof.Gen.Reference4Ideal.Read

@[expose] public section

set_option maxRecDepth 16384

noncomputable section

namespace Cert.Reference4Ideal.Inproj

open Idealize.ShloMosaic Idealize.ShloMosaic.TcCoe Idealize.ShloMosaic.StableHlo Idealize.SL.Sem
open Cert.Reference4Ideal Cert.Reference4Ideal.Gen Cert.Reference4Ideal.Read
open Cert.Kernel4Ideal.Inproj (hrow turned)

/-- A position's cosines, each for both entries of a pair. -/
def pairCos (C : Fin 32 → EReal) (l : Fin 128) : EReal := C ⟨l.val % 64 / 2, by omega⟩
/-- A position's sines, the first of a pair with its sign changed. -/
def pairSin (S : Fin 32 → EReal) (l : Fin 128) : EReal :=
  if l.val % 2 = 0 then -S ⟨l.val % 64 / 2, by omega⟩ else S ⟨l.val % 64 / 2, by omega⟩

theorem even_eq (y : Fin 640 → EReal) (C S : Fin 32 → EReal) (k p q : Fin 640) (j : Fin 32) (hk : k.val % 2 = 0) (hp : p.val = k.val) (hq : q.val = k.val + 1)
    (hj : j.val = k.val % 64 / 2) : y p * C j - y q * S j = turned y (pairCos C) (pairSin S) k := by
  unfold turned pairCos pairSin
  rw [if_pos (by dsimp only; omega), mul_neg, ← sub_eq_add_neg, show p = k from Fin.ext hp,
    show j = ⟨k.val % 128 % 64 / 2, by omega⟩ from Fin.ext (by dsimp only; omega),
    show q = ⟨k.val + 1 - 2 * (k.val % 2), by omega⟩ from Fin.ext (by dsimp only; omega)]

theorem odd_eq (y : Fin 640 → EReal) (C S : Fin 32 → EReal) (k p q : Fin 640) (j : Fin 32) (hk : k.val % 2 = 1) (hp : p.val + 1 = k.val) (hq : q.val = k.val)
    (hj : j.val = k.val % 64 / 2) : y p * S j + y q * C j = turned y (pairCos C) (pairSin S) k := by
  unfold turned pairCos pairSin
  rw [if_neg (by dsimp only; omega), add_comm, show q = k from Fin.ext hq,
    show j = ⟨k.val % 128 % 64 / 2, by omega⟩ from Fin.ext (by dsimp only; omega),
    show p = ⟨k.val + 1 - 2 * (k.val % 2), by omega⟩ from Fin.ext (by dsimp only; omega)]

/-- The first entries of the pairs. -/
def firsts8 (Y : FVec Ideal S2x8192x8x64 .f32) : FVec Ideal S2x8192x8x32 .f32 :=
  shapeCast _ (extractStridedSlice S2x8192x8x32x1 ![0, 0, 0, 0, 0] (shapeCast _ Y shapeCasts_S2x8192x8x64_S2x8192x8x32x2) slices_S2x8192x8x32x2_S2x8192x8x32x1_0_0_0_0_0) shapeCasts_S2x8192x8x32x1_S2x8192x8x32
/-- The second entries of the pairs. -/
def seconds8 (Y : FVec Ideal S2x8192x8x64 .f32) : FVec Ideal S2x8192x8x32 .f32 :=
  shapeCast _ (extractStridedSlice S2x8192x8x32x1 ![0, 0, 0, 0, 1] (shapeCast _ Y shapeCasts_S2x8192x8x64_S2x8192x8x32x2) slices_S2x8192x8x32x2_S2x8192x8x32x1_0_0_0_0_1) shapeCasts_S2x8192x8x32x1_S2x8192x8x32
/-- A table of positions, for all batches and heads. -/
def spread8 (C : FVec Ideal S8192x32 .f32) : FVec Ideal S2x8192x8x32 .f32 :=
  broadcastInDim S2x8192x8x32 ![0, 1, 2, 3] bcast_S1x8192x1x32_S2x8192x8x32_0_1_2_3 (broadcastInDim S1x8192x1x32 ![1, 2, 3] bcast_S8192x1x32_S1x8192x1x32_1_2_3
    (broadcastInDim S8192x1x32 ![0, 2] bcast_S8192x32_S8192x1x32_0_2 C))
/-- First and second entries, in pairs. -/
def join8 (P Q : FVec Ideal S2x8192x8x32 .f32) : FVec Ideal S2x8192x8x64 .f32 :=
  shapeCast _ (concatenate S2x8192x8x32x2 4 [⟨S2x8192x8x32x1, (broadcastInDim S2x8192x8x32x1 ![0, 1, 2, 3] bcast_S2x8192x8x32_S2x8192x8x32x1_0_1_2_3 P)⟩,
    ⟨S2x8192x8x32x1, (broadcastInDim S2x8192x8x32x1 ![0, 1, 2, 3] bcast_S2x8192x8x32_S2x8192x8x32x1_0_1_2_3 Q)⟩] concatenates_S2x8192x8x32x1_S2x8192x8x32x1_S2x8192x8x32x2_d4) shapeCasts_S2x8192x8x32x2_S2x8192x8x64
/-- The pairs turned by the angles of their position. -/
def turn8 (Y : FVec Ideal S2x8192x8x64 .f32) (C S : FVec Ideal S8192x32 .f32) : FVec Ideal S2x8192x8x64 .f32 :=
  join8 (subf (mulf (firsts8 Y) (spread8 C)) (mulf (seconds8 Y) (spread8 S))) (addf (mulf (firsts8 Y) (spread8 S)) (mulf (seconds8 Y) (spread8 C)))

theorem turn8_at (Y : Vec Ideal S2x8192x8x64 .f32) (C S : Vec Ideal S8192x32 .f32) (b : Fin 2) (s : Fin 8192) (h : Fin 8) (j : Fin 64) :
    turn8 Y C S (ix4 b s h j) = if j.val % 2 < 1 then
      Y (ix4 b s h ⟨j.val / 2 * 2, by omega⟩) * C (ix2 s ⟨j.val / 2, by omega⟩) - Y (ix4 b s h ⟨j.val / 2 * 2 + 1, by omega⟩) * S (ix2 s ⟨j.val / 2, by omega⟩)
    else Y (ix4 b s h ⟨j.val / 2 * 2, by omega⟩) * S (ix2 s ⟨j.val / 2, by omega⟩) + Y (ix4 b s h ⟨j.val / 2 * 2 + 1, by omega⟩) * C (ix2 s ⟨j.val / 2, by omega⟩) := by
  pointwise [turn8, join8, spread8, firsts8, seconds8]
  by_cases hj : j.val % 2 < 1
  · exact (dif_pos hj).trans (if_pos hj).symm
  · exact (dif_neg hj).trans (if_neg hj).symm

/-- The first entries of the pairs. -/
def firsts2 (Y : FVec Ideal S2x8192x2x64 .f32) : FVec Ideal S2x8192x2x32 .f32 :=
  shapeCast _ (extractStridedSlice S2x8192x2x32x1 ![0, 0, 0, 0, 0] (shapeCast _ Y shapeCasts_S2x8192x2x64_S2x8192x2x32x2) slices_S2x8192x2x32x2_S2x8192x2x32x1_0_0_0_0_0) shapeCasts_S2x8192x2x32x1_S2x8192x2x32
/-- The second entries of the pairs. -/
def seconds2 (Y : FVec Ideal S2x8192x2x64 .f32) : FVec Ideal S2x8192x2x32 .f32 :=
  shapeCast _ (extractStridedSlice S2x8192x2x32x1 ![0, 0, 0, 0, 1] (shapeCast _ Y shapeCasts_S2x8192x2x64_S2x8192x2x32x2) slices_S2x8192x2x32x2_S2x8192x2x32x1_0_0_0_0_1) shapeCasts_S2x8192x2x32x1_S2x8192x2x32
/-- A table of positions, for all batches and heads. -/
def spread2 (C : FVec Ideal S8192x32 .f32) : FVec Ideal S2x8192x2x32 .f32 :=
  broadcastInDim S2x8192x2x32 ![0, 1, 2, 3] bcast_S1x8192x1x32_S2x8192x2x32_0_1_2_3 (broadcastInDim S1x8192x1x32 ![1, 2, 3] bcast_S8192x1x32_S1x8192x1x32_1_2_3
    (broadcastInDim S8192x1x32 ![0, 2] bcast_S8192x32_S8192x1x32_0_2 C))
/-- First and second entries, in pairs. -/
def join2 (P Q : FVec Ideal S2x8192x2x32 .f32) : FVec Ideal S2x8192x2x64 .f32 :=
  shapeCast _ (concatenate S2x8192x2x32x2 4 [⟨S2x8192x2x32x1, (broadcastInDim S2x8192x2x32x1 ![0, 1, 2, 3] bcast_S2x8192x2x32_S2x8192x2x32x1_0_1_2_3 P)⟩,
    ⟨S2x8192x2x32x1, (broadcastInDim S2x8192x2x32x1 ![0, 1, 2, 3] bcast_S2x8192x2x32_S2x8192x2x32x1_0_1_2_3 Q)⟩] concatenates_S2x8192x2x32x1_S2x8192x2x32x1_S2x8192x2x32x2_d4) shapeCasts_S2x8192x2x32x2_S2x8192x2x64
/-- The pairs turned by the angles of their position. -/
def turn2 (Y : FVec Ideal S2x8192x2x64 .f32) (C S : FVec Ideal S8192x32 .f32) : FVec Ideal S2x8192x2x64 .f32 :=
  join2 (subf (mulf (firsts2 Y) (spread2 C)) (mulf (seconds2 Y) (spread2 S))) (addf (mulf (firsts2 Y) (spread2 S)) (mulf (seconds2 Y) (spread2 C)))

theorem turn2_at (Y : Vec Ideal S2x8192x2x64 .f32) (C S : Vec Ideal S8192x32 .f32) (b : Fin 2) (s : Fin 8192) (h : Fin 2) (j : Fin 64) :
    turn2 Y C S (ix4 b s h j) = if j.val % 2 < 1 then
      Y (ix4 b s h ⟨j.val / 2 * 2, by omega⟩) * C (ix2 s ⟨j.val / 2, by omega⟩) - Y (ix4 b s h ⟨j.val / 2 * 2 + 1, by omega⟩) * S (ix2 s ⟨j.val / 2, by omega⟩)
    else Y (ix4 b s h ⟨j.val / 2 * 2, by omega⟩) * S (ix2 s ⟨j.val / 2, by omega⟩) + Y (ix4 b s h ⟨j.val / 2 * 2 + 1, by omega⟩) * C (ix2 s ⟨j.val / 2, by omega⟩) := by
  pointwise [turn2, join2, spread2, firsts2, seconds2]
  by_cases hj : j.val % 2 < 1
  · exact (dif_pos hj).trans (if_pos hj).symm
  · exact (dif_neg hj).trans (if_neg hj).symm

/-- One row for each position, the heads side by side. -/
def flatHeads (Y : Vec Ideal S2x8192x8x64 .f32) : Vec Ideal S16384x512 .bf16 :=
  truncf (F := Ideal) .bf16 (shapeCast _ Y shapeCasts_S2x8192x8x64_S16384x512 : FVec Ideal S16384x512 .f32) bitsLt_bf16_f32

theorem flatHeads_at (Y : Vec Ideal S2x8192x8x64 .f32) (b : Fin 2) (s : Fin 8192) (R : Fin 16384) (hR : R.val = 8192 * b.val + s.val) (k : Fin 512) :
    flatHeads Y (ix2 R k) = Y (ix4 b s ⟨k.val / 64, by omega⟩ ⟨k.val % 64, by omega⟩) := by
  pointwise [flatHeads]
  rw [show (⟨R.val / 8192, by omega⟩ : Fin 2) = b from Fin.ext (by dsimp only; omega),
    show (⟨R.val % 8192, by omega⟩ : Fin 8192) = s from Fin.ext (by dsimp only; omega)]

/-- One column for each position, the heads side by side. -/
def turnedHeads (Y : Vec Ideal S2x8192x2x64 .f32) : Vec Ideal S2x128x8192 .bf16 :=
  truncf (F := Ideal) .bf16 (transpose S2x128x8192 [0, 2, 1] (shapeCast _ Y shapeCasts_S2x8192x2x64_S2x8192x128 : FVec Ideal S2x8192x128 .f32)
    transposes_S2x8192x128_S2x128x8192_0_2_1) bitsLt_bf16_f32

theorem turnedHeads_at (Y : Vec Ideal S2x8192x2x64 .f32) (b : Fin 2) (s : Fin 8192) (k : Fin 128) :
    turnedHeads Y (ix3 b k s) = Y (ix4 b s ⟨k.val / 64, by omega⟩ ⟨k.val % 64, by omega⟩) := by
  pointwise [turnedHeads]

/-- One head's norm with its scale. -/
def headNorm (z g : Fin 64 → EReal) (j : Fin 64) : EReal :=
  z j * Ideal.rsqrt (Ideal.div (∑ l : Fin 64, z l * z l) (Ideal.ofBits .f32 0x42800000#32) + Ideal.ofBits .f32 0x358637BD#32) * g j

section
variable (x0 : Vec Ideal S2x8192x1024 .f32) (x1 : Vec Ideal S2x6144 .f32) (x2 : Vec Ideal S1024 .f32) (x3 : Vec Ideal S1024x2336 .f32)
  (x4 x5 : Vec Ideal S64 .f32) (b : Fin 2) (s : Fin 8192)

/-- The row that enters the projection. -/
def entry (k : Fin 1024) : EReal := hrow (fun l => x0 (ix3 b s l)) (fun l => x2 (ix1 l)) (fun l => x1 (ix2 b ⟨1024 + l.val, by omega⟩))
  (fun l => x1 (ix2 b ⟨l.val, by omega⟩)) k

theorem v61_at (k : Fin 1024) : val_main_v61 (F := Ideal) x0 x1 x2 (ix3 b s k) = entry x0 x1 x2 b s k := by
  unfold entry hrow
  rw [← mul_assoc]
  pointwise [val_main_v61, val_main_v60, val_main_v59, val_main_v58, val_main_v57, val_main_v56, val_main_v55, val_main_v54,
    val_main_v53, val_main_v52, val_main_v51, val_main_v50, val_main_v49, val_main_v48, val_main_v47, val_main_v46,
    val_main_v45, val_main_v44, val_main_v43, val_main_v42, val_main_v41, val_main_v40, val_main_v39, val_main_v38,
    val_main_v37, val_main_v36, val_main_v35, val_main_v34, val_main_v33, val_main_v32, val_main_v31, val_main_cst_3,
    val_main_cst_4, val_main_cst_5, val_main_cst_6]

/-- The projected row. -/
def zrow (n : Fin 2336) : EReal := ∑ l : Fin 1024, entry x0 x1 x2 b s l * x3 (ix2 l n)

theorem v62_at (n : Fin 2336) : val_main_v62 (F := Ideal) x0 x1 x2 x3 (ix3 b s n) = zrow x0 x1 x2 x3 b s n := by
  unfold zrow
  pointwise [val_main_v62, v61_at]

/-- The queries' and the keys' heads side by side, normed. -/
def yrow (i : Fin 640) : EReal := headNorm (fun l => zrow x0 x1 x2 x3 b s ⟨64 * (i.val / 64) + l.val, by omega⟩)
  (fun l => if i.val < 512 then x4 (ix1 l) else x5 (ix1 l)) ⟨i.val % 64, by omega⟩

theorem headNorm_congr {z z' g g' : Fin 64 → EReal} {j j' : Fin 64} (hz : ∀ l, z l = z' l) (hg : ∀ l, g l = g' l) (hj : j = j') :
    headNorm z g j = headNorm z' g' j' := by
  obtain rfl : z = z' := funext hz
  obtain rfl : g = g' := funext hg
  rw [hj]

theorem v84_at (h : Fin 8) (j : Fin 64) : val_main_v84 (F := Ideal) x0 x1 x2 x3 x4 (ix4 b s h j)
    = yrow x0 x1 x2 x3 x4 x5 b s ⟨64 * h.val + j.val, by omega⟩ := by
  refine Eq.trans (b := headNorm (fun l => zrow x0 x1 x2 x3 b s ⟨h.val * 64 + l.val, by omega⟩) (fun l => x4 (ix1 l)) j) ?_ ?_
  · unfold headNorm
    pointwise [val_main_v84, val_main_v83, val_main_v82, val_main_v81, val_main_v80, val_main_v79, val_main_v78, val_main_v77,
    val_main_v76, val_main_v75, val_main_v74, val_main_v73, val_main_v72, val_main_v71, val_main_v63, val_main_cst_7,
    val_main_cst_8, val_main_cst_9, v62_at]
  · exact headNorm_congr (fun l => congrArg (zrow x0 x1 x2 x3 b s) (Fin.ext (by dsimp only; omega)))
      (fun l => (if_pos (by dsimp only; omega)).symm) (Fin.ext (by dsimp only; omega))

theorem v123_at (h : Fin 2) (j : Fin 64) : val_main_v123 (F := Ideal) x0 x1 x2 x3 x5 (ix4 b s h j)
    = yrow x0 x1 x2 x3 x4 x5 b s ⟨512 + 64 * h.val + j.val, by omega⟩ := by
  refine Eq.trans (b := headNorm (fun l => zrow x0 x1 x2 x3 b s ⟨512 + (h.val * 64 + l.val), by omega⟩) (fun l => x5 (ix1 l)) j) ?_ ?_
  · unfold headNorm
    pointwise [val_main_v123, val_main_v122, val_main_v121, val_main_v120, val_main_v119, val_main_v118, val_main_v117, val_main_v116,
    val_main_v115, val_main_v114, val_main_v113, val_main_v112, val_main_v111, val_main_v110, val_main_v64, val_main_cst_10,
    val_main_cst_11, val_main_cst_12, v62_at]
  · exact headNorm_congr (fun l => congrArg (zrow x0 x1 x2 x3 b s) (Fin.ext (by dsimp only; omega)))
      (fun l => (if_neg (by dsimp only; omega)).symm) (Fin.ext (by dsimp only; omega))

/-- The queries and the keys, turned. -/
def qkrow (i : Fin 640) : EReal := turned (yrow x0 x1 x2 x3 x4 x5 b s) (pairCos fun j => val_main_v29 (F := Ideal) (ix2 s j))
  (pairSin fun j => val_main_v30 (F := Ideal) (ix2 s j)) i

theorem v109_eq : val_main_v109 (F := Ideal) x0 x1 x2 x3 x4
    = turn8 (val_main_v84 (F := Ideal) x0 x1 x2 x3 x4) (val_main_v29 (F := Ideal)) (val_main_v30 (F := Ideal)) := by
  unfold turn8 join8 spread8 firsts8 seconds8 val_main_v109 val_main_v108 val_main_v107 val_main_v106 val_main_v105 val_main_v104 val_main_v103 val_main_v102 val_main_v101 val_main_v100 val_main_v99 val_main_v98 val_main_v97 val_main_v96
    val_main_v95 val_main_v94 val_main_v93 val_main_v92 val_main_v91 val_main_v90 val_main_v89 val_main_v88 val_main_v87 val_main_v86 val_main_v85
  rfl

theorem v109_at (h : Fin 8) (j : Fin 64) : val_main_v109 (F := Ideal) x0 x1 x2 x3 x4 (ix4 b s h j)
    = qkrow x0 x1 x2 x3 x4 x5 b s ⟨64 * h.val + j.val, by omega⟩ := by
  unfold qkrow
  refine (congrFun (v109_eq x0 x1 x2 x3 x4) _).trans ((turn8_at _ _ _ b s h j).trans ?_)
  rw [v84_at x0 x1 x2 x3 x4 x5, v84_at x0 x1 x2 x3 x4 x5]
  by_cases hj : j.val % 2 < 1
  · rw [if_pos hj]
    exact even_eq _ (fun j => val_main_v29 (F := Ideal) (ix2 s j)) (fun j => val_main_v30 (F := Ideal) (ix2 s j)) _ _ _ _ (by dsimp only; omega)
      (by dsimp only; omega) (by dsimp only; omega) (by dsimp only; omega)
  · rw [if_neg hj]
    exact odd_eq _ (fun j => val_main_v29 (F := Ideal) (ix2 s j)) (fun j => val_main_v30 (F := Ideal) (ix2 s j)) _ _ _ _ (by dsimp only; omega)
      (by dsimp only; omega) (by dsimp only; omega) (by dsimp only; omega)

theorem v148_eq : val_main_v148 (F := Ideal) x0 x1 x2 x3 x5
    = turn2 (val_main_v123 (F := Ideal) x0 x1 x2 x3 x5) (val_main_v29 (F := Ideal)) (val_main_v30 (F := Ideal)) := by
  unfold turn2 join2 spread2 firsts2 seconds2 val_main_v148 val_main_v147 val_main_v146 val_main_v145 val_main_v144 val_main_v143 val_main_v142 val_main_v141 val_main_v140 val_main_v139 val_main_v138 val_main_v137 val_main_v136 val_main_v135
    val_main_v134 val_main_v133 val_main_v132 val_main_v131 val_main_v130 val_main_v129 val_main_v128 val_main_v127 val_main_v126 val_main_v125 val_main_v124
  rfl

theorem v148_at (h : Fin 2) (j : Fin 64) : val_main_v148 (F := Ideal) x0 x1 x2 x3 x5 (ix4 b s h j)
    = qkrow x0 x1 x2 x3 x4 x5 b s ⟨512 + 64 * h.val + j.val, by omega⟩ := by
  unfold qkrow
  refine (congrFun (v148_eq x0 x1 x2 x3 x5) _).trans ((turn2_at _ _ _ b s h j).trans ?_)
  rw [v123_at x0 x1 x2 x3 x4 x5, v123_at x0 x1 x2 x3 x4 x5]
  by_cases hj : j.val % 2 < 1
  · rw [if_pos hj]
    exact even_eq _ (fun j => val_main_v29 (F := Ideal) (ix2 s j)) (fun j => val_main_v30 (F := Ideal) (ix2 s j)) _ _ _ _ (by dsimp only; omega)
      (by dsimp only; omega) (by dsimp only; omega) (by dsimp only; omega)
  · rw [if_neg hj]
    exact odd_eq _ (fun j => val_main_v29 (F := Ideal) (ix2 s j)) (fun j => val_main_v30 (F := Ideal) (ix2 s j)) _ _ _ _ (by dsimp only; omega)
      (by dsimp only; omega) (by dsimp only; omega) (by dsimp only; omega)

theorem v158_eq : val_main_v158 (F := Ideal) x0 x1 x2 x3 x5 = turnedHeads (val_main_v148 (F := Ideal) x0 x1 x2 x3 x5) := by
  unfold turnedHeads val_main_v158 val_main_v157 val_main_v156
  rfl

theorem v158_at (k : Fin 128) : val_main_v158 (F := Ideal) x0 x1 x2 x3 x5 (ix3 b k s) = qkrow x0 x1 x2 x3 x4 x5 b s ⟨512 + k.val, by omega⟩ :=
  (congrFun (v158_eq x0 x1 x2 x3 x5) _).trans ((turnedHeads_at _ b s k).trans ((v148_at x0 x1 x2 x3 x4 x5 b s _ _).trans
    (congrArg (qkrow x0 x1 x2 x3 x4 x5 b s) (Fin.ext (by dsimp only; omega)))))

theorem v159_at (g : Fin 2) (k : Fin 128) : val_main_v159 (F := Ideal) x0 x1 x2 x3 (ix4 b g s k)
    = if k.val < 64 then zrow x0 x1 x2 x3 b s ⟨640 + 64 * g.val + k.val % 64, by omega⟩ else if k.val = 64 then (1 : EReal) else 0 := by
  pointwise [val_main_v153, val_main_v152, val_main_v151, val_main_v150, val_main_v149, val_main_v159, val_main_v65, val_main_cst_13,
    val_main_cst_14, v62_at]
  split
  · exact congrArg (zrow x0 x1 x2 x3 b s) (Fin.ext (by dsimp only; omega))
  · by_cases h : k.val = 64
    · rw [if_pos h, dif_pos (by omega)]
    · rw [if_neg h, dif_neg (by omega)]

theorem v155_eq : val_main_v155 (F := Ideal) x0 x1 x2 x3 x4 = flatHeads (val_main_v109 (F := Ideal) x0 x1 x2 x3 x4) := by
  unfold flatHeads val_main_v155 val_main_v154
  rfl

variable (R : Fin 16384) (hR : R.val = 8192 * b.val + s.val)
include hR

theorem v155_at (k : Fin 512) : val_main_v155 (F := Ideal) x0 x1 x2 x3 x4 (ix2 R k) = qkrow x0 x1 x2 x3 x4 x5 b s ⟨k.val, by omega⟩ :=
  (congrFun (v155_eq x0 x1 x2 x3 x4) _).trans ((flatHeads_at _ b s R hR k).trans ((v109_at x0 x1 x2 x3 x4 x5 b s _ _).trans
    (congrArg (qkrow x0 x1 x2 x3 x4 x5 b s) (Fin.ext (by dsimp only; omega)))))

theorem v162_at (k : Fin 256) : val_main_v162 (F := Ideal) x0 x1 x2 x3 (ix2 R k)
    = zrow x0 x1 x2 x3 b s ⟨768 + k.val, by omega⟩ * Ideal.ofBits .f32 0x3E000000#32 := by
  pointwise [val_main_v162, val_main_v161, val_main_v160, val_main_v66, val_main_cst_15, v62_at]
  rw [show (⟨R.val / 8192, by omega⟩ : Fin 2) = b from Fin.ext (by dsimp only; omega),
    show (⟨R.val % 8192, by omega⟩ : Fin 8192) = s from Fin.ext (by dsimp only; omega)]

theorem v163_at (k : Fin 256) : val_main_v163 (F := Ideal) x0 x1 x2 x3 (ix2 R k) = zrow x0 x1 x2 x3 b s ⟨1024 + k.val, by omega⟩ := by
  pointwise [val_main_v163, val_main_v67, v62_at]
  rw [show (⟨R.val / 8192, by omega⟩ : Fin 2) = b from Fin.ext (by dsimp only; omega),
    show (⟨R.val % 8192, by omega⟩ : Fin 8192) = s from Fin.ext (by dsimp only; omega)]

theorem v165_at (k : Fin 512) : val_main_v165 (F := Ideal) x0 x1 x2 x3 (ix2 R k) = zrow x0 x1 x2 x3 b s ⟨1280 + k.val, by omega⟩ := by
  pointwise [val_main_v165, val_main_v164, val_main_v68, v62_at]
  rw [show (⟨R.val / 8192, by omega⟩ : Fin 2) = b from Fin.ext (by dsimp only; omega),
    show (⟨R.val % 8192, by omega⟩ : Fin 8192) = s from Fin.ext (by dsimp only; omega)]

theorem v167_at (k : Fin 512) : val_main_v167 (F := Ideal) x0 x1 x2 x3 (ix2 R k) = zrow x0 x1 x2 x3 b s ⟨1824 + k.val, by omega⟩ := by
  pointwise [val_main_v167, val_main_v166, val_main_v70, v62_at]
  rw [show (⟨R.val / 8192, by omega⟩ : Fin 2) = b from Fin.ext (by dsimp only; omega),
    show (⟨R.val % 8192, by omega⟩ : Fin 8192) = s from Fin.ext (by dsimp only; omega)]

end

end Cert.Reference4Ideal.Inproj

end
-- ==== Proof.InprojHost.lean ====
/- The arrays the in-projection launch takes, as the host code makes them from the arguments, element by element. -/
module

public import proofs.«01_k».proof.Proof.InprojRefValue
public import proofs.«01_k».proof.Proof.Gen.Kernel4Ideal.Frame
public import Idealize.ShloMosaic.Lib.Pipeline.ValueKit

@[expose] public section

set_option maxRecDepth 16384

noncomputable section

namespace Cert.Kernel4Ideal.Inproj

open Idealize.ShloMosaic Idealize.ShloMosaic.TcCoe Idealize.ShloMosaic.StableHlo Idealize.ShloMosaic.Tactic Idealize.SL.Sem
open Cert.Kernel4Ideal Cert.Kernel4Ideal.Gen

open Cert.Reference4Ideal.Inproj (pairCos pairSin)
open Cert.Reference4Ideal.Read

/-- One row for each position of each batch. -/
def flat (x : Vec Ideal S2x8192x1024 .f32) : Vec Ideal S16384x1024 .f32 :=
  shapeCast S16384x1024 x shapeCasts_S2x8192x1024_S16384x1024

theorem flat_at (x : Vec Ideal S2x8192x1024 .f32) (b : Fin 2) (s : Fin 8192) (R : Fin 16384) (C : Fin 1024)
    (hR : R.val = 8192 * b.val + s.val) : flat x (ix2 R C) = x (ix3 b s C) := by
  pointwise [flat]
  refine congrArg x (funext fun a => Fin.ext ?_)
  match a with
  | ⟨0, _⟩ => simp; omega
  | ⟨1, _⟩ => simp; omega
  | ⟨2, _⟩ => simp

/-- The modulation vector's rows, with six rows of zeros after them. -/
def modOf (x : Vec Ideal S2x6144 .f32) : Vec Ideal S8x1x6144 .f32 :=
  shapeCast S8x1x6144 (concatenate S8x6144 0 [⟨S2x6144, x⟩, ⟨S6x6144, broadcastInDim S6x6144 ![] bcast_S_S6x6144 (constant (F := Ideal) S_ .f32 0x00000000#32)⟩]
    concatenates_S2x6144_S6x6144_S8x6144_d0) shapeCasts_S8x6144_S8x1x6144

theorem modOf_at (x : Vec Ideal S2x6144 .f32) (b : Fin 2) (B : Fin 8) (n : Fin 6144) (hB : B.val = b.val) : modOf x (ix3 B 0 n) = x (ix2 b n) := by
  have hb : B.val < 2 := by omega
  pointwise [modOf]
  rw [dif_pos hb]
  refine congrArg x (funext fun a => Fin.ext ?_)
  match a with
  | ⟨0, _⟩ => simp <;> omega
  | ⟨1, _⟩ => simp <;> omega

/-- The norm's scale as one row. -/
def gainOf (x : Vec Ideal S1024 .f32) : Vec Ideal S1x1024 .f32 := shapeCast S1x1024 x shapeCasts_S1024_S1x1024
theorem gainOf_at (x : Vec Ideal S1024 .f32) (n : Fin 1024) : gainOf x (ix2 0 n) = x (ix1 n) := by
  pointwise [gainOf]

/-- The heads' scales side by side: eight times the queries', twice the keys'. -/
def headGains (p q : Vec Ideal S64 .f32) : Vec Ideal S1x640 .f32 :=
  shapeCast S1x640 (concatenate S640 0
    [⟨S512, shapeCast S512 (broadcastInDim S8x64 ![0, 1] bcast_S1x64_S8x64_0_1 (shapeCast S1x64 p shapeCasts_S64_S1x64)) shapeCasts_S8x64_S512⟩,
      ⟨S128, shapeCast S128 (broadcastInDim S2x64 ![0, 1] bcast_S1x64_S2x64_0_1 (shapeCast S1x64 q shapeCasts_S64_S1x64)) shapeCasts_S2x64_S128⟩]
    concatenates_S512_S128_S640_d0) shapeCasts_S640_S1x640

theorem headGains_at (p q : Vec Ideal S64 .f32) (i : Fin 640) :
    headGains p q (ix2 0 i) = if i.val < 512 then p (ix1 ⟨i.val % 64, by omega⟩) else q (ix1 ⟨i.val % 64, by omega⟩) := by
  pointwise [headGains]
  by_cases h : i.val < 512
  · refine (dif_pos h).trans (Eq.trans ?_ (if_pos h).symm)
    rfl
  · refine (dif_neg h).trans (Eq.trans ?_ (if_neg h).symm)
    exact congrArg (fun n => q (ix1 n)) (Fin.ext (by dsimp only; omega))

/-- Ones where row and column are of one head, else zeros. -/
def blockOnes : Vec Ideal S256x256 .bf16 :=
  have i : IVec S256 32 := shapeCast S256 (iotaInDim S4x64 32 0) shapeCasts_S4x64_S256
  truncf (F := Ideal) .bf16 (select (cmpi .eq (broadcastInDim S256x256 ![0, 1] bcast_S256x1_S256x256_0_1 (broadcastInDim S256x1 ![0] bcast_S256_S256x1_0 i))
      (broadcastInDim S256x256 ![0, 1] bcast_S1x256_S256x256_0_1 (broadcastInDim S1x256 ![1] bcast_S256_S1x256_1 i)))
    (broadcastInDim S256x256 ![] bcast_S_S256x256 (constant (F := Ideal) S_ .f32 0x3F800000#32))
    (broadcastInDim S256x256 ![] bcast_S_S256x256 (constant (F := Ideal) S_ .f32 0x00000000#32)) : FVec Ideal S256x256 .f32) bitsLt_bf16_f32

theorem blockOnes_at (l j : Fin 256) : blockOnes (ix2 l j) = if l.val / 64 = j.val / 64 then (1 : EReal) else 0 := by
  pointwise [blockOnes]
  have e : ∀ a b : Fin 4, Scalar.select (IntOp.cmpi CmpIPredicate.eq (BitVec.ofNat 32 a.val) (BitVec.ofNat 32 b.val)) (1 : EReal) 0
      = if a.val = b.val then (1 : EReal) else 0 := by
    intro a b
    have d : ∀ a b : Fin 4, IntOp.cmpi CmpIPredicate.eq (BitVec.ofNat 32 a.val) (BitVec.ofNat 32 b.val) = if a.val = b.val then 1#1 else 0#1 := by decide
    rw [d]
    split <;> rfl
  exact e ⟨l.val / 64, by omega⟩ ⟨j.val / 64, by omega⟩

/-- The angles' frequencies. -/
def freqs : FVec Ideal S16 .f32 :=
  Host.powf (F := Ideal) (broadcastInDim S16 ![] bcast_S_S16 (constant (F := Ideal) S_ .f32 0x461C4000#32))
    (Host.divf (F := Ideal) (Host.negf (F := Ideal) (addf (F := Ideal) (broadcastInDim S16 ![] bcast_S_S16 (constant (F := Ideal) S_ .f32 0x00000000#32))
        (mulf (F := Ideal) (broadcastInDim S16 ![] bcast_S_S16 (constant (F := Ideal) S_ .f32 0x40000000#32)) (sitofp (F := Ideal) .f32 (iotaInDim S16 32 0)))))
      (broadcastInDim S16 ![] bcast_S_S16 (constant (F := Ideal) S_ .f32 0x42000000#32)))

theorem freqs_eq : freqs = val_main_v17 (F := Ideal) := by
  unfold freqs val_main_v17 val_main_v16 val_main_v15 val_main_v14 val_main_v13 val_main_v12 val_main_v11 val_main_v10 val_main_v9 val_main_v8
    val_main_cst val_main_cst_0 val_main_cst_1 val_main_cst_2
  rfl

/-- The angles: sixteen from the row of the position, sixteen from its column. -/
def angles (w : FVec Ideal S16 .f32) : FVec Ideal S8192x32 .f32 :=
  concatenate S8192x32 1
    [⟨S8192x16, mulf (F := Ideal) (broadcastInDim S8192x16 ![0, 1] bcast_S8192x1_S8192x16_0_1 (broadcastInDim S8192x1 ![0] bcast_S8192_S8192x1_0
        (shapeCast S8192 (sitofp (F := Ideal) .f32 (iotaInDim S128x64 32 0)) shapeCasts_S128x64_S8192)))
        (broadcastInDim S8192x16 ![0, 1] bcast_S1x16_S8192x16_0_1 (broadcastInDim S1x16 ![1] bcast_S16_S1x16_1 w))⟩,
      ⟨S8192x16, mulf (F := Ideal) (broadcastInDim S8192x16 ![0, 1] bcast_S8192x1_S8192x16_0_1 (broadcastInDim S8192x1 ![0] bcast_S8192_S8192x1_0
        (shapeCast S8192 (sitofp (F := Ideal) .f32 (iotaInDim S128x64 32 1)) shapeCasts_S128x64_S8192)))
        (broadcastInDim S8192x16 ![0, 1] bcast_S1x16_S8192x16_0_1 (broadcastInDim S1x16 ![1] bcast_S16_S1x16_1 w))⟩]
    concatenates_S8192x16_S8192x16_S8192x32_d1

/-- The reference's angles, with the frequencies named. -/
def refAngles (w : FVec Ideal S16 .f32) : FVec Ideal S8192x32 .f32 :=
  concatenate S8192x32 1
    [⟨S8192x16, mulf (F := Ideal) (val_main_v20 (F := Ideal)) (broadcastInDim S8192x16 ![0, 1] bcast_S1x16_S8192x16_0_1 (broadcastInDim S1x16 ![1] bcast_S16_S1x16_1 w))⟩,
      ⟨S8192x16, mulf (F := Ideal) (val_main_v25 (F := Ideal)) (broadcastInDim S8192x16 ![0, 1] bcast_S1x16_S8192x16_0_1 (broadcastInDim S1x16 ![1] bcast_S16_S1x16_1 w))⟩]
    concatenates_S8192x16_S8192x16_S8192x32_d1

theorem refAngles_eq : refAngles (val_main_v17 (F := Ideal)) = val_main_v28 (F := Ideal) := by
  unfold refAngles val_main_v28 val_main_v27 val_main_v22 val_main_v26 val_main_v24 val_main_v21 val_main_v19
  rfl

theorem angles_at (w : FVec Ideal S16 .f32) (s : Fin 8192) (j : Fin 32) : angles w (ix2 s j) = refAngles w (ix2 s j) := by
  pointwise [angles, refAngles, val_main_v20, val_main_v18, val_main_v3, val_main_v2, val_main_v1, val_main_v0, val_main_v25, val_main_v23, val_main_v7,
    val_main_v6, val_main_v5, val_main_v4]

theorem angles_eq : angles freqs = val_main_v28 (F := Ideal) := by
  rw [← refAngles_eq, ← freqs_eq]
  funext i
  obtain ⟨a, b, rfl⟩ : ∃ a b, i = ix2 a b := ⟨i 0, i 1, funext fun n => by match n with | ⟨0, _⟩ => rfl | ⟨1, _⟩ => rfl⟩
  exact angles_at freqs a b

/-- A table of positions, each entry twice, for two heads. -/
def table (P Q : FVec Ideal S8192x32 .f32) : FVec Ideal S8192x128 .f32 :=
  shapeCast S8192x128 (broadcastInDim S1x8192x2x64 ![0, 1, 2, 3] bcast_S1x8192x1x64_S1x8192x2x64_0_1_2_3 (shapeCast S1x8192x1x64
    (shapeCast S8192x64 (concatenate S8192x32x2 2 [⟨S8192x32x1, broadcastInDim S8192x32x1 ![0, 1] bcast_S8192x32_S8192x32x1_0_1 P⟩,
      ⟨S8192x32x1, broadcastInDim S8192x32x1 ![0, 1] bcast_S8192x32_S8192x32x1_0_1 Q⟩] concatenates_S8192x32x1_S8192x32x1_S8192x32x2_d2)
      shapeCasts_S8192x32x2_S8192x64) shapeCasts_S8192x64_S1x8192x1x64)) shapeCasts_S1x8192x2x64_S8192x128

theorem table_at (P Q : FVec Ideal S8192x32 .f32) (s : Fin 8192) (l : Fin 128) : @Eq EReal (table P Q (ix2 s l))
    (if l.val % 2 = 0 then P (ix2 s ⟨l.val % 64 / 2, by omega⟩) else Q (ix2 s ⟨l.val % 64 / 2, by omega⟩)) := by
  pointwise [table]
  by_cases h : l.val % 2 = 0
  · exact (dif_pos (by omega)).trans (if_pos h).symm
  · exact (dif_neg (by omega)).trans (if_neg h).symm

section
variable (m : (ℓ : Loc nD τ sig) → Buf (Elt Ideal) ℓ) (c : Dev nD)

theorem x_eq : @Eq (Vec Ideal S16384x1024 .f32) (V m c main_v74) (flat (m ((c.tc : Thread nD τ).loc main_arg0))) := by
  unfold V flat
  simp only [hostOps0, hostOps0_1, hostOps0_2, List.flatten_cons, List.flatten_nil, List.append_nil, List.cons_append, List.nil_append]
  after_results
  first | done | rfl

theorem mod_eq : @Eq (Vec Ideal S8x1x6144 .f32) (V m c main_v2) (modOf (m ((c.tc : Thread nD τ).loc main_arg1))) := by
  unfold V modOf
  after_results
  first | done | rfl

theorem gain_eq : @Eq (Vec Ideal S1x1024 .f32) (V m c main_v75) (gainOf (m ((c.tc : Thread nD τ).loc main_arg2))) := by
  unfold V gainOf
  simp only [hostOps0, hostOps0_1, hostOps0_2, List.flatten_cons, List.flatten_nil, List.append_nil, List.cons_append, List.nil_append]
  after_results
  first | done | rfl

theorem proj_eq : @Eq (Vec Ideal S1024x2336 .bf16) (V m c main_v76) (truncf (F := Ideal) .bf16 (m ((c.tc : Thread nD τ).loc main_arg3) : Vec Ideal S1024x2336 .f32) bitsLt_bf16_f32) := by
  unfold V
  simp only [hostOps0, hostOps0_1, hostOps0_2, List.flatten_cons, List.flatten_nil, List.append_nil, List.cons_append, List.nil_append]
  after_results
  first | done | rfl

theorem ones_eq : @Eq (Vec Ideal S256x256 .bf16) (V m c main_v19) blockOnes := by
  unfold V blockOnes
  after_results
  first | done | rfl

theorem headGains_eq : @Eq (Vec Ideal S1x640 .f32) (V m c main_v10) (headGains (m ((c.tc : Thread nD τ).loc main_arg4)) (m ((c.tc : Thread nD τ).loc main_arg5))) := by
  unfold V headGains
  after_results
  first | done | rfl

theorem cos_eq : @Eq (Vec Ideal S8192x128 .f32) (V m c main_v70) (table (Host.cos (F := Ideal) (angles freqs)) (Host.cos (F := Ideal) (angles freqs))) := by
  unfold V table angles freqs
  after_results
  first | done | rfl

theorem sin_eq : @Eq (Vec Ideal S8192x128 .f32) (V m c main_v73)
    (table (Host.negf (F := Ideal) (Host.sin (F := Ideal) (angles freqs))) (Host.sin (F := Ideal) (angles freqs))) := by
  unfold V table angles freqs
  after_results
  first | done | rfl

end

end Cert.Kernel4Ideal.Inproj

end
-- ==== Proof.InprojOut.lean ====
/- What a grid point of the in-projection launch leaves in its output blocks, element by element, from the blocks it takes. -/
module

public import proofs.«01_k».proof.Proof.InprojRead
public import proofs.«01_k».proof.Proof.Gen.Kernel4Ideal.Frame
public import Idealize.ShloMosaic.Lib.Pipeline.ValueKit

@[expose] public section

set_option maxRecDepth 16384

noncomputable section

namespace Cert.Kernel4Ideal.Inproj

open Idealize.ShloMosaic Idealize.ShloMosaic.TcCoe Idealize.ShloMosaic.StableHlo Idealize.ShloMosaic.Tactic Idealize.SL.Sem
open Cert.Kernel4Ideal Cert.Kernel4Ideal.Gen

/-- Each of these loads takes the whole of its block. -/
theorem load0 (X : Vec Ideal S1024x1024 .f32) : View.ld (Val := Elt Ideal) (e' := EltTy.f32) X r0_0 = X := by unfold r0_0; exact View.ld_unit_lit _ X (by decide)
@[inherit_doc load0] theorem load1 (X : Vec Ideal S1x1024 .f32) : View.ld (Val := Elt Ideal) (e' := EltTy.f32) X r0_1 = X := by unfold r0_1; exact View.ld_unit_lit _ X (by decide)
@[inherit_doc load0] theorem load2 (X : Vec Ideal S1x1x1024 .f32) : View.ld (Val := Elt Ideal) (e' := EltTy.f32) X r0_2 = X := by unfold r0_2; exact View.ld_unit_lit _ X (by decide)
@[inherit_doc load0] theorem load5 (X : Vec Ideal S256x256 .bf16) : View.ld (Val := Elt Ideal) (e' := EltTy.bf16) X r0_5 = X := by unfold r0_5; exact View.ld_unit_lit _ X (by decide)
@[inherit_doc load0] theorem load6 (X : Vec Ideal S1x640 .f32) : View.ld (Val := Elt Ideal) (e' := EltTy.f32) X r0_6 = X := by unfold r0_6; exact View.ld_unit_lit _ X (by decide)
@[inherit_doc load0] theorem load7 (X : Vec Ideal S1024x128 .f32) : View.ld (Val := Elt Ideal) (e' := EltTy.f32) X r0_7 = X := by unfold r0_7; exact View.ld_unit_lit _ X (by decide)
/-- Each of these stores fills its block. -/
theorem store8 {e : EltTy} (X : Vec Ideal S1024x512 e) : View.canon ([⟨r0_8, X⟩] : List (View.Piece (Elt Ideal) S1024x512 e)) = X := by
  unfold r0_8
  exact View.canon_cons_unit_lit _ X [] (by decide)
@[inherit_doc store8] theorem store9 {e : EltTy} (X : Vec Ideal S1x128x1024 e) : View.canon ([⟨r0_9, X⟩] : List (View.Piece (Elt Ideal) S1x128x1024 e)) = X := by
  unfold r0_9
  exact View.canon_cons_unit_lit _ X [] (by decide)
@[inherit_doc store8] theorem store15 {e : EltTy} (X : Vec Ideal S1024x256 e) : View.canon ([⟨r0_15, X⟩] : List (View.Piece (Elt Ideal) S1024x256 e)) = X := by
  unfold r0_15
  exact View.canon_cons_unit_lit _ X [] (by decide)

theorem store_two (P Q : Vec Ideal S1x1x1024x128 .bf16) (g : Fin 2) (r : Fin 1024) (k : Fin 128) :
    View.canon ([⟨r0_11, P⟩, ⟨r0_10, Q⟩] : List (View.Piece (Elt Ideal) S1x2x1024x128 .bf16)) (ix4 0 g r k)
      = if g.val = 0 then Q (ix4 0 0 r k) else P (ix4 0 0 r k) := by
  canon_tiles x h using cover0_13 P Q _
  · have hx : x = ix4 0 0 r k := by
      funext a
      match a with
      | ⟨0, _⟩ => exact Subsingleton.elim (α := Fin 1) _ _
      | ⟨1, _⟩ => exact Subsingleton.elim (α := Fin 1) _ _
      | ⟨2, _⟩ => exact Fin.ext h2.symm
      | ⟨3, _⟩ => exact Fin.ext h3.symm
    rw [hx, if_neg (by have : g.val = 1 + (x 1).val := h1; omega)]
  · have hx : x = ix4 0 0 r k := by
      funext a
      match a with
      | ⟨0, _⟩ => exact Subsingleton.elim (α := Fin 1) _ _
      | ⟨1, _⟩ => exact Subsingleton.elim (α := Fin 1) _ _
      | ⟨2, _⟩ => exact Fin.ext h2.symm
      | ⟨3, _⟩ => exact Fin.ext h3.symm
    rw [hx, if_pos (by have : g.val = (x 1).val := h1; have h' : (x 1).val < 1 := (x 1).isLt; omega)]

/-- These loads take a range of the projection's columns. -/
theorem cols3 (X : Vec Ideal S1024x2336 .bf16) (l : Fin 1024) (n : Fin 768) :
    @Eq EReal (View.ld (Val := Elt Ideal) (e' := EltTy.bf16) X r0_3 (ix2 l n)) (X (ix2 l ⟨n.val, by omega⟩)) :=
  View.ld_unit_apply_of _ _ _ _ _ _ fun a => by
    match a with
    | ⟨0, _⟩ => simp
    | ⟨1, _⟩ => simp
@[inherit_doc cols3] theorem cols4 (X : Vec Ideal S1024x2336 .bf16) (l : Fin 1024) (n : Fin 544) :
    @Eq EReal (View.ld (Val := Elt Ideal) (e' := EltTy.bf16) X r0_4 (ix2 l n)) (X (ix2 l ⟨1792 + n.val, by omega⟩)) :=
  View.ld_unit_apply_of _ _ _ _ _ _ fun a => by
    match a with
    | ⟨0, _⟩ => simp
    | ⟨1, _⟩ => simp
@[inherit_doc cols3] theorem cols12 (X : Vec Ideal S1024x2336 .bf16) (l : Fin 1024) (n : Fin 512) :
    @Eq EReal (View.ld (Val := Elt Ideal) (e' := EltTy.bf16) X r0_12 (ix2 l n)) (X (ix2 l ⟨768 + n.val, by omega⟩)) :=
  View.ld_unit_apply_of _ _ _ _ _ _ fun a => by
    match a with
    | ⟨0, _⟩ => simp
    | ⟨1, _⟩ => simp
@[inherit_doc cols3] theorem cols16 (X : Vec Ideal S1024x2336 .bf16) (l : Fin 1024) (n : Fin 512) :
    @Eq EReal (View.ld (Val := Elt Ideal) (e' := EltTy.bf16) X r0_16 (ix2 l n)) (X (ix2 l ⟨1280 + n.val, by omega⟩)) :=
  View.ld_unit_apply_of _ _ _ _ _ _ fun a => by
    match a with
    | ⟨0, _⟩ => simp
    | ⟨1, _⟩ => simp

theorem pay4_eq (X : Vec Ideal S256x256 .bf16) : k0_pay4 X = X := by
  funext i
  obtain ⟨a, b, rfl⟩ : ∃ a b, i = ix2 a b := ⟨i 0, i 1, funext fun n => by match n with | ⟨0, _⟩ => rfl | ⟨1, _⟩ => rfl⟩
  pointwise [k0_pay4]

theorem pay9_eq (X : Vec Ideal S1024x128 .f32) : k0_pay9 X = X := by
  funext i
  obtain ⟨a, b, rfl⟩ : ∃ a b, i = ix2 a b := ⟨i 0, i 1, funext fun n => by match n with | ⟨0, _⟩ => rfl | ⟨1, _⟩ => rfl⟩
  pointwise [k0_pay9]

theorem pay10_eq (X : Vec Ideal S1024x128 .f32) : k0_pay10 X = X := by
  funext i
  obtain ⟨a, b, rfl⟩ : ∃ a b, i = ix2 a b := ⟨i 0, i 1, funext fun n => by match n with | ⟨0, _⟩ => rfl | ⟨1, _⟩ => rfl⟩
  pointwise [k0_pay10]

section
variable (x0 : Vec Ideal S1024x1024 .f32) (x1 x2 : Vec Ideal S1x1x1024 .f32) (x3 : Vec Ideal S1x1024 .f32) (x4 : Vec Ideal S1024x2336 .bf16)
  (x5 : Vec Ideal S256x256 .bf16) (x6 : Vec Ideal S1x640 .f32) (x7 x8 : Vec Ideal S1024x128 .f32) (x9 : Vec Ideal S128x512 .bf16) (x10 : Vec Ideal S1x512 .f32)
  (r : Fin 1024)

/-- One projected row, from the blocks. -/
def zB (n : Fin 2336) : EReal := ∑ l : Fin 1024,
  hrow (fun l => x0 (ix2 r l)) (fun l => x3 (ix2 0 l)) (fun l => x2 (ix3 0 0 l)) (fun l => x1 (ix3 0 0 l)) l * x4 (ix2 l n)

/-- Its queries' and keys' heads, normed. -/
def yB (i : Fin 640) : EReal := zB x0 x1 x2 x3 x4 r ⟨i.val, by omega⟩
  * Ideal.rsqrt (headSum (fun l => zB x0 x1 x2 x3 x4 r ⟨l.val, by omega⟩ * zB x0 x1 x2 x3 x4 r ⟨l.val, by omega⟩) i * Ideal.ofBits .f32 0x3C800000#32
    + Ideal.ofBits .f32 0x358637BD#32) * x6 (ix2 0 i)

theorem pay2_blk (n : Fin 768) : k0_pay2 x0 x3 x2 x1 (View.ld (Val := Elt Ideal) (e' := EltTy.bf16) x4 r0_3) (ix2 r n) = zB x0 x1 x2 x3 x4 r ⟨n.val, by omega⟩ :=
  (pay2_at _ _ _ _ _ r n).trans (Finset.sum_congr rfl fun l _ => congrArg₂ (fun a b : EReal => a * b) (pay1_at _ _ _ _ r l) (cols3 x4 l n))

theorem pay3_blk (n : Fin 544) : k0_pay3 x0 x3 x2 x1 (View.ld (Val := Elt Ideal) (e' := EltTy.bf16) x4 r0_4) (ix2 r n) = zB x0 x1 x2 x3 x4 r ⟨1792 + n.val, by omega⟩ :=
  (pay3_at _ _ _ _ _ r n).trans (Finset.sum_congr rfl fun l _ => congrArg₂ (fun a b : EReal => a * b) (pay1_at _ _ _ _ r l) (cols4 x4 l n))

theorem pay18_blk (n : Fin 512) : k0_pay18 (k0_pay1 x0 x3 x2 x1) (View.ld (Val := Elt Ideal) (e' := EltTy.bf16) x4 r0_12) (ix2 r n)
    = zB x0 x1 x2 x3 x4 r ⟨768 + n.val, by omega⟩ :=
  (pay18_at _ _ r n).trans (Finset.sum_congr rfl fun l _ => congrArg₂ (fun a b : EReal => a * b) (pay1_at _ _ _ _ r l) (cols12 x4 l n))

theorem pay26_blk (n : Fin 512) : k0_pay26 (k0_pay1 x0 x3 x2 x1) (View.ld (Val := Elt Ideal) (e' := EltTy.bf16) x4 r0_16) (ix2 r n)
    = zB x0 x1 x2 x3 x4 r ⟨1280 + n.val, by omega⟩ :=
  (pay26_at _ _ r n).trans (Finset.sum_congr rfl fun l _ => congrArg₂ (fun a b : EReal => a * b) (pay1_at _ _ _ _ r l) (cols16 x4 l n))

theorem pay5_blk (n : Fin 640) : k0_pay5 x0 x3 x2 x1 (View.ld (Val := Elt Ideal) (e' := EltTy.bf16) x4 r0_3) (ix2 r n) = zB x0 x1 x2 x3 x4 r ⟨n.val, by omega⟩ :=
  (pay5_at _ _ _ _ _ r n).trans (pay2_blk x0 x1 x2 x3 x4 r ⟨n.val, by omega⟩)

theorem pay7_blk (hbd : ∀ l j : Fin 256, x5 (ix2 l j) = if l.val / 64 = j.val / 64 then (1 : EReal) else 0) (i : Fin 640) :
    k0_pay7 (k0_pay4 x5) (k0_pay5 x0 x3 x2 x1 (View.ld (Val := Elt Ideal) (e' := EltTy.bf16) x4 r0_3))
      (k0_pay6 x0 x3 x2 x1 (View.ld (Val := Elt Ideal) (e' := EltTy.bf16) x4 r0_3)) x6 (ix2 r i) = yB x0 x1 x2 x3 x4 x6 r i := by
  refine (pay7_at _ _ _ _ (by rw [pay4_eq]; exact hbd) r i).trans ?_
  unfold yB
  refine congrArg₂ (fun a b : EReal => a * b) (congrArg₂ (fun a b : EReal => a * b) (pay5_blk x0 x1 x2 x3 x4 r i) ?_) rfl
  refine congrArg (fun f : Fin 640 → EReal => Ideal.rsqrt (headSum f i * Ideal.ofBits .f32 0x3C800000#32 + Ideal.ofBits .f32 0x358637BD#32)) (funext fun l => ?_)
  exact (pay6_at _ _ _ _ _ r l).trans (congrArg₂ (fun a b : EReal => a * b) (pay5_blk x0 x1 x2 x3 x4 r l) (pay5_blk x0 x1 x2 x3 x4 r l))

theorem turned_congr {y y' : Fin 640 → EReal} {co co' si si' : Fin 128 → EReal} (h : y = y') (hc : co = co') (hs : si = si') (k : Fin 640) :
    turned y co si k = turned y' co' si' k := by subst h hc hs; rfl

theorem out11_at (hbd : ∀ l j : Fin 256, x5 (ix2 l j) = if l.val / 64 = j.val / 64 then (1 : EReal) else 0) (k : Fin 512) :
    out0_11 x0 x1 x2 x3 x4 x5 x6 x7 x8 x9 x10 (ix2 r k)
      = turned (yB x0 x1 x2 x3 x4 x6 r) (fun l => x7 (ix2 r l)) (fun l => x8 (ix2 r l)) ⟨k.val, by omega⟩ := by
  unfold_out out0_11
  refine (congrFun (store8 _) _).trans ?_
  simp only [load0, load1, load2, load5, load6, load7]
  refine (pay12_at _ _ _ _ _ _ _ rfl r k).trans ?_
  simp only [pay9_eq, pay10_eq]
  exact turned_congr (funext fun i => pay7_blk x0 x1 x2 x3 x4 x5 x6 r hbd i) rfl rfl _

theorem out12_at (hbd : ∀ l j : Fin 256, x5 (ix2 l j) = if l.val / 64 = j.val / 64 then (1 : EReal) else 0) (k : Fin 128) :
    out0_12 x0 x1 x2 x3 x4 x5 x6 x7 x8 x9 x10 (ix3 0 k r)
      = turned (yB x0 x1 x2 x3 x4 x6 r) (fun l => x7 (ix2 r l)) (fun l => x8 (ix2 r l)) ⟨512 + k.val, by omega⟩ := by
  unfold_out out0_12
  refine (congrFun (store9 _) _).trans ?_
  simp only [load0, load1, load2, load5, load6, load7]
  refine (pay13_at _ _ _ r k).trans ?_
  simp only [pay9_eq, pay10_eq]
  exact turned_congr (funext fun i => pay7_blk x0 x1 x2 x3 x4 x5 x6 r hbd i) rfl rfl _

theorem out13_at (g : Fin 2) (k : Fin 128) : out0_13 x0 x1 x2 x3 x4 x5 x6 x7 x8 x9 x10 (ix4 0 g r k)
    = if k.val < 64 then zB x0 x1 x2 x3 x4 r ⟨640 + 64 * g.val + k.val % 64, by omega⟩ else if k.val = 64 then (1 : EReal) else 0 := by
  unfold_out out0_13
  refine (store_two _ _ g r k).trans ?_
  simp only [load0, load1, load2]
  by_cases hg : g.val = 0
  · refine (if_pos hg).trans ((pay16_at _ r k).trans ?_)
    rw [pay2_blk]
    exact congrArg (fun n => if k.val < 64 then zB x0 x1 x2 x3 x4 r n else if k.val = 64 then (1 : EReal) else 0) (Fin.ext (by dsimp only; omega))
  · refine (if_neg hg).trans ((pay17_at _ r k).trans ?_)
    rw [pay2_blk]
    exact congrArg (fun n => if k.val < 64 then zB x0 x1 x2 x3 x4 r n else if k.val = 64 then (1 : EReal) else 0) (Fin.ext (by dsimp only; omega))

theorem out14_at (k : Fin 256) : out0_14 x0 x1 x2 x3 x4 x5 x6 x7 x8 x9 x10 (ix2 r k)
    = zB x0 x1 x2 x3 x4 r ⟨768 + k.val, by omega⟩ * Ideal.ofBits .f32 0x3E000000#32 := by
  unfold_out out0_14
  refine (congrFun (store15 _) _).trans ?_
  simp only [load0, load1, load2]
  exact (pay24_at _ r k).trans (congrArg (fun a : EReal => a * Ideal.ofBits .f32 0x3E000000#32) (pay18_blk x0 x1 x2 x3 x4 r _))

theorem out15_at (k : Fin 256) : out0_15 x0 x1 x2 x3 x4 x5 x6 x7 x8 x9 x10 (ix2 r k) = zB x0 x1 x2 x3 x4 r ⟨1024 + k.val, by omega⟩ := by
  unfold_out out0_15
  refine (congrFun (store15 _) _).trans ?_
  simp only [load0, load1, load2]
  exact (pay25_at _ r k).trans ((pay18_blk x0 x1 x2 x3 x4 r _).trans (congrArg (zB x0 x1 x2 x3 x4 r) (Fin.ext (by dsimp only; omega))))

theorem out16_at (k : Fin 512) : out0_16 x0 x1 x2 x3 x4 x5 x6 x7 x8 x9 x10 (ix2 r k) = zB x0 x1 x2 x3 x4 r ⟨1280 + k.val, by omega⟩ := by
  unfold_out out0_16
  refine (congrFun (store8 _) _).trans ?_
  simp only [load0, load1, load2]
  exact pay26_blk x0 x1 x2 x3 x4 r k

theorem out19_at (k : Fin 512) : out0_19 x0 x1 x2 x3 x4 x5 x6 x7 x8 x9 x10 (ix2 r k) = zB x0 x1 x2 x3 x4 r ⟨1824 + k.val, by omega⟩ := by
  unfold_out out0_19
  refine (congrFun (store8 _) _).trans ?_
  simp only [load0, load1, load2]
  exact (pay27_at _ r k).trans ((pay3_blk x0 x1 x2 x3 x4 r _).trans (congrArg (zB x0 x1 x2 x3 x4 r) (Fin.ext (by dsimp only; omega))))

end

end Cert.Kernel4Ideal.Inproj

end
-- ==== Proof.InprojValue.lean ====
/- The idealized in-projection kernel's results, against the reference's. -/
module

public import proofs.«01_k».proof.Proof.InprojHost
public import proofs.«01_k».proof.Proof.InprojOut
public import proofs.«01_k».proof.Proof.Gen.Kernel4Ideal.Value

@[expose] public section

set_option maxRecDepth 16384

noncomputable section

namespace Cert.Kernel4Ideal.Inproj

open Idealize.ShloMosaic Idealize.ShloMosaic.TcCoe Idealize.ShloMosaic.StableHlo Idealize.ShloMosaic.Tactic Idealize.SL.Sem
open Cert.Kernel4Ideal Cert.Kernel4Ideal.Gen

open Cert.Reference4Ideal.Inproj (pairCos pairSin zrow yrow qkrow entry headNorm)

/-- Which block each window takes at each grid point. -/
theorem at0 : ∀ t : Fin cfg0.N, win0_0.index t = ![t.val, 0] := (by decide +kernel : ∀ t : Fin grid0.N, _)
@[inherit_doc at0] theorem at1 : ∀ t : Fin cfg0.N, win0_1.index t = ![t.val / 8, 0, 0] := (by decide +kernel : ∀ t : Fin grid0.N, _)
@[inherit_doc at0] theorem at2 : ∀ t : Fin cfg0.N, win0_2.index t = ![t.val / 8, 0, 1] := (by decide +kernel : ∀ t : Fin grid0.N, _)
@[inherit_doc at0] theorem at3 : ∀ t : Fin cfg0.N, win0_3.index t = ![0, 0] := (by decide +kernel : ∀ t : Fin grid0.N, _)
@[inherit_doc at0] theorem at4 : ∀ t : Fin cfg0.N, win0_4.index t = ![0, 0] := (by decide +kernel : ∀ t : Fin grid0.N, _)
@[inherit_doc at0] theorem at5 : ∀ t : Fin cfg0.N, win0_5.index t = ![0, 0] := (by decide +kernel : ∀ t : Fin grid0.N, _)
@[inherit_doc at0] theorem at6 : ∀ t : Fin cfg0.N, win0_6.index t = ![0, 0] := (by decide +kernel : ∀ t : Fin grid0.N, _)
@[inherit_doc at0] theorem at7 : ∀ t : Fin cfg0.N, win0_7.index t = ![t.val % 8, 0] := (by decide +kernel : ∀ t : Fin grid0.N, _)
@[inherit_doc at0] theorem at8 : ∀ t : Fin cfg0.N, win0_8.index t = ![t.val % 8, 0] := (by decide +kernel : ∀ t : Fin grid0.N, _)
@[inherit_doc at0] theorem at11 : ∀ t : Fin cfg0.N, win0_11.index t = ![t.val, 0] := (by decide +kernel : ∀ t : Fin grid0.N, _)
@[inherit_doc at0] theorem at12 : ∀ t : Fin cfg0.N, win0_12.index t = ![t.val / 8, 0, t.val % 8] := (by decide +kernel : ∀ t : Fin grid0.N, _)
@[inherit_doc at0] theorem at13 : ∀ t : Fin cfg0.N, win0_13.index t = ![t.val / 8, 0, t.val % 8, 0] := (by decide +kernel : ∀ t : Fin grid0.N, _)
@[inherit_doc at0] theorem at14 : ∀ t : Fin cfg0.N, win0_14.index t = ![t.val, 0] := (by decide +kernel : ∀ t : Fin grid0.N, _)
@[inherit_doc at0] theorem at15 : ∀ t : Fin cfg0.N, win0_15.index t = ![t.val, 0] := (by decide +kernel : ∀ t : Fin grid0.N, _)
@[inherit_doc at0] theorem at16 : ∀ t : Fin cfg0.N, win0_16.index t = ![t.val, 0] := (by decide +kernel : ∀ t : Fin grid0.N, _)
@[inherit_doc at0] theorem at19 : ∀ t : Fin cfg0.N, win0_19.index t = ![t.val, 0] := (by decide +kernel : ∀ t : Fin grid0.N, _)
/-- The launch has 16 grid points. -/
theorem points : cfg0.N = 16 := (by decide +kernel : grid0.N = 16)

/-- The batch that grid point `t` works on. -/
def batchOf (t : Fin cfg0.N) : Fin 2 := ⟨t.val / 8, by have := t.isLt; have := points; omega⟩

/-- Multiplying by a sixty-fourth is dividing by sixty-four. -/
theorem sixtyFourth (x : EReal) : x * Ideal.ofBits .f32 0x3C800000#32 = Ideal.div x (Ideal.ofBits .f32 0x42800000#32) := by
  have h1 : Ideal.ofBits .f32 0x42800000#32 = ((64 : ℝ) : EReal) := by
    simp [Ideal.ofBits, Ideal.ieee, -EReal.coe_mul]; norm_num
  have h2 : Ideal.ofBits .f32 0x3C800000#32 = ((1 / 64 : ℝ) : EReal) := by
    simp [Ideal.ofBits, Ideal.ieee, -EReal.coe_mul]; norm_num
  rw [h1, h2]
  unfold Ideal.div
  rw [if_neg (by intro h; exact absurd (EReal.coe_eq_zero.mp h) (by norm_num)), ← EReal.coe_inv]
  norm_num

theorem hrow_congr {x x' g g' sc sc' sh sh' : Fin 1024 → EReal} (h0 : x = x') (h1 : g = g') (h2 : sc = sc') (h3 : sh = sh') (k : Fin 1024) :
    hrow x g sc sh k = hrow x' g' sc' sh' k := by subst h0 h1 h2 h3; rfl

/-- A head's norm, from the sum over its entries. -/
theorem headNorm_of (z : Fin 640 → EReal) (z' g' : Fin 64 → EReal) (a g : EReal) (i : Fin 640) (hz : ∀ l : Fin 64, z ⟨64 * (i.val / 64) + l.val, by omega⟩ = z' l)
    (ha : a = z' ⟨i.val % 64, by omega⟩) (hg : g = g' ⟨i.val % 64, by omega⟩) :
    a * Ideal.rsqrt (headSum (fun l => z l * z l) i * Ideal.ofBits .f32 0x3C800000#32 + Ideal.ofBits .f32 0x358637BD#32) * g
      = headNorm z' g' ⟨i.val % 64, by omega⟩ := by
  unfold headNorm headSum
  rw [sixtyFourth, ha, hg]
  exact congrArg (fun e : EReal => z' ⟨i.val % 64, by omega⟩ * Ideal.rsqrt (Ideal.div e (Ideal.ofBits .f32 0x42800000#32) + Ideal.ofBits .f32 0x358637BD#32)
    * g' ⟨i.val % 64, by omega⟩) (Finset.sum_congr rfl fun l _ => congrArg₂ (fun a b : EReal => a * b) (hz l) (hz l))

section
variable (m : (ℓ : Loc nD τ sig) → Buf (Elt Ideal) ℓ) (c : Dev nD)

/-- The reference's attention queries, from this program's arguments. -/
def queries : Vec Ideal S16384x512 .bf16 := Cert.Reference4Ideal.Read.val_main_v155 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))

/-- The reference's attention keys, transposed, from this program's arguments. -/
def keys : Vec Ideal S2x128x8192 .bf16 := Cert.Reference4Ideal.Read.val_main_v158 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg5))

/-- The reference's attention values, with a column of ones, from this program's arguments. -/
def values : Vec Ideal S2x2x8192x128 .bf16 := Cert.Reference4Ideal.Read.val_main_v159 (F := Ideal) (m ((c.tc : Thread nD τ).loc main_arg0)) (m ((c.tc : Thread nD τ).loc main_arg1)) (m ((c.tc : Thread nD τ).loc main_arg2)) (m ((c.tc : Thread nD τ).loc main_arg3))

/-- The reference's linear attention's queries, from this program's arguments. -/
def linearQueries : Vec Ideal S16384x256 .f32 := Cert.Reference4Ideal.Read.val_main_v162 (F := Ideal) (m ((c.tc : Thread nD τ).loc main_arg0)) (m ((c.tc : Thread nD τ).loc main_arg1)) (m ((c.tc : Thread nD τ).loc main_arg2)) (m ((c.tc : Thread nD τ).loc main_arg3))

/-- The reference's linear attention's keys, from this program's arguments. -/
def linearKeys : Vec Ideal S16384x256 .f32 := Cert.Reference4Ideal.Read.val_main_v163 (F := Ideal) (m ((c.tc : Thread nD τ).loc main_arg0)) (m ((c.tc : Thread nD τ).loc main_arg1)) (m ((c.tc : Thread nD τ).loc main_arg2)) (m ((c.tc : Thread nD τ).loc main_arg3))

/-- The reference's linear attention's values, from this program's arguments. -/
def linearValues : Vec Ideal S16384x512 .bf16 := Cert.Reference4Ideal.Read.val_main_v165 (F := Ideal) (m ((c.tc : Thread nD τ).loc main_arg0)) (m ((c.tc : Thread nD τ).loc main_arg1)) (m ((c.tc : Thread nD τ).loc main_arg2)) (m ((c.tc : Thread nD τ).loc main_arg3))

/-- The reference's linear attention's output gate, from this program's arguments. -/
def linearGate : Vec Ideal S16384x512 .bf16 := Cert.Reference4Ideal.Read.val_main_v167 (F := Ideal) (m ((c.tc : Thread nD τ).loc main_arg0)) (m ((c.tc : Thread nD τ).loc main_arg1)) (m ((c.tc : Thread nD τ).loc main_arg2)) (m ((c.tc : Thread nD τ).loc main_arg3))

section
variable (t : Fin cfg0.N)

theorem shiftBlock (k : Fin 1024) :
    @Eq EReal ((iblk m c 1 t : Vec Ideal S1x1x1024 .f32) (ix3 0 0 k)) ((m ((c.tc : Thread nD τ).loc main_arg1) : Vec Ideal S2x6144 .f32) (ix2 (batchOf t) ⟨k.val, by omega⟩)) := by
  have hb := (batchOf t).isLt
  have hbv : (batchOf t).val = t.val / 8 := rfl
  refine Eq.trans (b := (V m c main_v2 : Vec Ideal S8x1x6144 .f32) (ix3 ⟨(batchOf t).val, by omega⟩ 0 ⟨k.val, by omega⟩)) ?_
    ((congrFun (mod_eq m c) _).trans (modOf_at _ _ _ _ rfl))
  blk_ext [iblk, at1]

theorem scaleBlock (k : Fin 1024) :
    @Eq EReal ((iblk m c 2 t : Vec Ideal S1x1x1024 .f32) (ix3 0 0 k)) ((m ((c.tc : Thread nD τ).loc main_arg1) : Vec Ideal S2x6144 .f32) (ix2 (batchOf t) ⟨1024 + k.val, by omega⟩)) := by
  have hb := (batchOf t).isLt
  have hbv : (batchOf t).val = t.val / 8 := rfl
  refine Eq.trans (b := (V m c main_v2 : Vec Ideal S8x1x6144 .f32) (ix3 ⟨(batchOf t).val, by omega⟩ 0 ⟨1024 + k.val, by omega⟩)) ?_
    ((congrFun (mod_eq m c) _).trans (modOf_at _ _ _ _ rfl))
  blk_ext [iblk, at2]

theorem gainBlock (k : Fin 1024) :
    @Eq EReal ((iblk m c 3 t : Vec Ideal S1x1024 .f32) (ix2 0 k)) ((m ((c.tc : Thread nD τ).loc main_arg2) : Vec Ideal S1024 .f32) (ix1 k)) := by
  refine Eq.trans (b := (V m c main_v75 : Vec Ideal S1x1024 .f32) (ix2 0 k)) ?_ ((congrFun (gain_eq m c) _).trans (gainOf_at _ _))
  blk_ext [iblk, at3]

theorem projBlock (l : Fin 1024) (k : Fin 2336) :
    @Eq EReal ((iblk m c 4 t : Vec Ideal S1024x2336 .bf16) (ix2 l k)) ((m ((c.tc : Thread nD τ).loc main_arg3) : Vec Ideal S1024x2336 .f32) (ix2 l k)) := by
  refine Eq.trans (b := (V m c main_v76 : Vec Ideal S1024x2336 .bf16) (ix2 l k)) ?_ (congrFun (proj_eq m c) _)
  blk_ext [iblk, at4]

theorem onesBlock (l j : Fin 256) :
    @Eq EReal ((iblk m c 5 t : Vec Ideal S256x256 .bf16) (ix2 l j)) (if l.val / 64 = j.val / 64 then (1 : EReal) else 0) := by
  refine Eq.trans (b := (V m c main_v19 : Vec Ideal S256x256 .bf16) (ix2 l j)) ?_ ((congrFun (ones_eq m c) _).trans (blockOnes_at l j))
  blk_ext [iblk, at5]

theorem headGainBlock (i : Fin 640) :
    @Eq EReal ((iblk m c 6 t : Vec Ideal S1x640 .f32) (ix2 0 i))
      (if i.val < 512 then (m ((c.tc : Thread nD τ).loc main_arg4) : Vec Ideal S64 .f32) (ix1 ⟨i.val % 64, by omega⟩) else (m ((c.tc : Thread nD τ).loc main_arg5) : Vec Ideal S64 .f32) (ix1 ⟨i.val % 64, by omega⟩)) := by
  refine Eq.trans (b := (V m c main_v10 : Vec Ideal S1x640 .f32) (ix2 0 i)) ?_ ((congrFun (headGains_eq m c) _).trans (headGains_at _ _ i))
  blk_ext [iblk, at6]

variable (r : Fin 1024) (S : Fin 8192) (hS : S.val = 1024 * (t.val % 8) + r.val)
include hS

theorem xBlock (k : Fin 1024) :
    @Eq EReal ((iblk m c 0 t : Vec Ideal S1024x1024 .f32) (ix2 r k)) ((m ((c.tc : Thread nD τ).loc main_arg0) : Vec Ideal S2x8192x1024 .f32) (ix3 (batchOf t) S k)) := by
  have hb := (batchOf t).isLt
  have hbv : (batchOf t).val = t.val / 8 := rfl
  refine Eq.trans (b := (V m c main_v74 : Vec Ideal S16384x1024 .f32) (ix2 ⟨8192 * (batchOf t).val + S.val, by omega⟩ k)) ?_
    ((congrFun (x_eq m c) _).trans (flat_at _ _ _ _ _ rfl))
  blk_ext [iblk, at0]

theorem cosBlock (l : Fin 128) :
    @Eq EReal ((iblk m c 7 t : Vec Ideal S1024x128 .f32) (ix2 r l)) (pairCos (fun j => Cert.Reference4Ideal.Read.val_main_v29 (F := Ideal) (ix2 S j)) l) := by
  refine Eq.trans (b := (V m c main_v70 : Vec Ideal S8192x128 .f32) (ix2 S l)) ?_ ((congrFun (cos_eq m c) _).trans ((table_at _ _ S l).trans ?_))
  · blk_ext [iblk, at7]
  · rw [ite_self, angles_eq]
    rfl

theorem sinBlock (l : Fin 128) :
    @Eq EReal ((iblk m c 8 t : Vec Ideal S1024x128 .f32) (ix2 r l)) (pairSin (fun j => Cert.Reference4Ideal.Read.val_main_v30 (F := Ideal) (ix2 S j)) l) := by
  refine Eq.trans (b := (V m c main_v73 : Vec Ideal S8192x128 .f32) (ix2 S l)) ?_ ((congrFun (sin_eq m c) _).trans ((table_at _ _ S l).trans ?_))
  · blk_ext [iblk, at8]
  · rw [angles_eq]
    rfl

/-- One projected row at grid point `t` is the reference's. -/
theorem zB_eq (n : Fin 2336) : zB (iblk m c 0 t) (iblk m c 1 t) (iblk m c 2 t) (iblk m c 3 t) (iblk m c 4 t) r n
    = zrow (m ((c.tc : Thread nD τ).loc main_arg0)) (m ((c.tc : Thread nD τ).loc main_arg1)) (m ((c.tc : Thread nD τ).loc main_arg2)) (m ((c.tc : Thread nD τ).loc main_arg3)) (batchOf t) S n := by
  unfold zB zrow entry
  refine Finset.sum_congr rfl fun l _ => congrArg₂ (fun a b : EReal => a * b) ?_ (projBlock m c t l n)
  exact hrow_congr (funext fun l => xBlock m c t r S hS l) (funext fun l => gainBlock m c t l) (funext fun l => scaleBlock m c t l)
    (funext fun l => shiftBlock m c t l) l

/-- So are its normed heads. -/
theorem yB_eq (i : Fin 640) : yB (iblk m c 0 t) (iblk m c 1 t) (iblk m c 2 t) (iblk m c 3 t) (iblk m c 4 t) (iblk m c 6 t) r i
    = yrow (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (batchOf t) S i := by
  unfold yB yrow
  refine headNorm_of (fun l => zB (iblk m c 0 t) (iblk m c 1 t) (iblk m c 2 t) (iblk m c 3 t) (iblk m c 4 t) r ⟨l.val, by omega⟩) _ _ _ _ i
    (fun l => zB_eq m c t r S hS _) ?_ (headGainBlock m c t i)
  refine (zB_eq m c t r S hS _).trans (congrArg (zrow (m ((c.tc : Thread nD τ).loc main_arg0)) (m ((c.tc : Thread nD τ).loc main_arg1)) (m ((c.tc : Thread nD τ).loc main_arg2)) (m ((c.tc : Thread nD τ).loc main_arg3)) (batchOf t) S) (Fin.ext ?_))
  dsimp only
  omega

/-- And its turned heads. -/
theorem turned_eq (i : Fin 640) : turned (yB (iblk m c 0 t) (iblk m c 1 t) (iblk m c 2 t) (iblk m c 3 t) (iblk m c 4 t) (iblk m c 6 t) r)
    (fun l => (iblk m c 7 t : Vec Ideal S1024x128 .f32) (ix2 r l)) (fun l => (iblk m c 8 t : Vec Ideal S1024x128 .f32) (ix2 r l)) i
    = qkrow (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (batchOf t) S i := by
  unfold qkrow
  exact turned_congr (funext fun i => yB_eq m c t r S hS i) (funext fun l => cosBlock m c t r S hS l) (funext fun l => sinBlock m c t r S hS l) i

end

section
variable (t : Fin cfg0.N)

/-- What grid point `t` leaves of the attention queries. -/
def outs11 : Vec Ideal S1024x512 .bf16 := out0_11 (iblk m c 0 t) (iblk m c 1 t) (iblk m c 2 t) (iblk m c 3 t) (iblk m c 4 t) (iblk m c 5 t) (iblk m c 6 t) (iblk m c 7 t) (iblk m c 8 t) (iblk m c 9 t) (iblk m c 10 t)
/-- What grid point `t` leaves of the attention keys, transposed. -/
def outs12 : Vec Ideal S1x128x1024 .bf16 := out0_12 (iblk m c 0 t) (iblk m c 1 t) (iblk m c 2 t) (iblk m c 3 t) (iblk m c 4 t) (iblk m c 5 t) (iblk m c 6 t) (iblk m c 7 t) (iblk m c 8 t) (iblk m c 9 t) (iblk m c 10 t)
/-- What grid point `t` leaves of the attention values, with a column of ones. -/
def outs13 : Vec Ideal S1x2x1024x128 .bf16 := out0_13 (iblk m c 0 t) (iblk m c 1 t) (iblk m c 2 t) (iblk m c 3 t) (iblk m c 4 t) (iblk m c 5 t) (iblk m c 6 t) (iblk m c 7 t) (iblk m c 8 t) (iblk m c 9 t) (iblk m c 10 t)
/-- What grid point `t` leaves of the linear attention's queries. -/
def outs14 : Vec Ideal S1024x256 .f32 := out0_14 (iblk m c 0 t) (iblk m c 1 t) (iblk m c 2 t) (iblk m c 3 t) (iblk m c 4 t) (iblk m c 5 t) (iblk m c 6 t) (iblk m c 7 t) (iblk m c 8 t) (iblk m c 9 t) (iblk m c 10 t)
/-- What grid point `t` leaves of the linear attention's keys. -/
def outs15 : Vec Ideal S1024x256 .f32 := out0_15 (iblk m c 0 t) (iblk m c 1 t) (iblk m c 2 t) (iblk m c 3 t) (iblk m c 4 t) (iblk m c 5 t) (iblk m c 6 t) (iblk m c 7 t) (iblk m c 8 t) (iblk m c 9 t) (iblk m c 10 t)
/-- What grid point `t` leaves of the linear attention's values. -/
def outs16 : Vec Ideal S1024x512 .bf16 := out0_16 (iblk m c 0 t) (iblk m c 1 t) (iblk m c 2 t) (iblk m c 3 t) (iblk m c 4 t) (iblk m c 5 t) (iblk m c 6 t) (iblk m c 7 t) (iblk m c 8 t) (iblk m c 9 t) (iblk m c 10 t)
/-- What grid point `t` leaves of the linear attention's output gate. -/
def outs19 : Vec Ideal S1024x512 .bf16 := out0_19 (iblk m c 0 t) (iblk m c 1 t) (iblk m c 2 t) (iblk m c 3 t) (iblk m c 4 t) (iblk m c 5 t) (iblk m c 6 t) (iblk m c 7 t) (iblk m c 8 t) (iblk m c 9 t) (iblk m c 10 t)

variable (r : Fin 1024) (S : Fin 8192) (hS : S.val = 1024 * (t.val % 8) + r.val)
include hS

theorem outs12_spec (k : Fin 128) : outs12 m c t (ix3 0 k r) = keys m c (ix3 (batchOf t) k S) :=
  (out12_at _ _ _ _ _ _ _ _ _ _ _ r (onesBlock m c t) k).trans ((turned_eq m c t r S hS _).trans
    (Cert.Reference4Ideal.Inproj.v158_at _ _ _ _ _ _ (batchOf t) S k).symm)

theorem outs13_spec (g : Fin 2) (k : Fin 128) : outs13 m c t (ix4 0 g r k) = values m c (ix4 (batchOf t) g S k) := by
  refine (out13_at _ _ _ _ _ _ _ _ _ _ _ r g k).trans (Eq.trans ?_ (Cert.Reference4Ideal.Inproj.v159_at _ _ _ _ (batchOf t) S g k).symm)
  rw [zB_eq m c t r S hS]

variable (R : Fin 16384) (hR : R.val = 1024 * t.val + r.val)
include hR

theorem row_eq : R.val = 8192 * (batchOf t).val + S.val := by
  have hbv : (batchOf t).val = t.val / 8 := rfl
  omega

theorem outs11_spec (k : Fin 512) : outs11 m c t (ix2 r k) = queries m c (ix2 R k) :=
  (out11_at _ _ _ _ _ _ _ _ _ _ _ r (onesBlock m c t) k).trans ((turned_eq m c t r S hS _).trans
    (Cert.Reference4Ideal.Inproj.v155_at _ _ _ _ _ _ (batchOf t) S R (row_eq t r S hS R hR) k).symm)

theorem outs14_spec (k : Fin 256) : outs14 m c t (ix2 r k) = linearQueries m c (ix2 R k) :=
  (out14_at _ _ _ _ _ _ _ _ _ _ _ r k).trans ((congrArg (fun a : EReal => a * Ideal.ofBits .f32 0x3E000000#32) (zB_eq m c t r S hS _)).trans
    (Cert.Reference4Ideal.Inproj.v162_at _ _ _ _ (batchOf t) S R (row_eq t r S hS R hR) k).symm)

theorem outs15_spec (k : Fin 256) : outs15 m c t (ix2 r k) = linearKeys m c (ix2 R k) :=
  (out15_at _ _ _ _ _ _ _ _ _ _ _ r k).trans ((zB_eq m c t r S hS _).trans
    (Cert.Reference4Ideal.Inproj.v163_at _ _ _ _ (batchOf t) S R (row_eq t r S hS R hR) k).symm)

theorem outs16_spec (k : Fin 512) : outs16 m c t (ix2 r k) = linearValues m c (ix2 R k) :=
  (out16_at _ _ _ _ _ _ _ _ _ _ _ r k).trans ((zB_eq m c t r S hS _).trans
    (Cert.Reference4Ideal.Inproj.v165_at _ _ _ _ (batchOf t) S R (row_eq t r S hS R hR) k).symm)

theorem outs19_spec (k : Fin 512) : outs19 m c t (ix2 r k) = linearGate m c (ix2 R k) :=
  (out19_at _ _ _ _ _ _ _ _ _ _ _ r k).trans ((zB_eq m c t r S hS _).trans
    (Cert.Reference4Ideal.Inproj.v167_at _ _ _ _ (batchOf t) S R (row_eq t r S hS R hR) k).symm)

end

/-- The launch's attention queries are the reference's. -/
theorem final11 : (dats m 0 c).arrAt 11 cfg0.N = queries m c := by
  refine (dats m 0 c).arrAt_eq_of_covers 11 _ (by decide +kernel) fun t hf y => ?_
  blk_simp
  rw [after0_11]
  have hN := points
  have ht : t.val < cfg0.N := t.isLt
  have h0 : (y 0).val < 1024 := (y 0).isLt
  have h1 : (y 1).val < 512 := (y 1).isLt
  have hy : y = ix2 (⟨(y 0).val, h0⟩ : Fin 1024) (⟨(y 1).val, h1⟩ : Fin 512) := by
    funext a; match a with | ⟨0, _⟩ => rfl | ⟨1, _⟩ => rfl
  refine (congrArg (outs11 m c t) hy).trans ((outs11_spec m c t ⟨(y 0).val, h0⟩ ⟨1024 * (t.val % 8) + (y 0).val, by omega⟩ rfl
    ⟨1024 * t.val + (y 0).val, by omega⟩ rfl ⟨(y 1).val, h1⟩).trans (congrArg (queries m c) ?_))
  blk_ext [at11]

/-- The launch's attention keys, transposed are the reference's. -/
theorem final12 : (dats m 0 c).arrAt 12 cfg0.N = keys m c := by
  refine (dats m 0 c).arrAt_eq_of_covers 12 _ (by decide +kernel) fun t hf y => ?_
  blk_simp
  rw [after0_12]
  have hN := points
  have ht : t.val < cfg0.N := t.isLt
  have h0 : (y 0).val < 1 := (y 0).isLt
  have h1 : (y 1).val < 128 := (y 1).isLt
  have h2 : (y 2).val < 1024 := (y 2).isLt
  have hy : y = ix3 0 (⟨(y 1).val, h1⟩ : Fin 128) (⟨(y 2).val, h2⟩ : Fin 1024) := by
    funext a; match a with | ⟨0, _⟩ => exact Subsingleton.elim (α := Fin 1) _ _ | ⟨1, _⟩ => rfl | ⟨2, _⟩ => rfl
  refine (congrArg (outs12 m c t) hy).trans ((outs12_spec m c t ⟨(y 2).val, h2⟩ ⟨1024 * (t.val % 8) + (y 2).val, by omega⟩ rfl ⟨(y 1).val, h1⟩).trans (congrArg (keys m c) ?_))
  blk_ext [at12, batchOf]

/-- The launch's attention values, with a column of ones are the reference's. -/
theorem final13 : (dats m 0 c).arrAt 13 cfg0.N = values m c := by
  refine (dats m 0 c).arrAt_eq_of_covers 13 _ (by decide +kernel) fun t hf y => ?_
  blk_simp
  rw [after0_13]
  have hN := points
  have ht : t.val < cfg0.N := t.isLt
  have h0 : (y 0).val < 1 := (y 0).isLt
  have h1 : (y 1).val < 2 := (y 1).isLt
  have h2 : (y 2).val < 1024 := (y 2).isLt
  have h3 : (y 3).val < 128 := (y 3).isLt
  have hy : y = ix4 0 (⟨(y 1).val, h1⟩ : Fin 2) (⟨(y 2).val, h2⟩ : Fin 1024) (⟨(y 3).val, h3⟩ : Fin 128) := by
    funext a; match a with | ⟨0, _⟩ => exact Subsingleton.elim (α := Fin 1) _ _ | ⟨1, _⟩ => rfl | ⟨2, _⟩ => rfl | ⟨3, _⟩ => rfl
  refine (congrArg (outs13 m c t) hy).trans ((outs13_spec m c t ⟨(y 2).val, h2⟩ ⟨1024 * (t.val % 8) + (y 2).val, by omega⟩ rfl ⟨(y 1).val, h1⟩ ⟨(y 3).val, h3⟩).trans (congrArg (values m c) ?_))
  blk_ext [at13, batchOf]

/-- The launch's linear attention's queries are the reference's. -/
theorem final14 : (dats m 0 c).arrAt 14 cfg0.N = linearQueries m c := by
  refine (dats m 0 c).arrAt_eq_of_covers 14 _ (by decide +kernel) fun t hf y => ?_
  blk_simp
  rw [after0_14]
  have hN := points
  have ht : t.val < cfg0.N := t.isLt
  have h0 : (y 0).val < 1024 := (y 0).isLt
  have h1 : (y 1).val < 256 := (y 1).isLt
  have hy : y = ix2 (⟨(y 0).val, h0⟩ : Fin 1024) (⟨(y 1).val, h1⟩ : Fin 256) := by
    funext a; match a with | ⟨0, _⟩ => rfl | ⟨1, _⟩ => rfl
  refine (congrArg (outs14 m c t) hy).trans ((outs14_spec m c t ⟨(y 0).val, h0⟩ ⟨1024 * (t.val % 8) + (y 0).val, by omega⟩ rfl
    ⟨1024 * t.val + (y 0).val, by omega⟩ rfl ⟨(y 1).val, h1⟩).trans (congrArg (linearQueries m c) ?_))
  blk_ext [at14]

/-- The launch's linear attention's keys are the reference's. -/
theorem final15 : (dats m 0 c).arrAt 15 cfg0.N = linearKeys m c := by
  refine (dats m 0 c).arrAt_eq_of_covers 15 _ (by decide +kernel) fun t hf y => ?_
  blk_simp
  rw [after0_15]
  have hN := points
  have ht : t.val < cfg0.N := t.isLt
  have h0 : (y 0).val < 1024 := (y 0).isLt
  have h1 : (y 1).val < 256 := (y 1).isLt
  have hy : y = ix2 (⟨(y 0).val, h0⟩ : Fin 1024) (⟨(y 1).val, h1⟩ : Fin 256) := by
    funext a; match a with | ⟨0, _⟩ => rfl | ⟨1, _⟩ => rfl
  refine (congrArg (outs15 m c t) hy).trans ((outs15_spec m c t ⟨(y 0).val, h0⟩ ⟨1024 * (t.val % 8) + (y 0).val, by omega⟩ rfl
    ⟨1024 * t.val + (y 0).val, by omega⟩ rfl ⟨(y 1).val, h1⟩).trans (congrArg (linearKeys m c) ?_))
  blk_ext [at15]

/-- The launch's linear attention's values are the reference's. -/
theorem final16 : (dats m 0 c).arrAt 16 cfg0.N = linearValues m c := by
  refine (dats m 0 c).arrAt_eq_of_covers 16 _ (by decide +kernel) fun t hf y => ?_
  blk_simp
  rw [after0_16]
  have hN := points
  have ht : t.val < cfg0.N := t.isLt
  have h0 : (y 0).val < 1024 := (y 0).isLt
  have h1 : (y 1).val < 512 := (y 1).isLt
  have hy : y = ix2 (⟨(y 0).val, h0⟩ : Fin 1024) (⟨(y 1).val, h1⟩ : Fin 512) := by
    funext a; match a with | ⟨0, _⟩ => rfl | ⟨1, _⟩ => rfl
  refine (congrArg (outs16 m c t) hy).trans ((outs16_spec m c t ⟨(y 0).val, h0⟩ ⟨1024 * (t.val % 8) + (y 0).val, by omega⟩ rfl
    ⟨1024 * t.val + (y 0).val, by omega⟩ rfl ⟨(y 1).val, h1⟩).trans (congrArg (linearValues m c) ?_))
  blk_ext [at16]

/-- The launch's linear attention's output gate are the reference's. -/
theorem final19 : (dats m 0 c).arrAt 19 cfg0.N = linearGate m c := by
  refine (dats m 0 c).arrAt_eq_of_covers 19 _ (by decide +kernel) fun t hf y => ?_
  blk_simp
  rw [after0_19]
  have hN := points
  have ht : t.val < cfg0.N := t.isLt
  have h0 : (y 0).val < 1024 := (y 0).isLt
  have h1 : (y 1).val < 512 := (y 1).isLt
  have hy : y = ix2 (⟨(y 0).val, h0⟩ : Fin 1024) (⟨(y 1).val, h1⟩ : Fin 512) := by
    funext a; match a with | ⟨0, _⟩ => rfl | ⟨1, _⟩ => rfl
  refine (congrArg (outs19 m c t) hy).trans ((outs19_spec m c t ⟨(y 0).val, h0⟩ ⟨1024 * (t.val % 8) + (y 0).val, by omega⟩ rfl
    ⟨1024 * t.val + (y 0).val, by omega⟩ rfl ⟨(y 1).val, h1⟩).trans (congrArg (linearGate m c) ?_))
  blk_ext [at19]

end

end Cert.Kernel4Ideal.Inproj

end
-- ==== Proof.InprojClaim.lean ====
/- The in-projection programs' claims: their runs' frames and the value claim. -/
module

public import proofs.«01_k».proof.Defs
public import proofs.«01_k».proof.Proof.InprojValue
public import proofs.«01_k».proof.Proof.Gen.Kernel4.Frame
public import proofs.«01_k».proof.Proof.Gen.Reference4Ideal.Run
public import Idealize.ShloMosaic.Lib.Claim
public import Idealize.ShloMosaic.Adequacy
public import Idealize.ShloMosaic.Init

@[expose] public section

set_option maxRecDepth 16384

noncomputable section

namespace Cert.Proof.InprojClaim

open Idealize.ShloMosaic Idealize.ShloMosaic.TcCoe Idealize.SL.Sem

/-- The kernel on machine words runs, keeps its arguments and leaves its counters at zero. -/
theorem frameWords : Cert.quiescent_Kernel4 := fun m ρ _ => Cert.Kernel4.Gen.frame m ρ
/-- So does the idealized kernel. -/
theorem frameIdeal : Cert.quiescent_Kernel4Ideal := fun m ρ _ => Cert.Kernel4Ideal.Gen.frame m ρ
/-- So does the reference. -/
theorem frameRef : Cert.quiescent_Reference4Ideal := fun m ρ _ =>
  (θ_run Cert.Reference4Ideal.defs _ _).mono (fun r h => ⟨fun c => (h c).2.2.2.2.2.2.2, sem_eq_zero_of_no_sems (by decide) r.2⟩)
    (Cert.Reference4Ideal.Value.run (F := Ideal) m ρ)

/-- The idealized kernel's seven results are the reference's, entry by entry, on all arguments. -/
theorem value : Cert.algebraic_Kernel4Ideal_Reference4Ideal := by
  intro m g m' g' hpre hagree
  refine ⟨fun c => Cert.Kernel4Ideal.Inproj.queries m c, fun c => Cert.Kernel4Ideal.Inproj.keys m c, fun c => Cert.Kernel4Ideal.Inproj.values m c, fun c => Cert.Kernel4Ideal.Inproj.linearQueries m c, fun c => Cert.Kernel4Ideal.Inproj.linearKeys m c, fun c => Cert.Kernel4Ideal.Inproj.linearValues m c, fun c => Cert.Kernel4Ideal.Inproj.linearGate m c, ?_, ?_⟩
  · exact (θ_run _ _ _).mono (fun r h c => ⟨(h c).1.trans (Cert.Kernel4Ideal.Inproj.final11 m c),
      (h c).2.1.trans (Cert.Kernel4Ideal.Inproj.final12 m c),
      (h c).2.2.1.trans (Cert.Kernel4Ideal.Inproj.final13 m c),
      (h c).2.2.2.1.trans (Cert.Kernel4Ideal.Inproj.final14 m c),
      (h c).2.2.2.2.1.trans (Cert.Kernel4Ideal.Inproj.final15 m c),
      (h c).2.2.2.2.2.1.trans (Cert.Kernel4Ideal.Inproj.final16 m c),
      (h c).2.2.2.2.2.2.2.2.1.trans (Cert.Kernel4Ideal.Inproj.final19 m c), (h c).2.2.2.2.2.2.2.2.2⟩)
      (Cert.Kernel4Ideal.Value.run_blocks m g)
  · refine (θ_run _ _ _).mono (fun r h c => ⟨(h c).1.trans ?_, (h c).2.1.trans ?_, (h c).2.2.1.trans ?_, (h c).2.2.2.1.trans ?_, (h c).2.2.2.2.1.trans ?_, (h c).2.2.2.2.2.1.trans ?_, (h c).2.2.2.2.2.2.1.trans ?_, (h c).2.2.2.2.2.2.2⟩)
      (Cert.Reference4Ideal.Value.run (F := Ideal) m' g')
    · refine (Cert.Reference4Ideal.Read.val_main_v155_eq _).trans ?_
      obtain ⟨a0, a1, a2, a3, a4, a5, -⟩ := hagree c
      show Cert.Reference4Ideal.Read.val_main_v155 (F := Ideal) (m' ((c.tc : Thread Cert.Reference4Ideal.nD Cert.Reference4Ideal.τ).loc Cert.Reference4Ideal.main_arg0)) (m' ((c.tc : Thread Cert.Reference4Ideal.nD Cert.Reference4Ideal.τ).loc Cert.Reference4Ideal.main_arg1)) (m' ((c.tc : Thread Cert.Reference4Ideal.nD Cert.Reference4Ideal.τ).loc Cert.Reference4Ideal.main_arg2)) (m' ((c.tc : Thread Cert.Reference4Ideal.nD Cert.Reference4Ideal.τ).loc Cert.Reference4Ideal.main_arg3)) (m' ((c.tc : Thread Cert.Reference4Ideal.nD Cert.Reference4Ideal.τ).loc Cert.Reference4Ideal.main_arg4)) = Cert.Kernel4Ideal.Inproj.queries m c
      rw [a0, a1, a2, a3, a4]
      rfl
    · refine (Cert.Reference4Ideal.Read.val_main_v158_eq _).trans ?_
      obtain ⟨a0, a1, a2, a3, a4, a5, -⟩ := hagree c
      show Cert.Reference4Ideal.Read.val_main_v158 (F := Ideal) (m' ((c.tc : Thread Cert.Reference4Ideal.nD Cert.Reference4Ideal.τ).loc Cert.Reference4Ideal.main_arg0)) (m' ((c.tc : Thread Cert.Reference4Ideal.nD Cert.Reference4Ideal.τ).loc Cert.Reference4Ideal.main_arg1)) (m' ((c.tc : Thread Cert.Reference4Ideal.nD Cert.Reference4Ideal.τ).loc Cert.Reference4Ideal.main_arg2)) (m' ((c.tc : Thread Cert.Reference4Ideal.nD Cert.Reference4Ideal.τ).loc Cert.Reference4Ideal.main_arg3)) (m' ((c.tc : Thread Cert.Reference4Ideal.nD Cert.Reference4Ideal.τ).loc Cert.Reference4Ideal.main_arg5)) = Cert.Kernel4Ideal.Inproj.keys m c
      rw [a0, a1, a2, a3, a5]
      rfl
    · refine (Cert.Reference4Ideal.Read.val_main_v159_eq _).trans ?_
      obtain ⟨a0, a1, a2, a3, a4, a5, -⟩ := hagree c
      show Cert.Reference4Ideal.Read.val_main_v159 (F := Ideal) (m' ((c.tc : Thread Cert.Reference4Ideal.nD Cert.Reference4Ideal.τ).loc Cert.Reference4Ideal.main_arg0)) (m' ((c.tc : Thread Cert.Reference4Ideal.nD Cert.Reference4Ideal.τ).loc Cert.Reference4Ideal.main_arg1)) (m' ((c.tc : Thread Cert.Reference4Ideal.nD Cert.Reference4Ideal.τ).loc Cert.Reference4Ideal.main_arg2)) (m' ((c.tc : Thread Cert.Reference4Ideal.nD Cert.Reference4Ideal.τ).loc Cert.Reference4Ideal.main_arg3)) = Cert.Kernel4Ideal.Inproj.values m c
      rw [a0, a1, a2, a3]
      rfl
    · refine (Cert.Reference4Ideal.Read.val_main_v162_eq _).trans ?_
      obtain ⟨a0, a1, a2, a3, a4, a5, -⟩ := hagree c
      show Cert.Reference4Ideal.Read.val_main_v162 (F := Ideal) (m' ((c.tc : Thread Cert.Reference4Ideal.nD Cert.Reference4Ideal.τ).loc Cert.Reference4Ideal.main_arg0)) (m' ((c.tc : Thread Cert.Reference4Ideal.nD Cert.Reference4Ideal.τ).loc Cert.Reference4Ideal.main_arg1)) (m' ((c.tc : Thread Cert.Reference4Ideal.nD Cert.Reference4Ideal.τ).loc Cert.Reference4Ideal.main_arg2)) (m' ((c.tc : Thread Cert.Reference4Ideal.nD Cert.Reference4Ideal.τ).loc Cert.Reference4Ideal.main_arg3)) = Cert.Kernel4Ideal.Inproj.linearQueries m c
      rw [a0, a1, a2, a3]
      rfl
    · refine (Cert.Reference4Ideal.Read.val_main_v163_eq _).trans ?_
      obtain ⟨a0, a1, a2, a3, a4, a5, -⟩ := hagree c
      show Cert.Reference4Ideal.Read.val_main_v163 (F := Ideal) (m' ((c.tc : Thread Cert.Reference4Ideal.nD Cert.Reference4Ideal.τ).loc Cert.Reference4Ideal.main_arg0)) (m' ((c.tc : Thread Cert.Reference4Ideal.nD Cert.Reference4Ideal.τ).loc Cert.Reference4Ideal.main_arg1)) (m' ((c.tc : Thread Cert.Reference4Ideal.nD Cert.Reference4Ideal.τ).loc Cert.Reference4Ideal.main_arg2)) (m' ((c.tc : Thread Cert.Reference4Ideal.nD Cert.Reference4Ideal.τ).loc Cert.Reference4Ideal.main_arg3)) = Cert.Kernel4Ideal.Inproj.linearKeys m c
      rw [a0, a1, a2, a3]
      rfl
    · refine (Cert.Reference4Ideal.Read.val_main_v165_eq _).trans ?_
      obtain ⟨a0, a1, a2, a3, a4, a5, -⟩ := hagree c
      show Cert.Reference4Ideal.Read.val_main_v165 (F := Ideal) (m' ((c.tc : Thread Cert.Reference4Ideal.nD Cert.Reference4Ideal.τ).loc Cert.Reference4Ideal.main_arg0)) (m' ((c.tc : Thread Cert.Reference4Ideal.nD Cert.Reference4Ideal.τ).loc Cert.Reference4Ideal.main_arg1)) (m' ((c.tc : Thread Cert.Reference4Ideal.nD Cert.Reference4Ideal.τ).loc Cert.Reference4Ideal.main_arg2)) (m' ((c.tc : Thread Cert.Reference4Ideal.nD Cert.Reference4Ideal.τ).loc Cert.Reference4Ideal.main_arg3)) = Cert.Kernel4Ideal.Inproj.linearValues m c
      rw [a0, a1, a2, a3]
      rfl
    · refine (Cert.Reference4Ideal.Read.val_main_v167_eq _).trans ?_
      obtain ⟨a0, a1, a2, a3, a4, a5, -⟩ := hagree c
      show Cert.Reference4Ideal.Read.val_main_v167 (F := Ideal) (m' ((c.tc : Thread Cert.Reference4Ideal.nD Cert.Reference4Ideal.τ).loc Cert.Reference4Ideal.main_arg0)) (m' ((c.tc : Thread Cert.Reference4Ideal.nD Cert.Reference4Ideal.τ).loc Cert.Reference4Ideal.main_arg1)) (m' ((c.tc : Thread Cert.Reference4Ideal.nD Cert.Reference4Ideal.τ).loc Cert.Reference4Ideal.main_arg2)) (m' ((c.tc : Thread Cert.Reference4Ideal.nD Cert.Reference4Ideal.τ).loc Cert.Reference4Ideal.main_arg3)) = Cert.Kernel4Ideal.Inproj.linearGate m c
      rw [a0, a1, a2, a3]
      rfl

end Cert.Proof.InprojClaim

end
-- ==== Proof.lean ====
module

public import proofs.«01_k».proof.Defs
public import proofs.«01_k».proof.Proof.AttnClaim
public import proofs.«01_k».proof.Proof.FfnClaim
public import proofs.«01_k».proof.Proof.MergeClaim
public import proofs.«01_k».proof.Proof.InprojClaim
public import proofs.«01_k».proof.Proof.Gen.Pre_finite_scores

@[expose] public section

noncomputable section

namespace Cert.Proof

open Idealize.ShloMosaic Idealize.SL.Sem

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts, Cert.Pre_finite_scores.Gen.facts,
  AttnClaim.frameWords, AttnClaim.frameIdeal, AttnClaim.frameIdealPre, AttnClaim.frameRef, AttnClaim.frameRefPre,
  FfnClaim.frameWords, FfnClaim.frameIdeal, FfnClaim.frameRef,
  MergeClaim.frameWords, MergeClaim.frameIdeal, MergeClaim.frameRef,
  InprojClaim.frameWords, InprojClaim.frameIdeal, InprojClaim.frameRef, AttnClaim.kept, AttnClaim.value, trivial, FfnClaim.value,
  trivial, MergeClaim.value, trivial, InprojClaim.value⟩

end Cert.Proof

end
